-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x2048x4096 : Shape := ⟨3, ![8, 2048, 4096]⟩
abbrev S2048x14336 : Shape := ⟨2, ![2048, 14336]⟩
abbrev S32x14336 : Shape := ⟨2, ![32, 14336]⟩
abbrev S128x14336 : Shape := ⟨2, ![128, 14336]⟩
abbrev S4096x64 : Shape := ⟨2, ![4096, 64]⟩
abbrev S64x14336 : Shape := ⟨2, ![64, 14336]⟩
abbrev S_ : Shape := ⟨0, ![]⟩

class Facts : Prop where
  bcast_S_S8x2048x4096 : S_.BroadcastsInDim S8x2048x4096 (![] : Fin 0 → Fin S8x2048x4096.rank)
  bcast_S_S32x14336 : S_.BroadcastsInDim S32x14336 (![] : Fin 0 → Fin S32x14336.rank)
  bcast_S_S128x14336 : S_.BroadcastsInDim S128x14336 (![] : Fin 0 → Fin S128x14336.rank)

variable [Facts]

def fn {F : FTy → Type} [FloatOps F] (main_arg0 : FVec F S8x2048x4096 .bf16) (main_arg1 : IVec S2048x14336 8) (main_arg2 : FVec F S32x14336 .f32) (main_arg3 : IVec S32x14336 8) (main_arg4 : IVec S128x14336 32) (main_arg5 : FVec F S128x14336 .bf16) (main_arg6 : FVec F S4096x64 .bf16) (main_arg7 : FVec F S64x14336 .bf16) : IVec S8x2048x4096 1 × IVec S32x14336 1 × IVec S128x14336 1 :=
  let main_v0 : FVec F S8x2048x4096 .bf16 := Host.absf main_arg0
  let main_cst : FVec F S_ .bf16 := constant S_ .bf16 0x7F80#16
  let main_v1 : FVec F S8x2048x4096 .bf16 := broadcastInDim S8x2048x4096 ![] bcast_S_S8x2048x4096 main_cst
  let main_v2 : IVec S8x2048x4096 1 := cmpf .olt main_v0 main_v1
  let main_v3 : FVec F S32x14336 .f32 := Host.absf main_arg2
  let main_cst_0 : FVec F S_ .f32 := constant S_ .f32 0x7F800000#32
  let main_v4 : FVec F S32x14336 .f32 := broadcastInDim S32x14336 ![] bcast_S_S32x14336 main_cst_0
  let main_v5 : IVec S32x14336 1 := cmpf .olt main_v3 main_v4
  let main_c : IVec S_ 32 := constantI S_ 32 0#32
  let main_v6 : IVec S128x14336 32 := broadcastInDim S128x14336 ![] bcast_S_S128x14336 main_c
  let main_v7 : IVec S128x14336 1 := cmpi .sge main_arg4 main_v6
  (main_v2, main_v5, main_v7)
-- ==== Kernel.lean ====
abbrev S8x2048x4096 : Shape := ⟨3, ![8, 2048, 4096]⟩
abbrev S2048x14336 : Shape := ⟨2, ![2048, 14336]⟩
abbrev S32x14336 : Shape := ⟨2, ![32, 14336]⟩
abbrev S128x14336 : Shape := ⟨2, ![128, 14336]⟩
abbrev S4096x64 : Shape := ⟨2, ![4096, 64]⟩
abbrev S64x14336 : Shape := ⟨2, ![64, 14336]⟩
abbrev S16384x4096 : Shape := ⟨2, ![16384, 4096]⟩
abbrev S4096x14336 : Shape := ⟨2, ![4096, 14336]⟩
abbrev S2048x128 : Shape := ⟨2, ![2048, 128]⟩
abbrev S32x128 : Shape := ⟨2, ![32, 128]⟩
abbrev S128x128 : Shape := ⟨2, ![128, 128]⟩
abbrev S4096x128 : Shape := ⟨2, ![4096, 128]⟩
abbrev S64x128 : Shape := ⟨2, ![64, 128]⟩
abbrev S1x128 : Shape := ⟨2, ![1, 128]⟩
abbrev S1x128x128 : Shape := ⟨3, ![1, 128, 128]⟩
abbrev S1 : Shape := ⟨1, ![1]⟩
abbrev S1x1x1 : Shape := ⟨3, ![1, 1, 1]⟩
abbrev S16384x64 : Shape := ⟨2, ![16384, 64]⟩
abbrev S1024x4096 : Shape := ⟨2, ![1024, 4096]⟩
abbrev S1024x64 : Shape := ⟨2, ![1024, 64]⟩
abbrev S16384x14336 : Shape := ⟨2, ![16384, 14336]⟩
abbrev S4096x1024 : Shape := ⟨2, ![4096, 1024]⟩
abbrev S64x1024 : Shape := ⟨2, ![64, 1024]⟩
abbrev S1024x1024 : Shape := ⟨2, ![1024, 1024]⟩
abbrev S8x2048x14336 : Shape := ⟨3, ![8, 2048, 14336]⟩

abbrev nBuf : Space → Nat
  | .hbm => 14
  | .vmem => 27
  | .smem => 0
  | _ => 0

abbrev bufTy : (tb : Table) → Fin (tcTables nBuf tb) → BufTy
  | .hbm, ⟨0, _⟩ => ⟨S8x2048x4096, .bf16⟩
  | .hbm, ⟨1, _⟩ => ⟨S2048x14336, .i8⟩
  | .hbm, ⟨2, _⟩ => ⟨S32x14336, .f32⟩
  | .hbm, ⟨3, _⟩ => ⟨S32x14336, .i8⟩
  | .hbm, ⟨4, _⟩ => ⟨S128x14336, .i32⟩
  | .hbm, ⟨5, _⟩ => ⟨S128x14336, .bf16⟩
  | .hbm, ⟨6, _⟩ => ⟨S4096x64, .bf16⟩
  | .hbm, ⟨7, _⟩ => ⟨S64x14336, .bf16⟩
  | .hbm, ⟨8, _⟩ => ⟨S16384x4096, .bf16⟩
  | .hbm, ⟨9, _⟩ => ⟨S128x14336, .f32⟩
  | .hbm, ⟨10, _⟩ => ⟨S4096x14336, .bf16⟩
  | .hbm, ⟨11, _⟩ => ⟨S16384x64, .bf16⟩
  | .hbm, ⟨12, _⟩ => ⟨S16384x14336, .bf16⟩
  | .hbm, ⟨13, _⟩ => ⟨S8x2048x14336, .bf16⟩
  | .local _ .vmem, ⟨0, _⟩ => ⟨S2048x128, .i8⟩
  | .local _ .vmem, ⟨1, _⟩ => ⟨S2048x128, .i8⟩
  | .local _ .vmem, ⟨2, _⟩ => ⟨S32x128, .f32⟩
  | .local _ .vmem, ⟨3, _⟩ => ⟨S32x128, .f32⟩
  | .local _ .vmem, ⟨4, _⟩ => ⟨S32x128, .i8⟩
  | .local _ .vmem, ⟨5, _⟩ => ⟨S32x128, .i8⟩
  | .local _ .vmem, ⟨6, _⟩ => ⟨S128x128, .i32⟩
  | .local _ .vmem, ⟨7, _⟩ => ⟨S128x128, .i32⟩
  | .local _ .vmem, ⟨8, _⟩ => ⟨S128x128, .f32⟩
  | .local _ .vmem, ⟨9, _⟩ => ⟨S128x128, .f32⟩
  | .local _ .vmem, ⟨10, _⟩ => ⟨S4096x128, .bf16⟩
  | .local _ .vmem, ⟨11, _⟩ => ⟨S4096x128, .bf16⟩
  | .local _ .vmem, ⟨12, _⟩ => ⟨S1024x4096, .bf16⟩
  | .local _ .vmem, ⟨13, _⟩ => ⟨S1024x4096, .bf16⟩
  | .local _ .vmem, ⟨14, _⟩ => ⟨S4096x64, .bf16⟩
  | .local _ .vmem, ⟨15, _⟩ => ⟨S1024x64, .bf16⟩
  | .local _ .vmem, ⟨16, _⟩ => ⟨S1024x64, .bf16⟩
  | .local _ .vmem, ⟨17, _⟩ => ⟨S1024x4096, .bf16⟩
  | .local _ .vmem, ⟨18, _⟩ => ⟨S1024x4096, .bf16⟩
  | .local _ .vmem, ⟨19, _⟩ => ⟨S4096x1024, .bf16⟩
  | .local _ .vmem, ⟨20, _⟩ => ⟨S4096x1024, .bf16⟩
  | .local _ .vmem, ⟨21, _⟩ => ⟨S1024x64, .bf16⟩
  | .local _ .vmem, ⟨22, _⟩ => ⟨S1024x64, .bf16⟩
  | .local _ .vmem, ⟨23, _⟩ => ⟨S64x1024, .bf16⟩
  | .local _ .vmem, ⟨24, _⟩ => ⟨S64x1024, .bf16⟩
  | .local _ .vmem, ⟨25, _⟩ => ⟨S1024x1024, .bf16⟩
  | .local _ .vmem, ⟨26, _⟩ => ⟨S1024x1024, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![112], ![false]⟩

@[reducible] def k0_t1_loop (v36 : BitVec 32) (v44 : BitVec 32) : Scf.Loop 32 :=
  let c1_i32 : BitVec 32 := 1#32
  let v45 : BitVec 32 := Scalar.addi v44 c1_i32
  let v47 : BitVec 32 := Scalar.subi v45 v36
  let c1_i32_11 : BitVec 32 := 1#32
  let v49 : BitVec 32 := Scalar.divsi v47 c1_i32_11
  let v50 : BitVec 32 := Scalar.muli v49 c1_i32_11
  let v51 : BitVec 32 := Scalar.addi v36 v50
  let c1_i32_12 : BitVec 32 := 1#32
  ⟨v36, v51, c1_i32_12⟩

def k0_off1 (v36 : BitVec 32) (v44 : BitVec 32) (k0_t1 : Fin (k0_t1_loop v36 v44).trips) : Fin 2 → Nat :=
  let c1_i32_12 : BitVec 32 := 1#32
  let arg7 : BitVec 32 := Scf.iv v36 c1_i32_12 k0_t1
  let v1577 : Index := Scalar.indexCast arg7
  let c0_558 : Index := 0#32
  ![v1577.toNat, 0]
@[reducible] def k0_t2_loop (v36 : BitVec 32) (v44 : BitVec 32) : Scf.Loop 32 :=
  let c1_i32 : BitVec 32 := 1#32
  let v45 : BitVec 32 := Scalar.addi v44 c1_i32
  let v47 : BitVec 32 := Scalar.subi v45 v36
  let c1_i32_11 : BitVec 32 := 1#32
  let v49 : BitVec 32 := Scalar.divsi v47 c1_i32_11
  let v50 : BitVec 32 := Scalar.muli v49 c1_i32_11
  let v51 : BitVec 32 := Scalar.addi v36 v50
  let v48 : BitVec 32 := Scalar.addi v36 v47
  let c1_i32_13 : BitVec 32 := 1#32
  ⟨v51, v48, c1_i32_13⟩
def k0_off2 (v36 : BitVec 32) (v44 : BitVec 32) (k0_t2 : Fin (k0_t2_loop v36 v44).trips) : Fin 2 → Nat :=
  let c1_i32 : BitVec 32 := 1#32
  let v45 : BitVec 32 := Scalar.addi v44 c1_i32
  let v47 : BitVec 32 := Scalar.subi v45 v36
  let c1_i32_11 : BitVec 32 := 1#32
  let v49 : BitVec 32 := Scalar.divsi v47 c1_i32_11
  let v50 : BitVec 32 := Scalar.muli v49 c1_i32_11
  let v51 : BitVec 32 := Scalar.addi v36 v50
  let c1_i32_13 : BitVec 32 := 1#32
  let arg7 : BitVec 32 := Scf.iv v51 c1_i32_13 k0_t2
  let v1577 : Index := Scalar.indexCast arg7
  let c0_558 : Index := 0#32
  ![v1577.toNat, 0]

def k0_chk1 (v36 : BitVec 32) (v44 : BitVec 32) : Prop :=
  ((k0_t1_loop v36 v44).OK) ∧
  (∀ k0_t1 : Fin (k0_t1_loop v36 v44).trips, ∀ a, (k0_off1 v36 v44 k0_t1) a + S1x128.size a ≤ S128x128.size a) ∧
  ((k0_t2_loop v36 v44).OK) ∧
  (∀ k0_t2 : Fin (k0_t2_loop v36 v44).trips, ∀ a, (k0_off2 v36 v44 k0_t2) a + S1x128.size a ≤ S128x128.size a)
theorem k0_t1_ok : ∀ (v36 : BitVec 32) (v44 : BitVec 32) (k0_hw1 : k0_chk1 v36 v44), (k0_t1_loop v36 v44).OK := fun v36 v44 k0_hw1 => k0_hw1.1
theorem k0_off1_inb : ∀ (v36 : BitVec 32) (v44 : BitVec 32) (k0_hw1 : k0_chk1 v36 v44) (k0_t1 : Fin (k0_t1_loop v36 v44).trips), ∀ a, (k0_off1 v36 v44 k0_t1) a + S1x128.size a ≤ S128x128.size a := fun v36 v44 k0_hw1 k0_t1 => k0_hw1.2.1 k0_t1
theorem k0_t2_ok : ∀ (v36 : BitVec 32) (v44 : BitVec 32) (k0_hw1 : k0_chk1 v36 v44), (k0_t2_loop v36 v44).OK := fun v36 v44 k0_hw1 => k0_hw1.2.2.1
theorem k0_off2_inb : ∀ (v36 : BitVec 32) (v44 : BitVec 32) (k0_hw1 : k0_chk1 v36 v44) (k0_t2 : Fin (k0_t2_loop v36 v44).trips), ∀ a, (k0_off2 v36 v44 k0_t2) a + S1x128.size a ≤ S128x128.size a := fun v36 v44 k0_hw1 k0_t2 => k0_hw1.2.2.2 k0_t2

@[reducible] def k0_t3_loop (v85 : BitVec 32) (v93 : BitVec 32) : Scf.Loop 32 :=
  let c1_i32_27 : BitVec 32 := 1#32
  let v94 : BitVec 32 := Scalar.addi v93 c1_i32_27
  let v96 : BitVec 32 := Scalar.subi v94 v85
  let c1_i32_29 : BitVec 32 := 1#32
  let v98 : BitVec 32 := Scalar.divsi v96 c1_i32_29
  let v99 : BitVec 32 := Scalar.muli v98 c1_i32_29
  let v100 : BitVec 32 := Scalar.addi v85 v99
  let c1_i32_30 : BitVec 32 := 1#32
  ⟨v85, v100, c1_i32_30⟩

def k0_off3 (v85 : BitVec 32) (v93 : BitVec 32) (k0_t3 : Fin (k0_t3_loop v85 v93).trips) : Fin 2 → Nat :=
  let c1_i32_30 : BitVec 32 := 1#32
  let arg7 : BitVec 32 := Scf.iv v85 c1_i32_30 k0_t3
  let v1577 : Index := Scalar.indexCast arg7
  let c0_558 : Index := 0#32
  ![v1577.toNat, 0]
@[reducible] def k0_t4_loop (v85 : BitVec 32) (v93 : BitVec 32) : Scf.Loop 32 :=
  let c1_i32_27 : BitVec 32 := 1#32
  let v94 : BitVec 32 := Scalar.addi v93 c1_i32_27
  let v96 : BitVec 32 := Scalar.subi v94 v85
  let c1_i32_29 : BitVec 32 := 1#32
  let v98 : BitVec 32 := Scalar.divsi v96 c1_i32_29
  let v99 : BitVec 32 := Scalar.muli v98 c1_i32_29
  let v100 : BitVec 32 := Scalar.addi v85 v99
  let v97 : BitVec 32 := Scalar.addi v85 v96
  let c1_i32_31 : BitVec 32 := 1#32
  ⟨v100, v97, c1_i32_31⟩
def k0_off4 (v85 : BitVec 32) (v93 : BitVec 32) (k0_t4 : Fin (k0_t4_loop v85 v93).trips) : Fin 2 → Nat :=
  let c1_i32_27 : BitVec 32 := 1#32
  let v94 : BitVec 32 := Scalar.addi v93 c1_i32_27
  let v96 : BitVec 32 := Scalar.subi v94 v85
  let c1_i32_29 : BitVec 32 := 1#32
  let v98 : BitVec 32 := Scalar.divsi v96 c1_i32_29
  let v99 : BitVec 32 := Scalar.muli v98 c1_i32_29
  let v100 : BitVec 32 := Scalar.addi v85 v99
  let c1_i32_31 : BitVec 32 := 1#32
  let arg7 : BitVec 32 := Scf.iv v100 c1_i32_31 k0_t4
  let v1577 : Index := Scalar.indexCast arg7
  let c0_558 : Index := 0#32
  ![v1577.toNat, 0]

def k0_chk2 (v85 : BitVec 32) (v93 : BitVec 32) : Prop :=
  ((k0_t3_loop v85 v93).OK) ∧
  (∀ k0_t3 : Fin (k0_t3_loop v85 v93).trips, ∀ a, (k0_off3 v85 v93 k0_t3) a + S1x128.size a ≤ S128x128.size a) ∧
  ((k0_t4_loop v85 v93).OK) ∧
  (∀ k0_t4 : Fin (k0_t4_loop v85 v93).trips, ∀ a, (k0_off4 v85 v93 k0_t4) a + S1x128.size a ≤ S128x128.size a)
theorem k0_t3_ok : ∀ (v85 : BitVec 32) (v93 : BitVec 32) (k0_hw2 : k0_chk2 v85 v93), (k0_t3_loop v85 v93).OK := fun v85 v93 k0_hw2 => k0_hw2.1
theorem k0_off3_inb : ∀ (v85 : BitVec 32) (v93 : BitVec 32) (k0_hw2 : k0_chk2 v85 v93) (k0_t3 : Fin (k0_t3_loop v85 v93).trips), ∀ a, (k0_off3 v85 v93 k0_t3) a + S1x128.size a ≤ S128x128.size a := fun v85 v93 k0_hw2 k0_t3 => k0_hw2.2.1 k0_t3
theorem k0_t4_ok : ∀ (v85 : BitVec 32) (v93 : BitVec 32) (k0_hw2 : k0_chk2 v85 v93), (k0_t4_loop v85 v93).OK := fun v85 v93 k0_hw2 => k0_hw2.2.2.1
theorem k0_off4_inb : ∀ (v85 : BitVec 32) (v93 : BitVec 32) (k0_hw2 : k0_chk2 v85 v93) (k0_t4 : Fin (k0_t4_loop v85 v93).trips), ∀ a, (k0_off4 v85 v93 k0_t4) a + S1x128.size a ≤ S128x128.size a := fun v85 v93 k0_hw2 k0_t4 => k0_hw2.2.2.2 k0_t4

@[reducible] def k0_t5_loop (v134 : BitVec 32) (v142 : BitVec 32) : Scf.Loop 32 :=
  let c1_i32_45 : BitVec 32 := 1#32
  let v143 : BitVec 32 := Scalar.addi v142 c1_i32_45
  let v145 : BitVec 32 := Scalar.subi v143 v134
  let c1_i32_47 : BitVec 32 := 1#32
  let v147 : BitVec 32 := Scalar.divsi v145 c1_i32_47
  let v148 : BitVec 32 := Scalar.muli v147 c1_i32_47
  let v149 : BitVec 32 := Scalar.addi v134 v148
  let c1_i32_48 : BitVec 32 := 1#32
  ⟨v134, v149, c1_i32_48⟩

def k0_off5 (v134 : BitVec 32) (v142 : BitVec 32) (k0_t5 : Fin (k0_t5_loop v134 v142).trips) : Fin 2 → Nat :=
  let c1_i32_48 : BitVec 32 := 1#32
  let arg7 : BitVec 32 := Scf.iv v134 c1_i32_48 k0_t5
  let v1577 : Index := Scalar.indexCast arg7
  let c0_558 : Index := 0#32
  ![v1577.toNat, 0]
@[reducible] def k0_t6_loop (v134 : BitVec 32) (v142 : BitVec 32) : Scf.Loop 32 :=
  let c1_i32_45 : BitVec 32 := 1#32
  let v143 : BitVec 32 := Scalar.addi v142 c1_i32_45
  let v145 : BitVec 32 := Scalar.subi v143 v134
  let c1_i32_47 : BitVec 32 := 1#32
  let v147 : BitVec 32 := Scalar.divsi v145 c1_i32_47
  let v148 : BitVec 32 := Scalar.muli v147 c1_i32_47
  let v149 : BitVec 32 := Scalar.addi v134 v148
  let v146 : BitVec 32 := Scalar.addi v134 v145
  let c1_i32_49 : BitVec 32 := 1#32
  ⟨v149, v146, c1_i32_49⟩
def k0_off6 (v134 : BitVec 32) (v142 : BitVec 32) (k0_t6 : Fin (k0_t6_loop v134 v142).trips) : Fin 2 → Nat :=
  let c1_i32_45 : BitVec 32 := 1#32
  let v143 : BitVec 32 := Scalar.addi v142 c1_i32_45
  let v145 : BitVec 32 := Scalar.subi v143 v134
  let c1_i32_47 : BitVec 32 := 1#32
  let v147 : BitVec 32 := Scalar.divsi v145 c1_i32_47
  let v148 : BitVec 32 := Scalar.muli v147 c1_i32_47
  let v149 : BitVec 32 := Scalar.addi v134 v148
  let c1_i32_49 : BitVec 32 := 1#32
  let arg7 : BitVec 32 := Scf.iv v149 c1_i32_49 k0_t6
  let v1577 : Index := Scalar.indexCast arg7
  let c0_558 : Index := 0#32
  ![v1577.toNat, 0]

def k0_chk3 (v134 : BitVec 32) (v142 : BitVec 32) : Prop :=
  ((k0_t5_loop v134 v142).OK) ∧
  (∀ k0_t5 : Fin (k0_t5_loop v134 v142).trips, ∀ a, (k0_off5 v134 v142 k0_t5) a + S1x128.size a ≤ S128x128.size a) ∧
  ((k0_t6_loop v134 v142).OK) ∧
  (∀ k0_t6 : Fin (k0_t6_loop v134 v142).trips, ∀ a, (k0_off6 v134 v142 k0_t6) a + S1x128.size a ≤ S128x128.size a)
theorem k0_t5_ok : ∀ (v134 : BitVec 32) (v142 : BitVec 32) (k0_hw3 : k0_chk3 v134 v142), (k0_t5_loop v134 v142).OK := fun v134 v142 k0_hw3 => k0_hw3.1
theorem k0_off5_inb : ∀ (v134 : BitVec 32) (v142 : BitVec 32) (k0_hw3 : k0_chk3 v134 v142) (k0_t5 : Fin (k0_t5_loop v134 v142).trips), ∀ a, (k0_off5 v134 v142 k0_t5) a + S1x128.size a ≤ S128x128.size a := fun v134 v142 k0_hw3 k0_t5 => k0_hw3.2.1 k0_t5
theorem k0_t6_ok : ∀ (v134 : BitVec 32) (v142 : BitVec 32) (k0_hw3 : k0_chk3 v134 v142), (k0_t6_loop v134 v142).OK := fun v134 v142 k0_hw3 => k0_hw3.2.2.1
theorem k0_off6_inb : ∀ (v134 : BitVec 32) (v142 : BitVec 32) (k0_hw3 : k0_chk3 v134 v142) (k0_t6 : Fin (k0_t6_loop v134 v142).trips), ∀ a, (k0_off6 v134 v142 k0_t6) a + S1x128.size a ≤ S128x128.size a := fun v134 v142 k0_hw3 k0_t6 => k0_hw3.2.2.2 k0_t6

@[reducible] def k0_t7_loop (v183 : BitVec 32) (v191 : BitVec 32) : Scf.Loop 32 :=
  let c1_i32_62 : BitVec 32 := 1#32
  let v192 : BitVec 32 := Scalar.addi v191 c1_i32_62
  let v194 : BitVec 32 := Scalar.subi v192 v183
  let c1_i32_64 : BitVec 32 := 1#32
  let v196 : BitVec 32 := Scalar.divsi v194 c1_i32_64
  let v197 : BitVec 32 := Scalar.muli v196 c1_i32_64
  let v198 : BitVec 32 := Scalar.addi v183 v197
  let c1_i32_65 : BitVec 32 := 1#32
  ⟨v183, v198, c1_i32_65⟩

def k0_off7 (v183 : BitVec 32) (v191 : BitVec 32) (k0_t7 : Fin (k0_t7_loop v183 v191).trips) : Fin 2 → Nat :=
  let c1_i32_65 : BitVec 32 := 1#32
  let arg7 : BitVec 32 := Scf.iv v183 c1_i32_65 k0_t7
  let v1577 : Index := Scalar.indexCast arg7
  let c0_558 : Index := 0#32
  ![v1577.toNat, 0]
@[reducible] def k0_t8_loop (v183 : BitVec 32) (v191 : BitVec 32) : Scf.Loop 32 :=
  let c1_i32_62 : BitVec 32 := 1#32
  let v192 : BitVec 32 := Scalar.addi v191 c1_i32_62
  let v194 : BitVec 32 := Scalar.subi v192 v183
  let c1_i32_64 : BitVec 32 := 1#32
  let v196 : BitVec 32 := Scalar.divsi v194 c1_i32_64
  let v197 : BitVec 32 := Scalar.muli v196 c1_i32_64
  let v198 : BitVec 32 := Scalar.addi v183 v197
  let v195 : BitVec 32 := Scalar.addi v183 v194
  let c1_i32_66 : BitVec 32 := 1#32
  ⟨v198, v195, c1_i32_66⟩
def k0_off8 (v183 : BitVec 32) (v191 : BitVec 32) (k0_t8 : Fin (k0_t8_loop v183 v191).trips) : Fin 2 → Nat :=
  let c1_i32_62 : BitVec 32 := 1#32
  let v192 : BitVec 32 := Scalar.addi v191 c1_i32_62
  let v194 : BitVec 32 := Scalar.subi v192 v183
  let c1_i32_64 : BitVec 32 := 1#32
  let v196 : BitVec 32 := Scalar.divsi v194 c1_i32_64
  let v197 : BitVec 32 := Scalar.muli v196 c1_i32_64
  let v198 : BitVec 32 := Scalar.addi v183 v197
  let c1_i32_66 : BitVec 32 := 1#32
  let arg7 : BitVec 32 := Scf.iv v198 c1_i32_66 k0_t8
  let v1577 : Index := Scalar.indexCast arg7
  let c0_558 : Index := 0#32
  ![v1577.toNat, 0]

def k0_chk4 (v183 : BitVec 32) (v191 : BitVec 32) : Prop :=
  ((k0_t7_loop v183 v191).OK) ∧
  (∀ k0_t7 : Fin (k0_t7_loop v183 v191).trips, ∀ a, (k0_off7 v183 v191 k0_t7) a + S1x128.size a ≤ S128x128.size a) ∧
  ((k0_t8_loop v183 v191).OK) ∧
  (∀ k0_t8 : Fin (k0_t8_loop v183 v191).trips, ∀ a, (k0_off8 v183 v191 k0_t8) a + S1x128.size a ≤ S128x128.size a)
theorem k0_t7_ok : ∀ (v183 : BitVec 32) (v191 : BitVec 32) (k0_hw4 : k0_chk4 v183 v191), (k0_t7_loop v183 v191).OK := fun v183 v191 k0_hw4 => k0_hw4.1
theorem k0_off7_inb : ∀ (v183 : BitVec 32) (v191 : BitVec 32) (k0_hw4 : k0_chk4 v183 v191) (k0_t7 : Fin (k0_t7_loop v183 v191).trips), ∀ a, (k0_off7 v183 v191 k0_t7) a + S1x128.size a ≤ S128x128.size a := fun v183 v191 k0_hw4 k0_t7 => k0_hw4.2.1 k0_t7
theorem k0_t8_ok : ∀ (v183 : BitVec 32) (v191 : BitVec 32) (k0_hw4 : k0_chk4 v183 v191), (k0_t8_loop v183 v191).OK := fun v183 v191 k0_hw4 => k0_hw4.2.2.1
theorem k0_off8_inb : ∀ (v183 : BitVec 32) (v191 : BitVec 32) (k0_hw4 : k0_chk4 v183 v191) (k0_t8 : Fin (k0_t8_loop v183 v191).trips), ∀ a, (k0_off8 v183 v191 k0_t8) a + S1x128.size a ≤ S128x128.size a := fun v183 v191 k0_hw4 k0_t8 => k0_hw4.2.2.2 k0_t8

@[reducible] def k0_t9_loop (v232 : BitVec 32) (v240 : BitVec 32) : Scf.Loop 32 :=
  let c1_i32_80 : BitVec 32 := 1#32
  let v241 : BitVec 32 := Scalar.addi v240 c1_i32_80
  let v243 : BitVec 32 := Scalar.subi v241 v232
  let c1_i32_82 : BitVec 32 := 1#32
  let v245 : BitVec 32 := Scalar.divsi v243 c1_i32_82
  let v246 : BitVec 32 := Scalar.muli v245 c1_i32_82
  let v247 : BitVec 32 := Scalar.addi v232 v246
  let c1_i32_83 : BitVec 32 := 1#32
  ⟨v232, v247, c1_i32_83⟩

def k0_off9 (v232 : BitVec 32) (v240 : BitVec 32) (k0_t9 : Fin (k0_t9_loop v232 v240).trips) : Fin 2 → Nat :=
  let c1_i32_83 : BitVec 32 := 1#32
  let arg7 : BitVec 32 := Scf.iv v232 c1_i32_83 k0_t9
  let v1577 : Index := Scalar.indexCast arg7
  let c0_558 : Index := 0#32
  ![v1577.toNat, 0]
@[reducible] def k0_t10_loop (v232 : BitVec 32) (v240 : BitVec 32) : Scf.Loop 32 :=
  let c1_i32_80 : BitVec 32 := 1#32
  let v241 : BitVec 32 := Scalar.addi v240 c1_i32_80
  let v243 : BitVec 32 := Scalar.subi v241 v232
  let c1_i32_82 : BitVec 32 := 1#32
  let v245 : BitVec 32 := Scalar.divsi v243 c1_i32_82
  let v246 : BitVec 32 := Scalar.muli v245 c1_i32_82
  let v247 : BitVec 32 := Scalar.addi v232 v246
  let v244 : BitVec 32 := Scalar.addi v232 v243
  let c1_i32_84 : BitVec 32 := 1#32
  ⟨v247, v244, c1_i32_84⟩
def k0_off10 (v232 : BitVec 32) (v240 : BitVec 32) (k0_t10 : Fin (k0_t10_loop v232 v240).trips) : Fin 2 → Nat :=
  let c1_i32_80 : BitVec 32 := 1#32
  let v241 : BitVec 32 := Scalar.addi v240 c1_i32_80
  let v243 : BitVec 32 := Scalar.subi v241 v232
  let c1_i32_82 : BitVec 32 := 1#32
  let v245 : BitVec 32 := Scalar.divsi v243 c1_i32_82
  let v246 : BitVec 32 := Scalar.muli v245 c1_i32_82
  let v247 : BitVec 32 := Scalar.addi v232 v246
  let c1_i32_84 : BitVec 32 := 1#32
  let arg7 : BitVec 32 := Scf.iv v247 c1_i32_84 k0_t10
  let v1577 : Index := Scalar.indexCast arg7
  let c0_558 : Index := 0#32
  ![v1577.toNat, 0]

def k0_chk5 (v232 : BitVec 32) (v240 : BitVec 32) : Prop :=
  ((k0_t9_loop v232 v240).OK) ∧
  (∀ k0_t9 : Fin (k0_t9_loop v232 v240).trips, ∀ a, (k0_off9 v232 v240 k0_t9) a + S1x128.size a ≤ S128x128.size a) ∧
  ((k0_t10_loop v232 v240).OK) ∧
  (∀ k0_t10 : Fin (k0_t10_loop v232 v240).trips, ∀ a, (k0_off10 v232 v240 k0_t10) a + S1x128.size a ≤ S128x128.size a)
theorem k0_t9_ok : ∀ (v232 : BitVec 32) (v240 : BitVec 32) (k0_hw5 : k0_chk5 v232 v240), (k0_t9_loop v232 v240).OK := fun v232 v240 k0_hw5 => k0_hw5.1
theorem k0_off9_inb : ∀ (v232 : BitVec 32) (v240 : BitVec 32) (k0_hw5 : k0_chk5 v232 v240) (k0_t9 : Fin (k0_t9_loop v232 v240).trips), ∀ a, (k0_off9 v232 v240 k0_t9) a + S1x128.size a ≤ S128x128.size a := fun v232 v240 k0_hw5 k0_t9 => k0_hw5.2.1 k0_t9
theorem k0_t10_ok : ∀ (v232 : BitVec 32) (v240 : BitVec 32) (k0_hw5 : k0_chk5 v232 v240), (k0_t10_loop v232 v240).OK := fun v232 v240 k0_hw5 => k0_hw5.2.2.1
theorem k0_off10_inb : ∀ (v232 : BitVec 32) (v240 : BitVec 32) (k0_hw5 : k0_chk5 v232 v240) (k0_t10 : Fin (k0_t10_loop v232 v240).trips), ∀ a, (k0_off10 v232 v240 k0_t10) a + S1x128.size a ≤ S128x128.size a := fun v232 v240 k0_hw5 k0_t10 => k0_hw5.2.2.2 k0_t10

@[reducible] def k0_t11_loop (v281 : BitVec 32) (v289 : BitVec 32) : Scf.Loop 32 :=
  let c1_i32_97 : BitVec 32 := 1#32
  let v290 : BitVec 32 := Scalar.addi v289 c1_i32_97
  let v292 : BitVec 32 := Scalar.subi v290 v281
  let c1_i32_99 : BitVec 32 := 1#32
  let v294 : BitVec 32 := Scalar.divsi v292 c1_i32_99
  let v295 : BitVec 32 := Scalar.muli v294 c1_i32_99
  let v296 : BitVec 32 := Scalar.addi v281 v295
  let c1_i32_100 : BitVec 32 := 1#32
  ⟨v281, v296, c1_i32_100⟩

def k0_off11 (v281 : BitVec 32) (v289 : BitVec 32) (k0_t11 : Fin (k0_t11_loop v281 v289).trips) : Fin 2 → Nat :=
  let c1_i32_100 : BitVec 32 := 1#32
  let arg7 : BitVec 32 := Scf.iv v281 c1_i32_100 k0_t11
  let v1577 : Index := Scalar.indexCast arg7
  let c0_558 : Index := 0#32
  ![v1577.toNat, 0]
@[reducible] def k0_t12_loop (v281 : BitVec 32) (v289 : BitVec 32) : Scf.Loop 32 :=
  let c1_i32_97 : BitVec 32 := 1#32
  let v290 : BitVec 32 := Scalar.addi v289 c1_i32_97
  let v292 : BitVec 32 := Scalar.subi v290 v281
  let c1_i32_99 : BitVec 32 := 1#32
  let v294 : BitVec 32 := Scalar.divsi v292 c1_i32_99
  let v295 : BitVec 32 := Scalar.muli v294 c1_i32_99
  let v296 : BitVec 32 := Scalar.addi v281 v295
  let v293 : BitVec 32 := Scalar.addi v281 v292
  let c1_i32_101 : BitVec 32 := 1#32
  ⟨v296, v293, c1_i32_101⟩
def k0_off12 (v281 : BitVec 32) (v289 : BitVec 32) (k0_t12 : Fin (k0_t12_loop v281 v289).trips) : Fin 2 → Nat :=
  let c1_i32_97 : BitVec 32 := 1#32
  let v290 : BitVec 32 := Scalar.addi v289 c1_i32_97
  let v292 : BitVec 32 := Scalar.subi v290 v281
  let c1_i32_99 : BitVec 32 := 1#32
  let v294 : BitVec 32 := Scalar.divsi v292 c1_i32_99
  let v295 : BitVec 32 := Scalar.muli v294 c1_i32_99
  let v296 : BitVec 32 := Scalar.addi v281 v295
  let c1_i32_101 : BitVec 32 := 1#32
  let arg7 : BitVec 32 := Scf.iv v296 c1_i32_101 k0_t12
  let v1577 : Index := Scalar.indexCast arg7
  let c0_558 : Index := 0#32
  ![v1577.toNat, 0]

def k0_chk6 (v281 : BitVec 32) (v289 : BitVec 32) : Prop :=
  ((k0_t11_loop v281 v289).OK) ∧
  (∀ k0_t11 : Fin (k0_t11_loop v281 v289).trips, ∀ a, (k0_off11 v281 v289 k0_t11) a + S1x128.size a ≤ S128x128.size a) ∧
  ((k0_t12_loop v281 v289).OK) ∧
  (∀ k0_t12 : Fin (k0_t12_loop v281 v289).trips, ∀ a, (k0_off12 v281 v289 k0_t12) a + S1x128.size a ≤ S128x128.size a)
theorem k0_t11_ok : ∀ (v281 : BitVec 32) (v289 : BitVec 32) (k0_hw6 : k0_chk6 v281 v289), (k0_t11_loop v281 v289).OK := fun v281 v289 k0_hw6 => k0_hw6.1
theorem k0_off11_inb : ∀ (v281 : BitVec 32) (v289 : BitVec 32) (k0_hw6 : k0_chk6 v281 v289) (k0_t11 : Fin (k0_t11_loop v281 v289).trips), ∀ a, (k0_off11 v281 v289 k0_t11) a + S1x128.size a ≤ S128x128.size a := fun v281 v289 k0_hw6 k0_t11 => k0_hw6.2.1 k0_t11
theorem k0_t12_ok : ∀ (v281 : BitVec 32) (v289 : BitVec 32) (k0_hw6 : k0_chk6 v281 v289), (k0_t12_loop v281 v289).OK := fun v281 v289 k0_hw6 => k0_hw6.2.2.1
theorem k0_off12_inb : ∀ (v281 : BitVec 32) (v289 : BitVec 32) (k0_hw6 : k0_chk6 v281 v289) (k0_t12 : Fin (k0_t12_loop v281 v289).trips), ∀ a, (k0_off12 v281 v289 k0_t12) a + S1x128.size a ≤ S128x128.size a := fun v281 v289 k0_hw6 k0_t12 => k0_hw6.2.2.2 k0_t12

@[reducible] def k0_t13_loop (v330 : BitVec 32) (v338 : BitVec 32) : Scf.Loop 32 :=
  let c1_i32_115 : BitVec 32 := 1#32
  let v339 : BitVec 32 := Scalar.addi v338 c1_i32_115
  let v341 : BitVec 32 := Scalar.subi v339 v330
  let c1_i32_117 : BitVec 32 := 1#32
  let v343 : BitVec 32 := Scalar.divsi v341 c1_i32_117
  let v344 : BitVec 32 := Scalar.muli v343 c1_i32_117
  let v345 : BitVec 32 := Scalar.addi v330 v344
  let c1_i32_118 : BitVec 32 := 1#32
  ⟨v330, v345, c1_i32_118⟩

def k0_off13 (v330 : BitVec 32) (v338 : BitVec 32) (k0_t13 : Fin (k0_t13_loop v330 v338).trips) : Fin 2 → Nat :=
  let c1_i32_118 : BitVec 32 := 1#32
  let arg7 : BitVec 32 := Scf.iv v330 c1_i32_118 k0_t13
  let v1577 : Index := Scalar.indexCast arg7
  let c0_558 : Index := 0#32
  ![v1577.toNat, 0]
@[reducible] def k0_t14_loop (v330 : BitVec 32) (v338 : BitVec 32) : Scf.Loop 32 :=
  let c1_i32_115 : BitVec 32 := 1#32
  let v339 : BitVec 32 := Scalar.addi v338 c1_i32_115
  let v341 : BitVec 32 := Scalar.subi v339 v330
  let c1_i32_117 : BitVec 32 := 1#32
  let v343 : BitVec 32 := Scalar.divsi v341 c1_i32_117
  let v344 : BitVec 32 := Scalar.muli v343 c1_i32_117
  let v345 : BitVec 32 := Scalar.addi v330 v344
  let v342 : BitVec 32 := Scalar.addi v330 v341
  let c1_i32_119 : BitVec 32 := 1#32
  ⟨v345, v342, c1_i32_119⟩
def k0_off14 (v330 : BitVec 32) (v338 : BitVec 32) (k0_t14 : Fin (k0_t14_loop v330 v338).trips) : Fin 2 → Nat :=
  let c1_i32_115 : BitVec 32 := 1#32
  let v339 : BitVec 32 := Scalar.addi v338 c1_i32_115
  let v341 : BitVec 32 := Scalar.subi v339 v330
  let c1_i32_117 : BitVec 32 := 1#32
  let v343 : BitVec 32 := Scalar.divsi v341 c1_i32_117
  let v344 : BitVec 32 := Scalar.muli v343 c1_i32_117
  let v345 : BitVec 32 := Scalar.addi v330 v344
  let c1_i32_119 : BitVec 32 := 1#32
  let arg7 : BitVec 32 := Scf.iv v345 c1_i32_119 k0_t14
  let v1577 : Index := Scalar.indexCast arg7
  let c0_558 : Index := 0#32
  ![v1577.toNat, 0]

def k0_chk7 (v330 : BitVec 32) (v338 : BitVec 32) : Prop :=
  ((k0_t13_loop v330 v338).OK) ∧
  (∀ k0_t13 : Fin (k0_t13_loop v330 v338).trips, ∀ a, (k0_off13 v330 v338 k0_t13) a + S1x128.size a ≤ S128x128.size a) ∧
  ((k0_t14_loop v330 v338).OK) ∧
  (∀ k0_t14 : Fin (k0_t14_loop v330 v338).trips, ∀ a, (k0_off14 v330 v338 k0_t14) a + S1x128.size a ≤ S128x128.size a)
theorem k0_t13_ok : ∀ (v330 : BitVec 32) (v338 : BitVec 32) (k0_hw7 : k0_chk7 v330 v338), (k0_t13_loop v330 v338).OK := fun v330 v338 k0_hw7 => k0_hw7.1
theorem k0_off13_inb : ∀ (v330 : BitVec 32) (v338 : BitVec 32) (k0_hw7 : k0_chk7 v330 v338) (k0_t13 : Fin (k0_t13_loop v330 v338).trips), ∀ a, (k0_off13 v330 v338 k0_t13) a + S1x128.size a ≤ S128x128.size a := fun v330 v338 k0_hw7 k0_t13 => k0_hw7.2.1 k0_t13
theorem k0_t14_ok : ∀ (v330 : BitVec 32) (v338 : BitVec 32) (k0_hw7 : k0_chk7 v330 v338), (k0_t14_loop v330 v338).OK := fun v330 v338 k0_hw7 => k0_hw7.2.2.1
theorem k0_off14_inb : ∀ (v330 : BitVec 32) (v338 : BitVec 32) (k0_hw7 : k0_chk7 v330 v338) (k0_t14 : Fin (k0_t14_loop v330 v338).trips), ∀ a, (k0_off14 v330 v338 k0_t14) a + S1x128.size a ≤ S128x128.size a := fun v330 v338 k0_hw7 k0_t14 => k0_hw7.2.2.2 k0_t14

@[reducible] def k0_t15_loop (v379 : BitVec 32) (v387 : BitVec 32) : Scf.Loop 32 :=
  let c1_i32_132 : BitVec 32 := 1#32
  let v388 : BitVec 32 := Scalar.addi v387 c1_i32_132
  let v390 : BitVec 32 := Scalar.subi v388 v379
  let c1_i32_134 : BitVec 32 := 1#32
  let v392 : BitVec 32 := Scalar.divsi v390 c1_i32_134
  let v393 : BitVec 32 := Scalar.muli v392 c1_i32_134
  let v394 : BitVec 32 := Scalar.addi v379 v393
  let c1_i32_135 : BitVec 32 := 1#32
  ⟨v379, v394, c1_i32_135⟩

def k0_off15 (v379 : BitVec 32) (v387 : BitVec 32) (k0_t15 : Fin (k0_t15_loop v379 v387).trips) : Fin 2 → Nat :=
  let c1_i32_135 : BitVec 32 := 1#32
  let arg7 : BitVec 32 := Scf.iv v379 c1_i32_135 k0_t15
  let v1577 : Index := Scalar.indexCast arg7
  let c0_558 : Index := 0#32
  ![v1577.toNat, 0]
@[reducible] def k0_t16_loop (v379 : BitVec 32) (v387 : BitVec 32) : Scf.Loop 32 :=
  let c1_i32_132 : BitVec 32 := 1#32
  let v388 : BitVec 32 := Scalar.addi v387 c1_i32_132
  let v390 : BitVec 32 := Scalar.subi v388 v379
  let c1_i32_134 : BitVec 32 := 1#32
  let v392 : BitVec 32 := Scalar.divsi v390 c1_i32_134
  let v393 : BitVec 32 := Scalar.muli v392 c1_i32_134
  let v394 : BitVec 32 := Scalar.addi v379 v393
  let v391 : BitVec 32 := Scalar.addi v379 v390
  let c1_i32_136 : BitVec 32 := 1#32
  ⟨v394, v391, c1_i32_136⟩
def k0_off16 (v379 : BitVec 32) (v387 : BitVec 32) (k0_t16 : Fin (k0_t16_loop v379 v387).trips) : Fin 2 → Nat :=
  let c1_i32_132 : BitVec 32 := 1#32
  let v388 : BitVec 32 := Scalar.addi v387 c1_i32_132
  let v390 : BitVec 32 := Scalar.subi v388 v379
  let c1_i32_134 : BitVec 32 := 1#32
  let v392 : BitVec 32 := Scalar.divsi v390 c1_i32_134
  let v393 : BitVec 32 := Scalar.muli v392 c1_i32_134
  let v394 : BitVec 32 := Scalar.addi v379 v393
  let c1_i32_136 : BitVec 32 := 1#32
  let arg7 : BitVec 32 := Scf.iv v394 c1_i32_136 k0_t16
  let v1577 : Index := Scalar.indexCast arg7
  let c0_558 : Index := 0#32
  ![v1577.toNat, 0]

def k0_chk8 (v379 : BitVec 32) (v387 : BitVec 32) : Prop :=
  ((k0_t15_loop v379 v387).OK) ∧
  (∀ k0_t15 : Fin (k0_t15_loop v379 v387).trips, ∀ a, (k0_off15 v379 v387 k0_t15) a + S1x128.size a ≤ S128x128.size a) ∧
  ((k0_t16_loop v379 v387).OK) ∧
  (∀ k0_t16 : Fin (k0_t16_loop v379 v387).trips, ∀ a, (k0_off16 v379 v387 k0_t16) a + S1x128.size a ≤ S128x128.size a)
theorem k0_t15_ok : ∀ (v379 : BitVec 32) (v387 : BitVec 32) (k0_hw8 : k0_chk8 v379 v387), (k0_t15_loop v379 v387).OK := fun v379 v387 k0_hw8 => k0_hw8.1
theorem k0_off15_inb : ∀ (v379 : BitVec 32) (v387 : BitVec 32) (k0_hw8 : k0_chk8 v379 v387) (k0_t15 : Fin (k0_t15_loop v379 v387).trips), ∀ a, (k0_off15 v379 v387 k0_t15) a + S1x128.size a ≤ S128x128.size a := fun v379 v387 k0_hw8 k0_t15 => k0_hw8.2.1 k0_t15
theorem k0_t16_ok : ∀ (v379 : BitVec 32) (v387 : BitVec 32) (k0_hw8 : k0_chk8 v379 v387), (k0_t16_loop v379 v387).OK := fun v379 v387 k0_hw8 => k0_hw8.2.2.1
theorem k0_off16_inb : ∀ (v379 : BitVec 32) (v387 : BitVec 32) (k0_hw8 : k0_chk8 v379 v387) (k0_t16 : Fin (k0_t16_loop v379 v387).trips), ∀ a, (k0_off16 v379 v387 k0_t16) a + S1x128.size a ≤ S128x128.size a := fun v379 v387 k0_hw8 k0_t16 => k0_hw8.2.2.2 k0_t16

@[reducible] def k0_t17_loop (v428 : BitVec 32) (v436 : BitVec 32) : Scf.Loop 32 :=
  let c1_i32_150 : BitVec 32 := 1#32
  let v437 : BitVec 32 := Scalar.addi v436 c1_i32_150
  let v439 : BitVec 32 := Scalar.subi v437 v428
  let c1_i32_152 : BitVec 32 := 1#32
  let v441 : BitVec 32 := Scalar.divsi v439 c1_i32_152
  let v442 : BitVec 32 := Scalar.muli v441 c1_i32_152
  let v443 : BitVec 32 := Scalar.addi v428 v442
  let c1_i32_153 : BitVec 32 := 1#32
  ⟨v428, v443, c1_i32_153⟩

def k0_off17 (v428 : BitVec 32) (v436 : BitVec 32) (k0_t17 : Fin (k0_t17_loop v428 v436).trips) : Fin 2 → Nat :=
  let c1_i32_153 : BitVec 32 := 1#32
  let arg7 : BitVec 32 := Scf.iv v428 c1_i32_153 k0_t17
  let v1577 : Index := Scalar.indexCast arg7
  let c0_558 : Index := 0#32
  ![v1577.toNat, 0]
@[reducible] def k0_t18_loop (v428 : BitVec 32) (v436 : BitVec 32) : Scf.Loop 32 :=
  let c1_i32_150 : BitVec 32 := 1#32
  let v437 : BitVec 32 := Scalar.addi v436 c1_i32_150
  let v439 : BitVec 32 := Scalar.subi v437 v428
  let c1_i32_152 : BitVec 32 := 1#32
  let v441 : BitVec 32 := Scalar.divsi v439 c1_i32_152
  let v442 : BitVec 32 := Scalar.muli v441 c1_i32_152
  let v443 : BitVec 32 := Scalar.addi v428 v442
  let v440 : BitVec 32 := Scalar.addi v428 v439
  let c1_i32_154 : BitVec 32 := 1#32
  ⟨v443, v440, c1_i32_154⟩
def k0_off18 (v428 : BitVec 32) (v436 : BitVec 32) (k0_t18 : Fin (k0_t18_loop v428 v436).trips) : Fin 2 → Nat :=
  let c1_i32_150 : BitVec 32 := 1#32
  let v437 : BitVec 32 := Scalar.addi v436 c1_i32_150
  let v439 : BitVec 32 := Scalar.subi v437 v428
  let c1_i32_152 : BitVec 32 := 1#32
  let v441 : BitVec 32 := Scalar.divsi v439 c1_i32_152
  let v442 : BitVec 32 := Scalar.muli v441 c1_i32_152
  let v443 : BitVec 32 := Scalar.addi v428 v442
  let c1_i32_154 : BitVec 32 := 1#32
  let arg7 : BitVec 32 := Scf.iv v443 c1_i32_154 k0_t18
  let v1577 : Index := Scalar.indexCast arg7
  let c0_558 : Index := 0#32
  ![v1577.toNat, 0]

def k0_chk9 (v428 : BitVec 32) (v436 : BitVec 32) : Prop :=
  ((k0_t17_loop v428 v436).OK) ∧
  (∀ k0_t17 : Fin (k0_t17_loop v428 v436).trips, ∀ a, (k0_off17 v428 v436 k0_t17) a + S1x128.size a ≤ S128x128.size a) ∧
  ((k0_t18_loop v428 v436).OK) ∧
  (∀ k0_t18 : Fin (k0_t18_loop v428 v436).trips, ∀ a, (k0_off18 v428 v436 k0_t18) a + S1x128.size a ≤ S128x128.size a)
theorem k0_t17_ok : ∀ (v428 : BitVec 32) (v436 : BitVec 32) (k0_hw9 : k0_chk9 v428 v436), (k0_t17_loop v428 v436).OK := fun v428 v436 k0_hw9 => k0_hw9.1
theorem k0_off17_inb : ∀ (v428 : BitVec 32) (v436 : BitVec 32) (k0_hw9 : k0_chk9 v428 v436) (k0_t17 : Fin (k0_t17_loop v428 v436).trips), ∀ a, (k0_off17 v428 v436 k0_t17) a + S1x128.size a ≤ S128x128.size a := fun v428 v436 k0_hw9 k0_t17 => k0_hw9.2.1 k0_t17
theorem k0_t18_ok : ∀ (v428 : BitVec 32) (v436 : BitVec 32) (k0_hw9 : k0_chk9 v428 v436), (k0_t18_loop v428 v436).OK := fun v428 v436 k0_hw9 => k0_hw9.2.2.1
theorem k0_off18_inb : ∀ (v428 : BitVec 32) (v436 : BitVec 32) (k0_hw9 : k0_chk9 v428 v436) (k0_t18 : Fin (k0_t18_loop v428 v436).trips), ∀ a, (k0_off18 v428 v436 k0_t18) a + S1x128.size a ≤ S128x128.size a := fun v428 v436 k0_hw9 k0_t18 => k0_hw9.2.2.2 k0_t18

@[reducible] def k0_t19_loop (v477 : BitVec 32) (v485 : BitVec 32) : Scf.Loop 32 :=
  let c1_i32_167 : BitVec 32 := 1#32
  let v486 : BitVec 32 := Scalar.addi v485 c1_i32_167
  let v488 : BitVec 32 := Scalar.subi v486 v477
  let c1_i32_169 : BitVec 32 := 1#32
  let v490 : BitVec 32 := Scalar.divsi v488 c1_i32_169
  let v491 : BitVec 32 := Scalar.muli v490 c1_i32_169
  let v492 : BitVec 32 := Scalar.addi v477 v491
  let c1_i32_170 : BitVec 32 := 1#32
  ⟨v477, v492, c1_i32_170⟩

def k0_off19 (v477 : BitVec 32) (v485 : BitVec 32) (k0_t19 : Fin (k0_t19_loop v477 v485).trips) : Fin 2 → Nat :=
  let c1_i32_170 : BitVec 32 := 1#32
  let arg7 : BitVec 32 := Scf.iv v477 c1_i32_170 k0_t19
  let v1577 : Index := Scalar.indexCast arg7
  let c0_558 : Index := 0#32
  ![v1577.toNat, 0]
@[reducible] def k0_t20_loop (v477 : BitVec 32) (v485 : BitVec 32) : Scf.Loop 32 :=
  let c1_i32_167 : BitVec 32 := 1#32
  let v486 : BitVec 32 := Scalar.addi v485 c1_i32_167
  let v488 : BitVec 32 := Scalar.subi v486 v477
  let c1_i32_169 : BitVec 32 := 1#32
  let v490 : BitVec 32 := Scalar.divsi v488 c1_i32_169
  let v491 : BitVec 32 := Scalar.muli v490 c1_i32_169
  let v492 : BitVec 32 := Scalar.addi v477 v491
  let v489 : BitVec 32 := Scalar.addi v477 v488
  let c1_i32_171 : BitVec 32 := 1#32
  ⟨v492, v489, c1_i32_171⟩
def k0_off20 (v477 : BitVec 32) (v485 : BitVec 32) (k0_t20 : Fin (k0_t20_loop v477 v485).trips) : Fin 2 → Nat :=
  let c1_i32_167 : BitVec 32 := 1#32
  let v486 : BitVec 32 := Scalar.addi v485 c1_i32_167
  let v488 : BitVec 32 := Scalar.subi v486 v477
  let c1_i32_169 : BitVec 32 := 1#32
  let v490 : BitVec 32 := Scalar.divsi v488 c1_i32_169
  let v491 : BitVec 32 := Scalar.muli v490 c1_i32_169
  let v492 : BitVec 32 := Scalar.addi v477 v491
  let c1_i32_171 : BitVec 32 := 1#32
  let arg7 : BitVec 32 := Scf.iv v492 c1_i32_171 k0_t20
  let v1577 : Index := Scalar.indexCast arg7
  let c0_558 : Index := 0#32
  ![v1577.toNat, 0]

def k0_chk10 (v477 : BitVec 32) (v485 : BitVec 32) : Prop :=
  ((k0_t19_loop v477 v485).OK) ∧
  (∀ k0_t19 : Fin (k0_t19_loop v477 v485).trips, ∀ a, (k0_off19 v477 v485 k0_t19) a + S1x128.size a ≤ S128x128.size a) ∧
  ((k0_t20_loop v477 v485).OK) ∧
  (∀ k0_t20 : Fin (k0_t20_loop v477 v485).trips, ∀ a, (k0_off20 v477 v485 k0_t20) a + S1x128.size a ≤ S128x128.size a)
theorem k0_t19_ok : ∀ (v477 : BitVec 32) (v485 : BitVec 32) (k0_hw10 : k0_chk10 v477 v485), (k0_t19_loop v477 v485).OK := fun v477 v485 k0_hw10 => k0_hw10.1
theorem k0_off19_inb : ∀ (v477 : BitVec 32) (v485 : BitVec 32) (k0_hw10 : k0_chk10 v477 v485) (k0_t19 : Fin (k0_t19_loop v477 v485).trips), ∀ a, (k0_off19 v477 v485 k0_t19) a + S1x128.size a ≤ S128x128.size a := fun v477 v485 k0_hw10 k0_t19 => k0_hw10.2.1 k0_t19
theorem k0_t20_ok : ∀ (v477 : BitVec 32) (v485 : BitVec 32) (k0_hw10 : k0_chk10 v477 v485), (k0_t20_loop v477 v485).OK := fun v477 v485 k0_hw10 => k0_hw10.2.2.1
theorem k0_off20_inb : ∀ (v477 : BitVec 32) (v485 : BitVec 32) (k0_hw10 : k0_chk10 v477 v485) (k0_t20 : Fin (k0_t20_loop v477 v485).trips), ∀ a, (k0_off20 v477 v485 k0_t20) a + S1x128.size a ≤ S128x128.size a := fun v477 v485 k0_hw10 k0_t20 => k0_hw10.2.2.2 k0_t20

@[reducible] def k0_t21_loop (v526 : BitVec 32) (v534 : BitVec 32) : Scf.Loop 32 :=
  let c1_i32_185 : BitVec 32 := 1#32
  let v535 : BitVec 32 := Scalar.addi v534 c1_i32_185
  let v537 : BitVec 32 := Scalar.subi v535 v526
  let c1_i32_187 : BitVec 32 := 1#32
  let v539 : BitVec 32 := Scalar.divsi v537 c1_i32_187
  let v540 : BitVec 32 := Scalar.muli v539 c1_i32_187
  let v541 : BitVec 32 := Scalar.addi v526 v540
  let c1_i32_188 : BitVec 32 := 1#32
  ⟨v526, v541, c1_i32_188⟩

def k0_off21 (v526 : BitVec 32) (v534 : BitVec 32) (k0_t21 : Fin (k0_t21_loop v526 v534).trips) : Fin 2 → Nat :=
  let c1_i32_188 : BitVec 32 := 1#32
  let arg7 : BitVec 32 := Scf.iv v526 c1_i32_188 k0_t21
  let v1577 : Index := Scalar.indexCast arg7
  let c0_558 : Index := 0#32
  ![v1577.toNat, 0]
@[reducible] def k0_t22_loop (v526 : BitVec 32) (v534 : BitVec 32) : Scf.Loop 32 :=
  let c1_i32_185 : BitVec 32 := 1#32
  let v535 : BitVec 32 := Scalar.addi v534 c1_i32_185
  let v537 : BitVec 32 := Scalar.subi v535 v526
  let c1_i32_187 : BitVec 32 := 1#32
  let v539 : BitVec 32 := Scalar.divsi v537 c1_i32_187
  let v540 : BitVec 32 := Scalar.muli v539 c1_i32_187
  let v541 : BitVec 32 := Scalar.addi v526 v540
  let v538 : BitVec 32 := Scalar.addi v526 v537
  let c1_i32_189 : BitVec 32 := 1#32
  ⟨v541, v538, c1_i32_189⟩
def k0_off22 (v526 : BitVec 32) (v534 : BitVec 32) (k0_t22 : Fin (k0_t22_loop v526 v534).trips) : Fin 2 → Nat :=
  let c1_i32_185 : BitVec 32 := 1#32
  let v535 : BitVec 32 := Scalar.addi v534 c1_i32_185
  let v537 : BitVec 32 := Scalar.subi v535 v526
  let c1_i32_187 : BitVec 32 := 1#32
  let v539 : BitVec 32 := Scalar.divsi v537 c1_i32_187
  let v540 : BitVec 32 := Scalar.muli v539 c1_i32_187
  let v541 : BitVec 32 := Scalar.addi v526 v540
  let c1_i32_189 : BitVec 32 := 1#32
  let arg7 : BitVec 32 := Scf.iv v541 c1_i32_189 k0_t22
  let v1577 : Index := Scalar.indexCast arg7
  let c0_558 : Index := 0#32
  ![v1577.toNat, 0]

def k0_chk11 (v526 : BitVec 32) (v534 : BitVec 32) : Prop :=
  ((k0_t21_loop v526 v534).OK) ∧
  (∀ k0_t21 : Fin (k0_t21_loop v526 v534).trips, ∀ a, (k0_off21 v526 v534 k0_t21) a + S1x128.size a ≤ S128x128.size a) ∧
  ((k0_t22_loop v526 v534).OK) ∧
  (∀ k0_t22 : Fin (k0_t22_loop v526 v534).trips, ∀ a, (k0_off22 v526 v534 k0_t22) a + S1x128.size a ≤ S128x128.size a)
theorem k0_t21_ok : ∀ (v526 : BitVec 32) (v534 : BitVec 32) (k0_hw11 : k0_chk11 v526 v534), (k0_t21_loop v526 v534).OK := fun v526 v534 k0_hw11 => k0_hw11.1
theorem k0_off21_inb : ∀ (v526 : BitVec 32) (v534 : BitVec 32) (k0_hw11 : k0_chk11 v526 v534) (k0_t21 : Fin (k0_t21_loop v526 v534).trips), ∀ a, (k0_off21 v526 v534 k0_t21) a + S1x128.size a ≤ S128x128.size a := fun v526 v534 k0_hw11 k0_t21 => k0_hw11.2.1 k0_t21
theorem k0_t22_ok : ∀ (v526 : BitVec 32) (v534 : BitVec 32) (k0_hw11 : k0_chk11 v526 v534), (k0_t22_loop v526 v534).OK := fun v526 v534 k0_hw11 => k0_hw11.2.2.1
theorem k0_off22_inb : ∀ (v526 : BitVec 32) (v534 : BitVec 32) (k0_hw11 : k0_chk11 v526 v534) (k0_t22 : Fin (k0_t22_loop v526 v534).trips), ∀ a, (k0_off22 v526 v534 k0_t22) a + S1x128.size a ≤ S128x128.size a := fun v526 v534 k0_hw11 k0_t22 => k0_hw11.2.2.2 k0_t22

@[reducible] def k0_t23_loop (v575 : BitVec 32) (v583 : BitVec 32) : Scf.Loop 32 :=
  let c1_i32_202 : BitVec 32 := 1#32
  let v584 : BitVec 32 := Scalar.addi v583 c1_i32_202
  let v586 : BitVec 32 := Scalar.subi v584 v575
  let c1_i32_204 : BitVec 32 := 1#32
  let v588 : BitVec 32 := Scalar.divsi v586 c1_i32_204
  let v589 : BitVec 32 := Scalar.muli v588 c1_i32_204
  let v590 : BitVec 32 := Scalar.addi v575 v589
  let c1_i32_205 : BitVec 32 := 1#32
  ⟨v575, v590, c1_i32_205⟩

def k0_off23 (v575 : BitVec 32) (v583 : BitVec 32) (k0_t23 : Fin (k0_t23_loop v575 v583).trips) : Fin 2 → Nat :=
  let c1_i32_205 : BitVec 32 := 1#32
  let arg7 : BitVec 32 := Scf.iv v575 c1_i32_205 k0_t23
  let v1577 : Index := Scalar.indexCast arg7
  let c0_558 : Index := 0#32
  ![v1577.toNat, 0]
@[reducible] def k0_t24_loop (v575 : BitVec 32) (v583 : BitVec 32) : Scf.Loop 32 :=
  let c1_i32_202 : BitVec 32 := 1#32
  let v584 : BitVec 32 := Scalar.addi v583 c1_i32_202
  let v586 : BitVec 32 := Scalar.subi v584 v575
  let c1_i32_204 : BitVec 32 := 1#32
  let v588 : BitVec 32 := Scalar.divsi v586 c1_i32_204
  let v589 : BitVec 32 := Scalar.muli v588 c1_i32_204
  let v590 : BitVec 32 := Scalar.addi v575 v589
  let v587 : BitVec 32 := Scalar.addi v575 v586
  let c1_i32_206 : BitVec 32 := 1#32
  ⟨v590, v587, c1_i32_206⟩
def k0_off24 (v575 : BitVec 32) (v583 : BitVec 32) (k0_t24 : Fin (k0_t24_loop v575 v583).trips) : Fin 2 → Nat :=
  let c1_i32_202 : BitVec 32 := 1#32
  let v584 : BitVec 32 := Scalar.addi v583 c1_i32_202
  let v586 : BitVec 32 := Scalar.subi v584 v575
  let c1_i32_204 : BitVec 32 := 1#32
  let v588 : BitVec 32 := Scalar.divsi v586 c1_i32_204
  let v589 : BitVec 32 := Scalar.muli v588 c1_i32_204
  let v590 : BitVec 32 := Scalar.addi v575 v589
  let c1_i32_206 : BitVec 32 := 1#32
  let arg7 : BitVec 32 := Scf.iv v590 c1_i32_206 k0_t24
  let v1577 : Index := Scalar.indexCast arg7
  let c0_558 : Index := 0#32
  ![v1577.toNat, 0]

def k0_chk12 (v575 : BitVec 32) (v583 : BitVec 32) : Prop :=
  ((k0_t23_loop v575 v583).OK) ∧
  (∀ k0_t23 : Fin (k0_t23_loop v575 v583).trips, ∀ a, (k0_off23 v575 v583 k0_t23) a + S1x128.size a ≤ S128x128.size a) ∧
  ((k0_t24_loop v575 v583).OK) ∧
  (∀ k0_t24 : Fin (k0_t24_loop v575 v583).trips, ∀ a, (k0_off24 v575 v583 k0_t24) a + S1x128.size a ≤ S128x128.size a)
theorem k0_t23_ok : ∀ (v575 : BitVec 32) (v583 : BitVec 32) (k0_hw12 : k0_chk12 v575 v583), (k0_t23_loop v575 v583).OK := fun v575 v583 k0_hw12 => k0_hw12.1
theorem k0_off23_inb : ∀ (v575 : BitVec 32) (v583 : BitVec 32) (k0_hw12 : k0_chk12 v575 v583) (k0_t23 : Fin (k0_t23_loop v575 v583).trips), ∀ a, (k0_off23 v575 v583 k0_t23) a + S1x128.size a ≤ S128x128.size a := fun v575 v583 k0_hw12 k0_t23 => k0_hw12.2.1 k0_t23
theorem k0_t24_ok : ∀ (v575 : BitVec 32) (v583 : BitVec 32) (k0_hw12 : k0_chk12 v575 v583), (k0_t24_loop v575 v583).OK := fun v575 v583 k0_hw12 => k0_hw12.2.2.1
theorem k0_off24_inb : ∀ (v575 : BitVec 32) (v583 : BitVec 32) (k0_hw12 : k0_chk12 v575 v583) (k0_t24 : Fin (k0_t24_loop v575 v583).trips), ∀ a, (k0_off24 v575 v583 k0_t24) a + S1x128.size a ≤ S128x128.size a := fun v575 v583 k0_hw12 k0_t24 => k0_hw12.2.2.2 k0_t24

@[reducible] def k0_t25_loop (v624 : BitVec 32) (v632 : BitVec 32) : Scf.Loop 32 :=
  let c1_i32_220 : BitVec 32 := 1#32
  let v633 : BitVec 32 := Scalar.addi v632 c1_i32_220
  let v635 : BitVec 32 := Scalar.subi v633 v624
  let c1_i32_222 : BitVec 32 := 1#32
  let v637 : BitVec 32 := Scalar.divsi v635 c1_i32_222
  let v638 : BitVec 32 := Scalar.muli v637 c1_i32_222
  let v639 : BitVec 32 := Scalar.addi v624 v638
  let c1_i32_223 : BitVec 32 := 1#32
  ⟨v624, v639, c1_i32_223⟩

def k0_off25 (v624 : BitVec 32) (v632 : BitVec 32) (k0_t25 : Fin (k0_t25_loop v624 v632).trips) : Fin 2 → Nat :=
  let c1_i32_223 : BitVec 32 := 1#32
  let arg7 : BitVec 32 := Scf.iv v624 c1_i32_223 k0_t25
  let v1577 : Index := Scalar.indexCast arg7
  let c0_558 : Index := 0#32
  ![v1577.toNat, 0]
@[reducible] def k0_t26_loop (v624 : BitVec 32) (v632 : BitVec 32) : Scf.Loop 32 :=
  let c1_i32_220 : BitVec 32 := 1#32
  let v633 : BitVec 32 := Scalar.addi v632 c1_i32_220
  let v635 : BitVec 32 := Scalar.subi v633 v624
  let c1_i32_222 : BitVec 32 := 1#32
  let v637 : BitVec 32 := Scalar.divsi v635 c1_i32_222
  let v638 : BitVec 32 := Scalar.muli v637 c1_i32_222
  let v639 : BitVec 32 := Scalar.addi v624 v638
  let v636 : BitVec 32 := Scalar.addi v624 v635
  let c1_i32_224 : BitVec 32 := 1#32
  ⟨v639, v636, c1_i32_224⟩
def k0_off26 (v624 : BitVec 32) (v632 : BitVec 32) (k0_t26 : Fin (k0_t26_loop v624 v632).trips) : Fin 2 → Nat :=
  let c1_i32_220 : BitVec 32 := 1#32
  let v633 : BitVec 32 := Scalar.addi v632 c1_i32_220
  let v635 : BitVec 32 := Scalar.subi v633 v624
  let c1_i32_222 : BitVec 32 := 1#32
  let v637 : BitVec 32 := Scalar.divsi v635 c1_i32_222
  let v638 : BitVec 32 := Scalar.muli v637 c1_i32_222
  let v639 : BitVec 32 := Scalar.addi v624 v638
  let c1_i32_224 : BitVec 32 := 1#32
  let arg7 : BitVec 32 := Scf.iv v639 c1_i32_224 k0_t26
  let v1577 : Index := Scalar.indexCast arg7
  let c0_558 : Index := 0#32
  ![v1577.toNat, 0]

def k0_chk13 (v624 : BitVec 32) (v632 : BitVec 32) : Prop :=
  ((k0_t25_loop v624 v632).OK) ∧
  (∀ k0_t25 : Fin (k0_t25_loop v624 v632).trips, ∀ a, (k0_off25 v624 v632 k0_t25) a + S1x128.size a ≤ S128x128.size a) ∧
  ((k0_t26_loop v624 v632).OK) ∧
  (∀ k0_t26 : Fin (k0_t26_loop v624 v632).trips, ∀ a, (k0_off26 v624 v632 k0_t26) a + S1x128.size a ≤ S128x128.size a)
theorem k0_t25_ok : ∀ (v624 : BitVec 32) (v632 : BitVec 32) (k0_hw13 : k0_chk13 v624 v632), (k0_t25_loop v624 v632).OK := fun v624 v632 k0_hw13 => k0_hw13.1
theorem k0_off25_inb : ∀ (v624 : BitVec 32) (v632 : BitVec 32) (k0_hw13 : k0_chk13 v624 v632) (k0_t25 : Fin (k0_t25_loop v624 v632).trips), ∀ a, (k0_off25 v624 v632 k0_t25) a + S1x128.size a ≤ S128x128.size a := fun v624 v632 k0_hw13 k0_t25 => k0_hw13.2.1 k0_t25
theorem k0_t26_ok : ∀ (v624 : BitVec 32) (v632 : BitVec 32) (k0_hw13 : k0_chk13 v624 v632), (k0_t26_loop v624 v632).OK := fun v624 v632 k0_hw13 => k0_hw13.2.2.1
theorem k0_off26_inb : ∀ (v624 : BitVec 32) (v632 : BitVec 32) (k0_hw13 : k0_chk13 v624 v632) (k0_t26 : Fin (k0_t26_loop v624 v632).trips), ∀ a, (k0_off26 v624 v632 k0_t26) a + S1x128.size a ≤ S128x128.size a := fun v624 v632 k0_hw13 k0_t26 => k0_hw13.2.2.2 k0_t26

@[reducible] def k0_t27_loop (v673 : BitVec 32) (v681 : BitVec 32) : Scf.Loop 32 :=
  let c1_i32_237 : BitVec 32 := 1#32
  let v682 : BitVec 32 := Scalar.addi v681 c1_i32_237
  let v684 : BitVec 32 := Scalar.subi v682 v673
  let c1_i32_239 : BitVec 32 := 1#32
  let v686 : BitVec 32 := Scalar.divsi v684 c1_i32_239
  let v687 : BitVec 32 := Scalar.muli v686 c1_i32_239
  let v688 : BitVec 32 := Scalar.addi v673 v687
  let c1_i32_240 : BitVec 32 := 1#32
  ⟨v673, v688, c1_i32_240⟩

def k0_off27 (v673 : BitVec 32) (v681 : BitVec 32) (k0_t27 : Fin (k0_t27_loop v673 v681).trips) : Fin 2 → Nat :=
  let c1_i32_240 : BitVec 32 := 1#32
  let arg7 : BitVec 32 := Scf.iv v673 c1_i32_240 k0_t27
  let v1577 : Index := Scalar.indexCast arg7
  let c0_558 : Index := 0#32
  ![v1577.toNat, 0]
@[reducible] def k0_t28_loop (v673 : BitVec 32) (v681 : BitVec 32) : Scf.Loop 32 :=
  let c1_i32_237 : BitVec 32 := 1#32
  let v682 : BitVec 32 := Scalar.addi v681 c1_i32_237
  let v684 : BitVec 32 := Scalar.subi v682 v673
  let c1_i32_239 : BitVec 32 := 1#32
  let v686 : BitVec 32 := Scalar.divsi v684 c1_i32_239
  let v687 : BitVec 32 := Scalar.muli v686 c1_i32_239
  let v688 : BitVec 32 := Scalar.addi v673 v687
  let v685 : BitVec 32 := Scalar.addi v673 v684
  let c1_i32_241 : BitVec 32 := 1#32
  ⟨v688, v685, c1_i32_241⟩
def k0_off28 (v673 : BitVec 32) (v681 : BitVec 32) (k0_t28 : Fin (k0_t28_loop v673 v681).trips) : Fin 2 → Nat :=
  let c1_i32_237 : BitVec 32 := 1#32
  let v682 : BitVec 32 := Scalar.addi v681 c1_i32_237
  let v684 : BitVec 32 := Scalar.subi v682 v673
  let c1_i32_239 : BitVec 32 := 1#32
  let v686 : BitVec 32 := Scalar.divsi v684 c1_i32_239
  let v687 : BitVec 32 := Scalar.muli v686 c1_i32_239
  let v688 : BitVec 32 := Scalar.addi v673 v687
  let c1_i32_241 : BitVec 32 := 1#32
  let arg7 : BitVec 32 := Scf.iv v688 c1_i32_241 k0_t28
  let v1577 : Index := Scalar.indexCast arg7
  let c0_558 : Index := 0#32
  ![v1577.toNat, 0]

def k0_chk14 (v673 : BitVec 32) (v681 : BitVec 32) : Prop :=
  ((k0_t27_loop v673 v681).OK) ∧
  (∀ k0_t27 : Fin (k0_t27_loop v673 v681).trips, ∀ a, (k0_off27 v673 v681 k0_t27) a + S1x128.size a ≤ S128x128.size a) ∧
  ((k0_t28_loop v673 v681).OK) ∧
  (∀ k0_t28 : Fin (k0_t28_loop v673 v681).trips, ∀ a, (k0_off28 v673 v681 k0_t28) a + S1x128.size a ≤ S128x128.size a)
theorem k0_t27_ok : ∀ (v673 : BitVec 32) (v681 : BitVec 32) (k0_hw14 : k0_chk14 v673 v681), (k0_t27_loop v673 v681).OK := fun v673 v681 k0_hw14 => k0_hw14.1
theorem k0_off27_inb : ∀ (v673 : BitVec 32) (v681 : BitVec 32) (k0_hw14 : k0_chk14 v673 v681) (k0_t27 : Fin (k0_t27_loop v673 v681).trips), ∀ a, (k0_off27 v673 v681 k0_t27) a + S1x128.size a ≤ S128x128.size a := fun v673 v681 k0_hw14 k0_t27 => k0_hw14.2.1 k0_t27
theorem k0_t28_ok : ∀ (v673 : BitVec 32) (v681 : BitVec 32) (k0_hw14 : k0_chk14 v673 v681), (k0_t28_loop v673 v681).OK := fun v673 v681 k0_hw14 => k0_hw14.2.2.1
theorem k0_off28_inb : ∀ (v673 : BitVec 32) (v681 : BitVec 32) (k0_hw14 : k0_chk14 v673 v681) (k0_t28 : Fin (k0_t28_loop v673 v681).trips), ∀ a, (k0_off28 v673 v681 k0_t28) a + S1x128.size a ≤ S128x128.size a := fun v673 v681 k0_hw14 k0_t28 => k0_hw14.2.2.2 k0_t28

@[reducible] def k0_t29_loop (v722 : BitVec 32) (v730 : BitVec 32) : Scf.Loop 32 :=
  let c1_i32_255 : BitVec 32 := 1#32
  let v731 : BitVec 32 := Scalar.addi v730 c1_i32_255
  let v733 : BitVec 32 := Scalar.subi v731 v722
  let c1_i32_257 : BitVec 32 := 1#32
  let v735 : BitVec 32 := Scalar.divsi v733 c1_i32_257
  let v736 : BitVec 32 := Scalar.muli v735 c1_i32_257
  let v737 : BitVec 32 := Scalar.addi v722 v736
  let c1_i32_258 : BitVec 32 := 1#32
  ⟨v722, v737, c1_i32_258⟩

def k0_off29 (v722 : BitVec 32) (v730 : BitVec 32) (k0_t29 : Fin (k0_t29_loop v722 v730).trips) : Fin 2 → Nat :=
  let c1_i32_258 : BitVec 32 := 1#32
  let arg7 : BitVec 32 := Scf.iv v722 c1_i32_258 k0_t29
  let v1577 : Index := Scalar.indexCast arg7
  let c0_558 : Index := 0#32
  ![v1577.toNat, 0]
@[reducible] def k0_t30_loop (v722 : BitVec 32) (v730 : BitVec 32) : Scf.Loop 32 :=
  let c1_i32_255 : BitVec 32 := 1#32
  let v731 : BitVec 32 := Scalar.addi v730 c1_i32_255
  let v733 : BitVec 32 := Scalar.subi v731 v722
  let c1_i32_257 : BitVec 32 := 1#32
  let v735 : BitVec 32 := Scalar.divsi v733 c1_i32_257
  let v736 : BitVec 32 := Scalar.muli v735 c1_i32_257
  let v737 : BitVec 32 := Scalar.addi v722 v736
  let v734 : BitVec 32 := Scalar.addi v722 v733
  let c1_i32_259 : BitVec 32 := 1#32
  ⟨v737, v734, c1_i32_259⟩
def k0_off30 (v722 : BitVec 32) (v730 : BitVec 32) (k0_t30 : Fin (k0_t30_loop v722 v730).trips) : Fin 2 → Nat :=
  let c1_i32_255 : BitVec 32 := 1#32
  let v731 : BitVec 32 := Scalar.addi v730 c1_i32_255
  let v733 : BitVec 32 := Scalar.subi v731 v722
  let c1_i32_257 : BitVec 32 := 1#32
  let v735 : BitVec 32 := Scalar.divsi v733 c1_i32_257
  let v736 : BitVec 32 := Scalar.muli v735 c1_i32_257
  let v737 : BitVec 32 := Scalar.addi v722 v736
  let c1_i32_259 : BitVec 32 := 1#32
  let arg7 : BitVec 32 := Scf.iv v737 c1_i32_259 k0_t30
  let v1577 : Index := Scalar.indexCast arg7
  let c0_558 : Index := 0#32
  ![v1577.toNat, 0]

def k0_chk15 (v722 : BitVec 32) (v730 : BitVec 32) : Prop :=
  ((k0_t29_loop v722 v730).OK) ∧
  (∀ k0_t29 : Fin (k0_t29_loop v722 v730).trips, ∀ a, (k0_off29 v722 v730 k0_t29) a + S1x128.size a ≤ S128x128.size a) ∧
  ((k0_t30_loop v722 v730).OK) ∧
  (∀ k0_t30 : Fin (k0_t30_loop v722 v730).trips, ∀ a, (k0_off30 v722 v730 k0_t30) a + S1x128.size a ≤ S128x128.size a)
theorem k0_t29_ok : ∀ (v722 : BitVec 32) (v730 : BitVec 32) (k0_hw15 : k0_chk15 v722 v730), (k0_t29_loop v722 v730).OK := fun v722 v730 k0_hw15 => k0_hw15.1
theorem k0_off29_inb : ∀ (v722 : BitVec 32) (v730 : BitVec 32) (k0_hw15 : k0_chk15 v722 v730) (k0_t29 : Fin (k0_t29_loop v722 v730).trips), ∀ a, (k0_off29 v722 v730 k0_t29) a + S1x128.size a ≤ S128x128.size a := fun v722 v730 k0_hw15 k0_t29 => k0_hw15.2.1 k0_t29
theorem k0_t30_ok : ∀ (v722 : BitVec 32) (v730 : BitVec 32) (k0_hw15 : k0_chk15 v722 v730), (k0_t30_loop v722 v730).OK := fun v722 v730 k0_hw15 => k0_hw15.2.2.1
theorem k0_off30_inb : ∀ (v722 : BitVec 32) (v730 : BitVec 32) (k0_hw15 : k0_chk15 v722 v730) (k0_t30 : Fin (k0_t30_loop v722 v730).trips), ∀ a, (k0_off30 v722 v730 k0_t30) a + S1x128.size a ≤ S128x128.size a := fun v722 v730 k0_hw15 k0_t30 => k0_hw15.2.2.2 k0_t30

@[reducible] def k0_t31_loop (v771 : BitVec 32) (v779 : BitVec 32) : Scf.Loop 32 :=
  let c1_i32_272 : BitVec 32 := 1#32
  let v780 : BitVec 32 := Scalar.addi v779 c1_i32_272
  let v782 : BitVec 32 := Scalar.subi v780 v771
  let c1_i32_274 : BitVec 32 := 1#32
  let v784 : BitVec 32 := Scalar.divsi v782 c1_i32_274
  let v785 : BitVec 32 := Scalar.muli v784 c1_i32_274
  let v786 : BitVec 32 := Scalar.addi v771 v785
  let c1_i32_275 : BitVec 32 := 1#32
  ⟨v771, v786, c1_i32_275⟩

def k0_off31 (v771 : BitVec 32) (v779 : BitVec 32) (k0_t31 : Fin (k0_t31_loop v771 v779).trips) : Fin 2 → Nat :=
  let c1_i32_275 : BitVec 32 := 1#32
  let arg7 : BitVec 32 := Scf.iv v771 c1_i32_275 k0_t31
  let v1577 : Index := Scalar.indexCast arg7
  let c0_558 : Index := 0#32
  ![v1577.toNat, 0]
@[reducible] def k0_t32_loop (v771 : BitVec 32) (v779 : BitVec 32) : Scf.Loop 32 :=
  let c1_i32_272 : BitVec 32 := 1#32
  let v780 : BitVec 32 := Scalar.addi v779 c1_i32_272
  let v782 : BitVec 32 := Scalar.subi v780 v771
  let c1_i32_274 : BitVec 32 := 1#32
  let v784 : BitVec 32 := Scalar.divsi v782 c1_i32_274
  let v785 : BitVec 32 := Scalar.muli v784 c1_i32_274
  let v786 : BitVec 32 := Scalar.addi v771 v785
  let v783 : BitVec 32 := Scalar.addi v771 v782
  let c1_i32_276 : BitVec 32 := 1#32
  ⟨v786, v783, c1_i32_276⟩
def k0_off32 (v771 : BitVec 32) (v779 : BitVec 32) (k0_t32 : Fin (k0_t32_loop v771 v779).trips) : Fin 2 → Nat :=
  let c1_i32_272 : BitVec 32 := 1#32
  let v780 : BitVec 32 := Scalar.addi v779 c1_i32_272
  let v782 : BitVec 32 := Scalar.subi v780 v771
  let c1_i32_274 : BitVec 32 := 1#32
  let v784 : BitVec 32 := Scalar.divsi v782 c1_i32_274
  let v785 : BitVec 32 := Scalar.muli v784 c1_i32_274
  let v786 : BitVec 32 := Scalar.addi v771 v785
  let c1_i32_276 : BitVec 32 := 1#32
  let arg7 : BitVec 32 := Scf.iv v786 c1_i32_276 k0_t32
  let v1577 : Index := Scalar.indexCast arg7
  let c0_558 : Index := 0#32
  ![v1577.toNat, 0]

def k0_chk16 (v771 : BitVec 32) (v779 : BitVec 32) : Prop :=
  ((k0_t31_loop v771 v779).OK) ∧
  (∀ k0_t31 : Fin (k0_t31_loop v771 v779).trips, ∀ a, (k0_off31 v771 v779 k0_t31) a + S1x128.size a ≤ S128x128.size a) ∧
  ((k0_t32_loop v771 v779).OK) ∧
  (∀ k0_t32 : Fin (k0_t32_loop v771 v779).trips, ∀ a, (k0_off32 v771 v779 k0_t32) a + S1x128.size a ≤ S128x128.size a)
theorem k0_t31_ok : ∀ (v771 : BitVec 32) (v779 : BitVec 32) (k0_hw16 : k0_chk16 v771 v779), (k0_t31_loop v771 v779).OK := fun v771 v779 k0_hw16 => k0_hw16.1
theorem k0_off31_inb : ∀ (v771 : BitVec 32) (v779 : BitVec 32) (k0_hw16 : k0_chk16 v771 v779) (k0_t31 : Fin (k0_t31_loop v771 v779).trips), ∀ a, (k0_off31 v771 v779 k0_t31) a + S1x128.size a ≤ S128x128.size a := fun v771 v779 k0_hw16 k0_t31 => k0_hw16.2.1 k0_t31
theorem k0_t32_ok : ∀ (v771 : BitVec 32) (v779 : BitVec 32) (k0_hw16 : k0_chk16 v771 v779), (k0_t32_loop v771 v779).OK := fun v771 v779 k0_hw16 => k0_hw16.2.2.1
theorem k0_off32_inb : ∀ (v771 : BitVec 32) (v779 : BitVec 32) (k0_hw16 : k0_chk16 v771 v779) (k0_t32 : Fin (k0_t32_loop v771 v779).trips), ∀ a, (k0_off32 v771 v779 k0_t32) a + S1x128.size a ≤ S128x128.size a := fun v771 v779 k0_hw16 k0_t32 => k0_hw16.2.2.2 k0_t32

@[reducible] def k0_t33_loop (v820 : BitVec 32) (v828 : BitVec 32) : Scf.Loop 32 :=
  let c1_i32_290 : BitVec 32 := 1#32
  let v829 : BitVec 32 := Scalar.addi v828 c1_i32_290
  let v831 : BitVec 32 := Scalar.subi v829 v820
  let c1_i32_292 : BitVec 32 := 1#32
  let v833 : BitVec 32 := Scalar.divsi v831 c1_i32_292
  let v834 : BitVec 32 := Scalar.muli v833 c1_i32_292
  let v835 : BitVec 32 := Scalar.addi v820 v834
  let c1_i32_293 : BitVec 32 := 1#32
  ⟨v820, v835, c1_i32_293⟩

def k0_off33 (v820 : BitVec 32) (v828 : BitVec 32) (k0_t33 : Fin (k0_t33_loop v820 v828).trips) : Fin 2 → Nat :=
  let c1_i32_293 : BitVec 32 := 1#32
  let arg7 : BitVec 32 := Scf.iv v820 c1_i32_293 k0_t33
  let v1577 : Index := Scalar.indexCast arg7
  let c0_558 : Index := 0#32
  ![v1577.toNat, 0]
@[reducible] def k0_t34_loop (v820 : BitVec 32) (v828 : BitVec 32) : Scf.Loop 32 :=
  let c1_i32_290 : BitVec 32 := 1#32
  let v829 : BitVec 32 := Scalar.addi v828 c1_i32_290
  let v831 : BitVec 32 := Scalar.subi v829 v820
  let c1_i32_292 : BitVec 32 := 1#32
  let v833 : BitVec 32 := Scalar.divsi v831 c1_i32_292
  let v834 : BitVec 32 := Scalar.muli v833 c1_i32_292
  let v835 : BitVec 32 := Scalar.addi v820 v834
  let v832 : BitVec 32 := Scalar.addi v820 v831
  let c1_i32_294 : BitVec 32 := 1#32
  ⟨v835, v832, c1_i32_294⟩
def k0_off34 (v820 : BitVec 32) (v828 : BitVec 32) (k0_t34 : Fin (k0_t34_loop v820 v828).trips) : Fin 2 → Nat :=
  let c1_i32_290 : BitVec 32 := 1#32
  let v829 : BitVec 32 := Scalar.addi v828 c1_i32_290
  let v831 : BitVec 32 := Scalar.subi v829 v820
  let c1_i32_292 : BitVec 32 := 1#32
  let v833 : BitVec 32 := Scalar.divsi v831 c1_i32_292
  let v834 : BitVec 32 := Scalar.muli v833 c1_i32_292
  let v835 : BitVec 32 := Scalar.addi v820 v834
  let c1_i32_294 : BitVec 32 := 1#32
  let arg7 : BitVec 32 := Scf.iv v835 c1_i32_294 k0_t34
  let v1577 : Index := Scalar.indexCast arg7
  let c0_558 : Index := 0#32
  ![v1577.toNat, 0]

def k0_chk17 (v820 : BitVec 32) (v828 : BitVec 32) : Prop :=
  ((k0_t33_loop v820 v828).OK) ∧
  (∀ k0_t33 : Fin (k0_t33_loop v820 v828).trips, ∀ a, (k0_off33 v820 v828 k0_t33) a + S1x128.size a ≤ S128x128.size a) ∧
  ((k0_t34_loop v820 v828).OK) ∧
  (∀ k0_t34 : Fin (k0_t34_loop v820 v828).trips, ∀ a, (k0_off34 v820 v828 k0_t34) a + S1x128.size a ≤ S128x128.size a)
theorem k0_t33_ok : ∀ (v820 : BitVec 32) (v828 : BitVec 32) (k0_hw17 : k0_chk17 v820 v828), (k0_t33_loop v820 v828).OK := fun v820 v828 k0_hw17 => k0_hw17.1
theorem k0_off33_inb : ∀ (v820 : BitVec 32) (v828 : BitVec 32) (k0_hw17 : k0_chk17 v820 v828) (k0_t33 : Fin (k0_t33_loop v820 v828).trips), ∀ a, (k0_off33 v820 v828 k0_t33) a + S1x128.size a ≤ S128x128.size a := fun v820 v828 k0_hw17 k0_t33 => k0_hw17.2.1 k0_t33
theorem k0_t34_ok : ∀ (v820 : BitVec 32) (v828 : BitVec 32) (k0_hw17 : k0_chk17 v820 v828), (k0_t34_loop v820 v828).OK := fun v820 v828 k0_hw17 => k0_hw17.2.2.1
theorem k0_off34_inb : ∀ (v820 : BitVec 32) (v828 : BitVec 32) (k0_hw17 : k0_chk17 v820 v828) (k0_t34 : Fin (k0_t34_loop v820 v828).trips), ∀ a, (k0_off34 v820 v828 k0_t34) a + S1x128.size a ≤ S128x128.size a := fun v820 v828 k0_hw17 k0_t34 => k0_hw17.2.2.2 k0_t34

@[reducible] def k0_t35_loop (v869 : BitVec 32) (v877 : BitVec 32) : Scf.Loop 32 :=
  let c1_i32_307 : BitVec 32 := 1#32
  let v878 : BitVec 32 := Scalar.addi v877 c1_i32_307
  let v880 : BitVec 32 := Scalar.subi v878 v869
  let c1_i32_309 : BitVec 32 := 1#32
  let v882 : BitVec 32 := Scalar.divsi v880 c1_i32_309
  let v883 : BitVec 32 := Scalar.muli v882 c1_i32_309
  let v884 : BitVec 32 := Scalar.addi v869 v883
  let c1_i32_310 : BitVec 32 := 1#32
  ⟨v869, v884, c1_i32_310⟩

def k0_off35 (v869 : BitVec 32) (v877 : BitVec 32) (k0_t35 : Fin (k0_t35_loop v869 v877).trips) : Fin 2 → Nat :=
  let c1_i32_310 : BitVec 32 := 1#32
  let arg7 : BitVec 32 := Scf.iv v869 c1_i32_310 k0_t35
  let v1577 : Index := Scalar.indexCast arg7
  let c0_558 : Index := 0#32
  ![v1577.toNat, 0]
@[reducible] def k0_t36_loop (v869 : BitVec 32) (v877 : BitVec 32) : Scf.Loop 32 :=
  let c1_i32_307 : BitVec 32 := 1#32
  let v878 : BitVec 32 := Scalar.addi v877 c1_i32_307
  let v880 : BitVec 32 := Scalar.subi v878 v869
  let c1_i32_309 : BitVec 32 := 1#32
  let v882 : BitVec 32 := Scalar.divsi v880 c1_i32_309
  let v883 : BitVec 32 := Scalar.muli v882 c1_i32_309
  let v884 : BitVec 32 := Scalar.addi v869 v883
  let v881 : BitVec 32 := Scalar.addi v869 v880
  let c1_i32_311 : BitVec 32 := 1#32
  ⟨v884, v881, c1_i32_311⟩
def k0_off36 (v869 : BitVec 32) (v877 : BitVec 32) (k0_t36 : Fin (k0_t36_loop v869 v877).trips) : Fin 2 → Nat :=
  let c1_i32_307 : BitVec 32 := 1#32
  let v878 : BitVec 32 := Scalar.addi v877 c1_i32_307
  let v880 : BitVec 32 := Scalar.subi v878 v869
  let c1_i32_309 : BitVec 32 := 1#32
  let v882 : BitVec 32 := Scalar.divsi v880 c1_i32_309
  let v883 : BitVec 32 := Scalar.muli v882 c1_i32_309
  let v884 : BitVec 32 := Scalar.addi v869 v883
  let c1_i32_311 : BitVec 32 := 1#32
  let arg7 : BitVec 32 := Scf.iv v884 c1_i32_311 k0_t36
  let v1577 : Index := Scalar.indexCast arg7
  let c0_558 : Index := 0#32
  ![v1577.toNat, 0]

def k0_chk18 (v869 : BitVec 32) (v877 : BitVec 32) : Prop :=
  ((k0_t35_loop v869 v877).OK) ∧
  (∀ k0_t35 : Fin (k0_t35_loop v869 v877).trips, ∀ a, (k0_off35 v869 v877 k0_t35) a + S1x128.size a ≤ S128x128.size a) ∧
  ((k0_t36_loop v869 v877).OK) ∧
  (∀ k0_t36 : Fin (k0_t36_loop v869 v877).trips, ∀ a, (k0_off36 v869 v877 k0_t36) a + S1x128.size a ≤ S128x128.size a)
theorem k0_t35_ok : ∀ (v869 : BitVec 32) (v877 : BitVec 32) (k0_hw18 : k0_chk18 v869 v877), (k0_t35_loop v869 v877).OK := fun v869 v877 k0_hw18 => k0_hw18.1
theorem k0_off35_inb : ∀ (v869 : BitVec 32) (v877 : BitVec 32) (k0_hw18 : k0_chk18 v869 v877) (k0_t35 : Fin (k0_t35_loop v869 v877).trips), ∀ a, (k0_off35 v869 v877 k0_t35) a + S1x128.size a ≤ S128x128.size a := fun v869 v877 k0_hw18 k0_t35 => k0_hw18.2.1 k0_t35
theorem k0_t36_ok : ∀ (v869 : BitVec 32) (v877 : BitVec 32) (k0_hw18 : k0_chk18 v869 v877), (k0_t36_loop v869 v877).OK := fun v869 v877 k0_hw18 => k0_hw18.2.2.1
theorem k0_off36_inb : ∀ (v869 : BitVec 32) (v877 : BitVec 32) (k0_hw18 : k0_chk18 v869 v877) (k0_t36 : Fin (k0_t36_loop v869 v877).trips), ∀ a, (k0_off36 v869 v877 k0_t36) a + S1x128.size a ≤ S128x128.size a := fun v869 v877 k0_hw18 k0_t36 => k0_hw18.2.2.2 k0_t36

@[reducible] def k0_t37_loop (v918 : BitVec 32) (v926 : BitVec 32) : Scf.Loop 32 :=
  let c1_i32_325 : BitVec 32 := 1#32
  let v927 : BitVec 32 := Scalar.addi v926 c1_i32_325
  let v929 : BitVec 32 := Scalar.subi v927 v918
  let c1_i32_327 : BitVec 32 := 1#32
  let v931 : BitVec 32 := Scalar.divsi v929 c1_i32_327
  let v932 : BitVec 32 := Scalar.muli v931 c1_i32_327
  let v933 : BitVec 32 := Scalar.addi v918 v932
  let c1_i32_328 : BitVec 32 := 1#32
  ⟨v918, v933, c1_i32_328⟩

def k0_off37 (v918 : BitVec 32) (v926 : BitVec 32) (k0_t37 : Fin (k0_t37_loop v918 v926).trips) : Fin 2 → Nat :=
  let c1_i32_328 : BitVec 32 := 1#32
  let arg7 : BitVec 32 := Scf.iv v918 c1_i32_328 k0_t37
  let v1577 : Index := Scalar.indexCast arg7
  let c0_558 : Index := 0#32
  ![v1577.toNat, 0]
@[reducible] def k0_t38_loop (v918 : BitVec 32) (v926 : BitVec 32) : Scf.Loop 32 :=
  let c1_i32_325 : BitVec 32 := 1#32
  let v927 : BitVec 32 := Scalar.addi v926 c1_i32_325
  let v929 : BitVec 32 := Scalar.subi v927 v918
  let c1_i32_327 : BitVec 32 := 1#32
  let v931 : BitVec 32 := Scalar.divsi v929 c1_i32_327
  let v932 : BitVec 32 := Scalar.muli v931 c1_i32_327
  let v933 : BitVec 32 := Scalar.addi v918 v932
  let v930 : BitVec 32 := Scalar.addi v918 v929
  let c1_i32_329 : BitVec 32 := 1#32
  ⟨v933, v930, c1_i32_329⟩
def k0_off38 (v918 : BitVec 32) (v926 : BitVec 32) (k0_t38 : Fin (k0_t38_loop v918 v926).trips) : Fin 2 → Nat :=
  let c1_i32_325 : BitVec 32 := 1#32
  let v927 : BitVec 32 := Scalar.addi v926 c1_i32_325
  let v929 : BitVec 32 := Scalar.subi v927 v918
  let c1_i32_327 : BitVec 32 := 1#32
  let v931 : BitVec 32 := Scalar.divsi v929 c1_i32_327
  let v932 : BitVec 32 := Scalar.muli v931 c1_i32_327
  let v933 : BitVec 32 := Scalar.addi v918 v932
  let c1_i32_329 : BitVec 32 := 1#32
  let arg7 : BitVec 32 := Scf.iv v933 c1_i32_329 k0_t38
  let v1577 : Index := Scalar.indexCast arg7
  let c0_558 : Index := 0#32
  ![v1577.toNat, 0]

def k0_chk19 (v918 : BitVec 32) (v926 : BitVec 32) : Prop :=
  ((k0_t37_loop v918 v926).OK) ∧
  (∀ k0_t37 : Fin (k0_t37_loop v918 v926).trips, ∀ a, (k0_off37 v918 v926 k0_t37) a + S1x128.size a ≤ S128x128.size a) ∧
  ((k0_t38_loop v918 v926).OK) ∧
  (∀ k0_t38 : Fin (k0_t38_loop v918 v926).trips, ∀ a, (k0_off38 v918 v926 k0_t38) a + S1x128.size a ≤ S128x128.size a)
theorem k0_t37_ok : ∀ (v918 : BitVec 32) (v926 : BitVec 32) (k0_hw19 : k0_chk19 v918 v926), (k0_t37_loop v918 v926).OK := fun v918 v926 k0_hw19 => k0_hw19.1
theorem k0_off37_inb : ∀ (v918 : BitVec 32) (v926 : BitVec 32) (k0_hw19 : k0_chk19 v918 v926) (k0_t37 : Fin (k0_t37_loop v918 v926).trips), ∀ a, (k0_off37 v918 v926 k0_t37) a + S1x128.size a ≤ S128x128.size a := fun v918 v926 k0_hw19 k0_t37 => k0_hw19.2.1 k0_t37
theorem k0_t38_ok : ∀ (v918 : BitVec 32) (v926 : BitVec 32) (k0_hw19 : k0_chk19 v918 v926), (k0_t38_loop v918 v926).OK := fun v918 v926 k0_hw19 => k0_hw19.2.2.1
theorem k0_off38_inb : ∀ (v918 : BitVec 32) (v926 : BitVec 32) (k0_hw19 : k0_chk19 v918 v926) (k0_t38 : Fin (k0_t38_loop v918 v926).trips), ∀ a, (k0_off38 v918 v926 k0_t38) a + S1x128.size a ≤ S128x128.size a := fun v918 v926 k0_hw19 k0_t38 => k0_hw19.2.2.2 k0_t38

@[reducible] def k0_t39_loop (v967 : BitVec 32) (v975 : BitVec 32) : Scf.Loop 32 :=
  let c1_i32_342 : BitVec 32 := 1#32
  let v976 : BitVec 32 := Scalar.addi v975 c1_i32_342
  let v978 : BitVec 32 := Scalar.subi v976 v967
  let c1_i32_344 : BitVec 32 := 1#32
  let v980 : BitVec 32 := Scalar.divsi v978 c1_i32_344
  let v981 : BitVec 32 := Scalar.muli v980 c1_i32_344
  let v982 : BitVec 32 := Scalar.addi v967 v981
  let c1_i32_345 : BitVec 32 := 1#32
  ⟨v967, v982, c1_i32_345⟩

def k0_off39 (v967 : BitVec 32) (v975 : BitVec 32) (k0_t39 : Fin (k0_t39_loop v967 v975).trips) : Fin 2 → Nat :=
  let c1_i32_345 : BitVec 32 := 1#32
  let arg7 : BitVec 32 := Scf.iv v967 c1_i32_345 k0_t39
  let v1577 : Index := Scalar.indexCast arg7
  let c0_558 : Index := 0#32
  ![v1577.toNat, 0]
@[reducible] def k0_t40_loop (v967 : BitVec 32) (v975 : BitVec 32) : Scf.Loop 32 :=
  let c1_i32_342 : BitVec 32 := 1#32
  let v976 : BitVec 32 := Scalar.addi v975 c1_i32_342
  let v978 : BitVec 32 := Scalar.subi v976 v967
  let c1_i32_344 : BitVec 32 := 1#32
  let v980 : BitVec 32 := Scalar.divsi v978 c1_i32_344
  let v981 : BitVec 32 := Scalar.muli v980 c1_i32_344
  let v982 : BitVec 32 := Scalar.addi v967 v981
  let v979 : BitVec 32 := Scalar.addi v967 v978
  let c1_i32_346 : BitVec 32 := 1#32
  ⟨v982, v979, c1_i32_346⟩
def k0_off40 (v967 : BitVec 32) (v975 : BitVec 32) (k0_t40 : Fin (k0_t40_loop v967 v975).trips) : Fin 2 → Nat :=
  let c1_i32_342 : BitVec 32 := 1#32
  let v976 : BitVec 32 := Scalar.addi v975 c1_i32_342
  let v978 : BitVec 32 := Scalar.subi v976 v967
  let c1_i32_344 : BitVec 32 := 1#32
  let v980 : BitVec 32 := Scalar.divsi v978 c1_i32_344
  let v981 : BitVec 32 := Scalar.muli v980 c1_i32_344
  let v982 : BitVec 32 := Scalar.addi v967 v981
  let c1_i32_346 : BitVec 32 := 1#32
  let arg7 : BitVec 32 := Scf.iv v982 c1_i32_346 k0_t40
  let v1577 : Index := Scalar.indexCast arg7
  let c0_558 : Index := 0#32
  ![v1577.toNat, 0]

def k0_chk20 (v967 : BitVec 32) (v975 : BitVec 32) : Prop :=
  ((k0_t39_loop v967 v975).OK) ∧
  (∀ k0_t39 : Fin (k0_t39_loop v967 v975).trips, ∀ a, (k0_off39 v967 v975 k0_t39) a + S1x128.size a ≤ S128x128.size a) ∧
  ((k0_t40_loop v967 v975).OK) ∧
  (∀ k0_t40 : Fin (k0_t40_loop v967 v975).trips, ∀ a, (k0_off40 v967 v975 k0_t40) a + S1x128.size a ≤ S128x128.size a)
theorem k0_t39_ok : ∀ (v967 : BitVec 32) (v975 : BitVec 32) (k0_hw20 : k0_chk20 v967 v975), (k0_t39_loop v967 v975).OK := fun v967 v975 k0_hw20 => k0_hw20.1
theorem k0_off39_inb : ∀ (v967 : BitVec 32) (v975 : BitVec 32) (k0_hw20 : k0_chk20 v967 v975) (k0_t39 : Fin (k0_t39_loop v967 v975).trips), ∀ a, (k0_off39 v967 v975 k0_t39) a + S1x128.size a ≤ S128x128.size a := fun v967 v975 k0_hw20 k0_t39 => k0_hw20.2.1 k0_t39
theorem k0_t40_ok : ∀ (v967 : BitVec 32) (v975 : BitVec 32) (k0_hw20 : k0_chk20 v967 v975), (k0_t40_loop v967 v975).OK := fun v967 v975 k0_hw20 => k0_hw20.2.2.1
theorem k0_off40_inb : ∀ (v967 : BitVec 32) (v975 : BitVec 32) (k0_hw20 : k0_chk20 v967 v975) (k0_t40 : Fin (k0_t40_loop v967 v975).trips), ∀ a, (k0_off40 v967 v975 k0_t40) a + S1x128.size a ≤ S128x128.size a := fun v967 v975 k0_hw20 k0_t40 => k0_hw20.2.2.2 k0_t40

@[reducible] def k0_t41_loop (v1016 : BitVec 32) (v1024 : BitVec 32) : Scf.Loop 32 :=
  let c1_i32_360 : BitVec 32 := 1#32
  let v1025 : BitVec 32 := Scalar.addi v1024 c1_i32_360
  let v1027 : BitVec 32 := Scalar.subi v1025 v1016
  let c1_i32_362 : BitVec 32 := 1#32
  let v1029 : BitVec 32 := Scalar.divsi v1027 c1_i32_362
  let v1030 : BitVec 32 := Scalar.muli v1029 c1_i32_362
  let v1031 : BitVec 32 := Scalar.addi v1016 v1030
  let c1_i32_363 : BitVec 32 := 1#32
  ⟨v1016, v1031, c1_i32_363⟩

def k0_off41 (v1016 : BitVec 32) (v1024 : BitVec 32) (k0_t41 : Fin (k0_t41_loop v1016 v1024).trips) : Fin 2 → Nat :=
  let c1_i32_363 : BitVec 32 := 1#32
  let arg7 : BitVec 32 := Scf.iv v1016 c1_i32_363 k0_t41
  let v1577 : Index := Scalar.indexCast arg7
  let c0_558 : Index := 0#32
  ![v1577.toNat, 0]
@[reducible] def k0_t42_loop (v1016 : BitVec 32) (v1024 : BitVec 32) : Scf.Loop 32 :=
  let c1_i32_360 : BitVec 32 := 1#32
  let v1025 : BitVec 32 := Scalar.addi v1024 c1_i32_360
  let v1027 : BitVec 32 := Scalar.subi v1025 v1016
  let c1_i32_362 : BitVec 32 := 1#32
  let v1029 : BitVec 32 := Scalar.divsi v1027 c1_i32_362
  let v1030 : BitVec 32 := Scalar.muli v1029 c1_i32_362
  let v1031 : BitVec 32 := Scalar.addi v1016 v1030
  let v1028 : BitVec 32 := Scalar.addi v1016 v1027
  let c1_i32_364 : BitVec 32 := 1#32
  ⟨v1031, v1028, c1_i32_364⟩
def k0_off42 (v1016 : BitVec 32) (v1024 : BitVec 32) (k0_t42 : Fin (k0_t42_loop v1016 v1024).trips) : Fin 2 → Nat :=
  let c1_i32_360 : BitVec 32 := 1#32
  let v1025 : BitVec 32 := Scalar.addi v1024 c1_i32_360
  let v1027 : BitVec 32 := Scalar.subi v1025 v1016
  let c1_i32_362 : BitVec 32 := 1#32
  let v1029 : BitVec 32 := Scalar.divsi v1027 c1_i32_362
  let v1030 : BitVec 32 := Scalar.muli v1029 c1_i32_362
  let v1031 : BitVec 32 := Scalar.addi v1016 v1030
  let c1_i32_364 : BitVec 32 := 1#32
  let arg7 : BitVec 32 := Scf.iv v1031 c1_i32_364 k0_t42
  let v1577 : Index := Scalar.indexCast arg7
  let c0_558 : Index := 0#32
  ![v1577.toNat, 0]

def k0_chk21 (v1016 : BitVec 32) (v1024 : BitVec 32) : Prop :=
  ((k0_t41_loop v1016 v1024).OK) ∧
  (∀ k0_t41 : Fin (k0_t41_loop v1016 v1024).trips, ∀ a, (k0_off41 v1016 v1024 k0_t41) a + S1x128.size a ≤ S128x128.size a) ∧
  ((k0_t42_loop v1016 v1024).OK) ∧
  (∀ k0_t42 : Fin (k0_t42_loop v1016 v1024).trips, ∀ a, (k0_off42 v1016 v1024 k0_t42) a + S1x128.size a ≤ S128x128.size a)
theorem k0_t41_ok : ∀ (v1016 : BitVec 32) (v1024 : BitVec 32) (k0_hw21 : k0_chk21 v1016 v1024), (k0_t41_loop v1016 v1024).OK := fun v1016 v1024 k0_hw21 => k0_hw21.1
theorem k0_off41_inb : ∀ (v1016 : BitVec 32) (v1024 : BitVec 32) (k0_hw21 : k0_chk21 v1016 v1024) (k0_t41 : Fin (k0_t41_loop v1016 v1024).trips), ∀ a, (k0_off41 v1016 v1024 k0_t41) a + S1x128.size a ≤ S128x128.size a := fun v1016 v1024 k0_hw21 k0_t41 => k0_hw21.2.1 k0_t41
theorem k0_t42_ok : ∀ (v1016 : BitVec 32) (v1024 : BitVec 32) (k0_hw21 : k0_chk21 v1016 v1024), (k0_t42_loop v1016 v1024).OK := fun v1016 v1024 k0_hw21 => k0_hw21.2.2.1
theorem k0_off42_inb : ∀ (v1016 : BitVec 32) (v1024 : BitVec 32) (k0_hw21 : k0_chk21 v1016 v1024) (k0_t42 : Fin (k0_t42_loop v1016 v1024).trips), ∀ a, (k0_off42 v1016 v1024 k0_t42) a + S1x128.size a ≤ S128x128.size a := fun v1016 v1024 k0_hw21 k0_t42 => k0_hw21.2.2.2 k0_t42

@[reducible] def k0_t43_loop (v1065 : BitVec 32) (v1073 : BitVec 32) : Scf.Loop 32 :=
  let c1_i32_377 : BitVec 32 := 1#32
  let v1074 : BitVec 32 := Scalar.addi v1073 c1_i32_377
  let v1076 : BitVec 32 := Scalar.subi v1074 v1065
  let c1_i32_379 : BitVec 32 := 1#32
  let v1078 : BitVec 32 := Scalar.divsi v1076 c1_i32_379
  let v1079 : BitVec 32 := Scalar.muli v1078 c1_i32_379
  let v1080 : BitVec 32 := Scalar.addi v1065 v1079
  let c1_i32_380 : BitVec 32 := 1#32
  ⟨v1065, v1080, c1_i32_380⟩

def k0_off43 (v1065 : BitVec 32) (v1073 : BitVec 32) (k0_t43 : Fin (k0_t43_loop v1065 v1073).trips) : Fin 2 → Nat :=
  let c1_i32_380 : BitVec 32 := 1#32
  let arg7 : BitVec 32 := Scf.iv v1065 c1_i32_380 k0_t43
  let v1577 : Index := Scalar.indexCast arg7
  let c0_558 : Index := 0#32
  ![v1577.toNat, 0]
@[reducible] def k0_t44_loop (v1065 : BitVec 32) (v1073 : BitVec 32) : Scf.Loop 32 :=
  let c1_i32_377 : BitVec 32 := 1#32
  let v1074 : BitVec 32 := Scalar.addi v1073 c1_i32_377
  let v1076 : BitVec 32 := Scalar.subi v1074 v1065
  let c1_i32_379 : BitVec 32 := 1#32
  let v1078 : BitVec 32 := Scalar.divsi v1076 c1_i32_379
  let v1079 : BitVec 32 := Scalar.muli v1078 c1_i32_379
  let v1080 : BitVec 32 := Scalar.addi v1065 v1079
  let v1077 : BitVec 32 := Scalar.addi v1065 v1076
  let c1_i32_381 : BitVec 32 := 1#32
  ⟨v1080, v1077, c1_i32_381⟩
def k0_off44 (v1065 : BitVec 32) (v1073 : BitVec 32) (k0_t44 : Fin (k0_t44_loop v1065 v1073).trips) : Fin 2 → Nat :=
  let c1_i32_377 : BitVec 32 := 1#32
  let v1074 : BitVec 32 := Scalar.addi v1073 c1_i32_377
  let v1076 : BitVec 32 := Scalar.subi v1074 v1065
  let c1_i32_379 : BitVec 32 := 1#32
  let v1078 : BitVec 32 := Scalar.divsi v1076 c1_i32_379
  let v1079 : BitVec 32 := Scalar.muli v1078 c1_i32_379
  let v1080 : BitVec 32 := Scalar.addi v1065 v1079
  let c1_i32_381 : BitVec 32 := 1#32
  let arg7 : BitVec 32 := Scf.iv v1080 c1_i32_381 k0_t44
  let v1577 : Index := Scalar.indexCast arg7
  let c0_558 : Index := 0#32
  ![v1577.toNat, 0]

def k0_chk22 (v1065 : BitVec 32) (v1073 : BitVec 32) : Prop :=
  ((k0_t43_loop v1065 v1073).OK) ∧
  (∀ k0_t43 : Fin (k0_t43_loop v1065 v1073).trips, ∀ a, (k0_off43 v1065 v1073 k0_t43) a + S1x128.size a ≤ S128x128.size a) ∧
  ((k0_t44_loop v1065 v1073).OK) ∧
  (∀ k0_t44 : Fin (k0_t44_loop v1065 v1073).trips, ∀ a, (k0_off44 v1065 v1073 k0_t44) a + S1x128.size a ≤ S128x128.size a)
theorem k0_t43_ok : ∀ (v1065 : BitVec 32) (v1073 : BitVec 32) (k0_hw22 : k0_chk22 v1065 v1073), (k0_t43_loop v1065 v1073).OK := fun v1065 v1073 k0_hw22 => k0_hw22.1
theorem k0_off43_inb : ∀ (v1065 : BitVec 32) (v1073 : BitVec 32) (k0_hw22 : k0_chk22 v1065 v1073) (k0_t43 : Fin (k0_t43_loop v1065 v1073).trips), ∀ a, (k0_off43 v1065 v1073 k0_t43) a + S1x128.size a ≤ S128x128.size a := fun v1065 v1073 k0_hw22 k0_t43 => k0_hw22.2.1 k0_t43
theorem k0_t44_ok : ∀ (v1065 : BitVec 32) (v1073 : BitVec 32) (k0_hw22 : k0_chk22 v1065 v1073), (k0_t44_loop v1065 v1073).OK := fun v1065 v1073 k0_hw22 => k0_hw22.2.2.1
theorem k0_off44_inb : ∀ (v1065 : BitVec 32) (v1073 : BitVec 32) (k0_hw22 : k0_chk22 v1065 v1073) (k0_t44 : Fin (k0_t44_loop v1065 v1073).trips), ∀ a, (k0_off44 v1065 v1073 k0_t44) a + S1x128.size a ≤ S128x128.size a := fun v1065 v1073 k0_hw22 k0_t44 => k0_hw22.2.2.2 k0_t44

@[reducible] def k0_t45_loop (v1114 : BitVec 32) (v1122 : BitVec 32) : Scf.Loop 32 :=
  let c1_i32_395 : BitVec 32 := 1#32
  let v1123 : BitVec 32 := Scalar.addi v1122 c1_i32_395
  let v1125 : BitVec 32 := Scalar.subi v1123 v1114
  let c1_i32_397 : BitVec 32 := 1#32
  let v1127 : BitVec 32 := Scalar.divsi v1125 c1_i32_397
  let v1128 : BitVec 32 := Scalar.muli v1127 c1_i32_397
  let v1129 : BitVec 32 := Scalar.addi v1114 v1128
  let c1_i32_398 : BitVec 32 := 1#32
  ⟨v1114, v1129, c1_i32_398⟩

def k0_off45 (v1114 : BitVec 32) (v1122 : BitVec 32) (k0_t45 : Fin (k0_t45_loop v1114 v1122).trips) : Fin 2 → Nat :=
  let c1_i32_398 : BitVec 32 := 1#32
  let arg7 : BitVec 32 := Scf.iv v1114 c1_i32_398 k0_t45
  let v1577 : Index := Scalar.indexCast arg7
  let c0_558 : Index := 0#32
  ![v1577.toNat, 0]
@[reducible] def k0_t46_loop (v1114 : BitVec 32) (v1122 : BitVec 32) : Scf.Loop 32 :=
  let c1_i32_395 : BitVec 32 := 1#32
  let v1123 : BitVec 32 := Scalar.addi v1122 c1_i32_395
  let v1125 : BitVec 32 := Scalar.subi v1123 v1114
  let c1_i32_397 : BitVec 32 := 1#32
  let v1127 : BitVec 32 := Scalar.divsi v1125 c1_i32_397
  let v1128 : BitVec 32 := Scalar.muli v1127 c1_i32_397
  let v1129 : BitVec 32 := Scalar.addi v1114 v1128
  let v1126 : BitVec 32 := Scalar.addi v1114 v1125
  let c1_i32_399 : BitVec 32 := 1#32
  ⟨v1129, v1126, c1_i32_399⟩
def k0_off46 (v1114 : BitVec 32) (v1122 : BitVec 32) (k0_t46 : Fin (k0_t46_loop v1114 v1122).trips) : Fin 2 → Nat :=
  let c1_i32_395 : BitVec 32 := 1#32
  let v1123 : BitVec 32 := Scalar.addi v1122 c1_i32_395
  let v1125 : BitVec 32 := Scalar.subi v1123 v1114
  let c1_i32_397 : BitVec 32 := 1#32
  let v1127 : BitVec 32 := Scalar.divsi v1125 c1_i32_397
  let v1128 : BitVec 32 := Scalar.muli v1127 c1_i32_397
  let v1129 : BitVec 32 := Scalar.addi v1114 v1128
  let c1_i32_399 : BitVec 32 := 1#32
  let arg7 : BitVec 32 := Scf.iv v1129 c1_i32_399 k0_t46
  let v1577 : Index := Scalar.indexCast arg7
  let c0_558 : Index := 0#32
  ![v1577.toNat, 0]

def k0_chk23 (v1114 : BitVec 32) (v1122 : BitVec 32) : Prop :=
  ((k0_t45_loop v1114 v1122).OK) ∧
  (∀ k0_t45 : Fin (k0_t45_loop v1114 v1122).trips, ∀ a, (k0_off45 v1114 v1122 k0_t45) a + S1x128.size a ≤ S128x128.size a) ∧
  ((k0_t46_loop v1114 v1122).OK) ∧
  (∀ k0_t46 : Fin (k0_t46_loop v1114 v1122).trips, ∀ a, (k0_off46 v1114 v1122 k0_t46) a + S1x128.size a ≤ S128x128.size a)
theorem k0_t45_ok : ∀ (v1114 : BitVec 32) (v1122 : BitVec 32) (k0_hw23 : k0_chk23 v1114 v1122), (k0_t45_loop v1114 v1122).OK := fun v1114 v1122 k0_hw23 => k0_hw23.1
theorem k0_off45_inb : ∀ (v1114 : BitVec 32) (v1122 : BitVec 32) (k0_hw23 : k0_chk23 v1114 v1122) (k0_t45 : Fin (k0_t45_loop v1114 v1122).trips), ∀ a, (k0_off45 v1114 v1122 k0_t45) a + S1x128.size a ≤ S128x128.size a := fun v1114 v1122 k0_hw23 k0_t45 => k0_hw23.2.1 k0_t45
theorem k0_t46_ok : ∀ (v1114 : BitVec 32) (v1122 : BitVec 32) (k0_hw23 : k0_chk23 v1114 v1122), (k0_t46_loop v1114 v1122).OK := fun v1114 v1122 k0_hw23 => k0_hw23.2.2.1
theorem k0_off46_inb : ∀ (v1114 : BitVec 32) (v1122 : BitVec 32) (k0_hw23 : k0_chk23 v1114 v1122) (k0_t46 : Fin (k0_t46_loop v1114 v1122).trips), ∀ a, (k0_off46 v1114 v1122 k0_t46) a + S1x128.size a ≤ S128x128.size a := fun v1114 v1122 k0_hw23 k0_t46 => k0_hw23.2.2.2 k0_t46

@[reducible] def k0_t47_loop (v1163 : BitVec 32) (v1171 : BitVec 32) : Scf.Loop 32 :=
  let c1_i32_412 : BitVec 32 := 1#32
  let v1172 : BitVec 32 := Scalar.addi v1171 c1_i32_412
  let v1174 : BitVec 32 := Scalar.subi v1172 v1163
  let c1_i32_414 : BitVec 32 := 1#32
  let v1176 : BitVec 32 := Scalar.divsi v1174 c1_i32_414
  let v1177 : BitVec 32 := Scalar.muli v1176 c1_i32_414
  let v1178 : BitVec 32 := Scalar.addi v1163 v1177
  let c1_i32_415 : BitVec 32 := 1#32
  ⟨v1163, v1178, c1_i32_415⟩

def k0_off47 (v1163 : BitVec 32) (v1171 : BitVec 32) (k0_t47 : Fin (k0_t47_loop v1163 v1171).trips) : Fin 2 → Nat :=
  let c1_i32_415 : BitVec 32 := 1#32
  let arg7 : BitVec 32 := Scf.iv v1163 c1_i32_415 k0_t47
  let v1577 : Index := Scalar.indexCast arg7
  let c0_558 : Index := 0#32
  ![v1577.toNat, 0]
@[reducible] def k0_t48_loop (v1163 : BitVec 32) (v1171 : BitVec 32) : Scf.Loop 32 :=
  let c1_i32_412 : BitVec 32 := 1#32
  let v1172 : BitVec 32 := Scalar.addi v1171 c1_i32_412
  let v1174 : BitVec 32 := Scalar.subi v1172 v1163
  let c1_i32_414 : BitVec 32 := 1#32
  let v1176 : BitVec 32 := Scalar.divsi v1174 c1_i32_414
  let v1177 : BitVec 32 := Scalar.muli v1176 c1_i32_414
  let v1178 : BitVec 32 := Scalar.addi v1163 v1177
  let v1175 : BitVec 32 := Scalar.addi v1163 v1174
  let c1_i32_416 : BitVec 32 := 1#32
  ⟨v1178, v1175, c1_i32_416⟩
def k0_off48 (v1163 : BitVec 32) (v1171 : BitVec 32) (k0_t48 : Fin (k0_t48_loop v1163 v1171).trips) : Fin 2 → Nat :=
  let c1_i32_412 : BitVec 32 := 1#32
  let v1172 : BitVec 32 := Scalar.addi v1171 c1_i32_412
  let v1174 : BitVec 32 := Scalar.subi v1172 v1163
  let c1_i32_414 : BitVec 32 := 1#32
  let v1176 : BitVec 32 := Scalar.divsi v1174 c1_i32_414
  let v1177 : BitVec 32 := Scalar.muli v1176 c1_i32_414
  let v1178 : BitVec 32 := Scalar.addi v1163 v1177
  let c1_i32_416 : BitVec 32 := 1#32
  let arg7 : BitVec 32 := Scf.iv v1178 c1_i32_416 k0_t48
  let v1577 : Index := Scalar.indexCast arg7
  let c0_558 : Index := 0#32
  ![v1577.toNat, 0]

def k0_chk24 (v1163 : BitVec 32) (v1171 : BitVec 32) : Prop :=
  ((k0_t47_loop v1163 v1171).OK) ∧
  (∀ k0_t47 : Fin (k0_t47_loop v1163 v1171).trips, ∀ a, (k0_off47 v1163 v1171 k0_t47) a + S1x128.size a ≤ S128x128.size a) ∧
  ((k0_t48_loop v1163 v1171).OK) ∧
  (∀ k0_t48 : Fin (k0_t48_loop v1163 v1171).trips, ∀ a, (k0_off48 v1163 v1171 k0_t48) a + S1x128.size a ≤ S128x128.size a)
theorem k0_t47_ok : ∀ (v1163 : BitVec 32) (v1171 : BitVec 32) (k0_hw24 : k0_chk24 v1163 v1171), (k0_t47_loop v1163 v1171).OK := fun v1163 v1171 k0_hw24 => k0_hw24.1
theorem k0_off47_inb : ∀ (v1163 : BitVec 32) (v1171 : BitVec 32) (k0_hw24 : k0_chk24 v1163 v1171) (k0_t47 : Fin (k0_t47_loop v1163 v1171).trips), ∀ a, (k0_off47 v1163 v1171 k0_t47) a + S1x128.size a ≤ S128x128.size a := fun v1163 v1171 k0_hw24 k0_t47 => k0_hw24.2.1 k0_t47
theorem k0_t48_ok : ∀ (v1163 : BitVec 32) (v1171 : BitVec 32) (k0_hw24 : k0_chk24 v1163 v1171), (k0_t48_loop v1163 v1171).OK := fun v1163 v1171 k0_hw24 => k0_hw24.2.2.1
theorem k0_off48_inb : ∀ (v1163 : BitVec 32) (v1171 : BitVec 32) (k0_hw24 : k0_chk24 v1163 v1171) (k0_t48 : Fin (k0_t48_loop v1163 v1171).trips), ∀ a, (k0_off48 v1163 v1171 k0_t48) a + S1x128.size a ≤ S128x128.size a := fun v1163 v1171 k0_hw24 k0_t48 => k0_hw24.2.2.2 k0_t48

@[reducible] def k0_t49_loop (v1212 : BitVec 32) (v1220 : BitVec 32) : Scf.Loop 32 :=
  let c1_i32_430 : BitVec 32 := 1#32
  let v1221 : BitVec 32 := Scalar.addi v1220 c1_i32_430
  let v1223 : BitVec 32 := Scalar.subi v1221 v1212
  let c1_i32_432 : BitVec 32 := 1#32
  let v1225 : BitVec 32 := Scalar.divsi v1223 c1_i32_432
  let v1226 : BitVec 32 := Scalar.muli v1225 c1_i32_432
  let v1227 : BitVec 32 := Scalar.addi v1212 v1226
  let c1_i32_433 : BitVec 32 := 1#32
  ⟨v1212, v1227, c1_i32_433⟩

def k0_off49 (v1212 : BitVec 32) (v1220 : BitVec 32) (k0_t49 : Fin (k0_t49_loop v1212 v1220).trips) : Fin 2 → Nat :=
  let c1_i32_433 : BitVec 32 := 1#32
  let arg7 : BitVec 32 := Scf.iv v1212 c1_i32_433 k0_t49
  let v1577 : Index := Scalar.indexCast arg7
  let c0_558 : Index := 0#32
  ![v1577.toNat, 0]
@[reducible] def k0_t50_loop (v1212 : BitVec 32) (v1220 : BitVec 32) : Scf.Loop 32 :=
  let c1_i32_430 : BitVec 32 := 1#32
  let v1221 : BitVec 32 := Scalar.addi v1220 c1_i32_430
  let v1223 : BitVec 32 := Scalar.subi v1221 v1212
  let c1_i32_432 : BitVec 32 := 1#32
  let v1225 : BitVec 32 := Scalar.divsi v1223 c1_i32_432
  let v1226 : BitVec 32 := Scalar.muli v1225 c1_i32_432
  let v1227 : BitVec 32 := Scalar.addi v1212 v1226
  let v1224 : BitVec 32 := Scalar.addi v1212 v1223
  let c1_i32_434 : BitVec 32 := 1#32
  ⟨v1227, v1224, c1_i32_434⟩
def k0_off50 (v1212 : BitVec 32) (v1220 : BitVec 32) (k0_t50 : Fin (k0_t50_loop v1212 v1220).trips) : Fin 2 → Nat :=
  let c1_i32_430 : BitVec 32 := 1#32
  let v1221 : BitVec 32 := Scalar.addi v1220 c1_i32_430
  let v1223 : BitVec 32 := Scalar.subi v1221 v1212
  let c1_i32_432 : BitVec 32 := 1#32
  let v1225 : BitVec 32 := Scalar.divsi v1223 c1_i32_432
  let v1226 : BitVec 32 := Scalar.muli v1225 c1_i32_432
  let v1227 : BitVec 32 := Scalar.addi v1212 v1226
  let c1_i32_434 : BitVec 32 := 1#32
  let arg7 : BitVec 32 := Scf.iv v1227 c1_i32_434 k0_t50
  let v1577 : Index := Scalar.indexCast arg7
  let c0_558 : Index := 0#32
  ![v1577.toNat, 0]

def k0_chk25 (v1212 : BitVec 32) (v1220 : BitVec 32) : Prop :=
  ((k0_t49_loop v1212 v1220).OK) ∧
  (∀ k0_t49 : Fin (k0_t49_loop v1212 v1220).trips, ∀ a, (k0_off49 v1212 v1220 k0_t49) a + S1x128.size a ≤ S128x128.size a) ∧
  ((k0_t50_loop v1212 v1220).OK) ∧
  (∀ k0_t50 : Fin (k0_t50_loop v1212 v1220).trips, ∀ a, (k0_off50 v1212 v1220 k0_t50) a + S1x128.size a ≤ S128x128.size a)
theorem k0_t49_ok : ∀ (v1212 : BitVec 32) (v1220 : BitVec 32) (k0_hw25 : k0_chk25 v1212 v1220), (k0_t49_loop v1212 v1220).OK := fun v1212 v1220 k0_hw25 => k0_hw25.1
theorem k0_off49_inb : ∀ (v1212 : BitVec 32) (v1220 : BitVec 32) (k0_hw25 : k0_chk25 v1212 v1220) (k0_t49 : Fin (k0_t49_loop v1212 v1220).trips), ∀ a, (k0_off49 v1212 v1220 k0_t49) a + S1x128.size a ≤ S128x128.size a := fun v1212 v1220 k0_hw25 k0_t49 => k0_hw25.2.1 k0_t49
theorem k0_t50_ok : ∀ (v1212 : BitVec 32) (v1220 : BitVec 32) (k0_hw25 : k0_chk25 v1212 v1220), (k0_t50_loop v1212 v1220).OK := fun v1212 v1220 k0_hw25 => k0_hw25.2.2.1
theorem k0_off50_inb : ∀ (v1212 : BitVec 32) (v1220 : BitVec 32) (k0_hw25 : k0_chk25 v1212 v1220) (k0_t50 : Fin (k0_t50_loop v1212 v1220).trips), ∀ a, (k0_off50 v1212 v1220 k0_t50) a + S1x128.size a ≤ S128x128.size a := fun v1212 v1220 k0_hw25 k0_t50 => k0_hw25.2.2.2 k0_t50

@[reducible] def k0_t51_loop (v1261 : BitVec 32) (v1269 : BitVec 32) : Scf.Loop 32 :=
  let c1_i32_447 : BitVec 32 := 1#32
  let v1270 : BitVec 32 := Scalar.addi v1269 c1_i32_447
  let v1272 : BitVec 32 := Scalar.subi v1270 v1261
  let c1_i32_449 : BitVec 32 := 1#32
  let v1274 : BitVec 32 := Scalar.divsi v1272 c1_i32_449
  let v1275 : BitVec 32 := Scalar.muli v1274 c1_i32_449
  let v1276 : BitVec 32 := Scalar.addi v1261 v1275
  let c1_i32_450 : BitVec 32 := 1#32
  ⟨v1261, v1276, c1_i32_450⟩

def k0_off51 (v1261 : BitVec 32) (v1269 : BitVec 32) (k0_t51 : Fin (k0_t51_loop v1261 v1269).trips) : Fin 2 → Nat :=
  let c1_i32_450 : BitVec 32 := 1#32
  let arg7 : BitVec 32 := Scf.iv v1261 c1_i32_450 k0_t51
  let v1577 : Index := Scalar.indexCast arg7
  let c0_558 : Index := 0#32
  ![v1577.toNat, 0]
@[reducible] def k0_t52_loop (v1261 : BitVec 32) (v1269 : BitVec 32) : Scf.Loop 32 :=
  let c1_i32_447 : BitVec 32 := 1#32
  let v1270 : BitVec 32 := Scalar.addi v1269 c1_i32_447
  let v1272 : BitVec 32 := Scalar.subi v1270 v1261
  let c1_i32_449 : BitVec 32 := 1#32
  let v1274 : BitVec 32 := Scalar.divsi v1272 c1_i32_449
  let v1275 : BitVec 32 := Scalar.muli v1274 c1_i32_449
  let v1276 : BitVec 32 := Scalar.addi v1261 v1275
  let v1273 : BitVec 32 := Scalar.addi v1261 v1272
  let c1_i32_451 : BitVec 32 := 1#32
  ⟨v1276, v1273, c1_i32_451⟩
def k0_off52 (v1261 : BitVec 32) (v1269 : BitVec 32) (k0_t52 : Fin (k0_t52_loop v1261 v1269).trips) : Fin 2 → Nat :=
  let c1_i32_447 : BitVec 32 := 1#32
  let v1270 : BitVec 32 := Scalar.addi v1269 c1_i32_447
  let v1272 : BitVec 32 := Scalar.subi v1270 v1261
  let c1_i32_449 : BitVec 32 := 1#32
  let v1274 : BitVec 32 := Scalar.divsi v1272 c1_i32_449
  let v1275 : BitVec 32 := Scalar.muli v1274 c1_i32_449
  let v1276 : BitVec 32 := Scalar.addi v1261 v1275
  let c1_i32_451 : BitVec 32 := 1#32
  let arg7 : BitVec 32 := Scf.iv v1276 c1_i32_451 k0_t52
  let v1577 : Index := Scalar.indexCast arg7
  let c0_558 : Index := 0#32
  ![v1577.toNat, 0]

def k0_chk26 (v1261 : BitVec 32) (v1269 : BitVec 32) : Prop :=
  ((k0_t51_loop v1261 v1269).OK) ∧
  (∀ k0_t51 : Fin (k0_t51_loop v1261 v1269).trips, ∀ a, (k0_off51 v1261 v1269 k0_t51) a + S1x128.size a ≤ S128x128.size a) ∧
  ((k0_t52_loop v1261 v1269).OK) ∧
  (∀ k0_t52 : Fin (k0_t52_loop v1261 v1269).trips, ∀ a, (k0_off52 v1261 v1269 k0_t52) a + S1x128.size a ≤ S128x128.size a)
theorem k0_t51_ok : ∀ (v1261 : BitVec 32) (v1269 : BitVec 32) (k0_hw26 : k0_chk26 v1261 v1269), (k0_t51_loop v1261 v1269).OK := fun v1261 v1269 k0_hw26 => k0_hw26.1
theorem k0_off51_inb : ∀ (v1261 : BitVec 32) (v1269 : BitVec 32) (k0_hw26 : k0_chk26 v1261 v1269) (k0_t51 : Fin (k0_t51_loop v1261 v1269).trips), ∀ a, (k0_off51 v1261 v1269 k0_t51) a + S1x128.size a ≤ S128x128.size a := fun v1261 v1269 k0_hw26 k0_t51 => k0_hw26.2.1 k0_t51
theorem k0_t52_ok : ∀ (v1261 : BitVec 32) (v1269 : BitVec 32) (k0_hw26 : k0_chk26 v1261 v1269), (k0_t52_loop v1261 v1269).OK := fun v1261 v1269 k0_hw26 => k0_hw26.2.2.1
theorem k0_off52_inb : ∀ (v1261 : BitVec 32) (v1269 : BitVec 32) (k0_hw26 : k0_chk26 v1261 v1269) (k0_t52 : Fin (k0_t52_loop v1261 v1269).trips), ∀ a, (k0_off52 v1261 v1269 k0_t52) a + S1x128.size a ≤ S128x128.size a := fun v1261 v1269 k0_hw26 k0_t52 => k0_hw26.2.2.2 k0_t52

@[reducible] def k0_t53_loop (v1310 : BitVec 32) (v1318 : BitVec 32) : Scf.Loop 32 :=
  let c1_i32_465 : BitVec 32 := 1#32
  let v1319 : BitVec 32 := Scalar.addi v1318 c1_i32_465
  let v1321 : BitVec 32 := Scalar.subi v1319 v1310
  let c1_i32_467 : BitVec 32 := 1#32
  let v1323 : BitVec 32 := Scalar.divsi v1321 c1_i32_467
  let v1324 : BitVec 32 := Scalar.muli v1323 c1_i32_467
  let v1325 : BitVec 32 := Scalar.addi v1310 v1324
  let c1_i32_468 : BitVec 32 := 1#32
  ⟨v1310, v1325, c1_i32_468⟩

def k0_off53 (v1310 : BitVec 32) (v1318 : BitVec 32) (k0_t53 : Fin (k0_t53_loop v1310 v1318).trips) : Fin 2 → Nat :=
  let c1_i32_468 : BitVec 32 := 1#32
  let arg7 : BitVec 32 := Scf.iv v1310 c1_i32_468 k0_t53
  let v1577 : Index := Scalar.indexCast arg7
  let c0_558 : Index := 0#32
  ![v1577.toNat, 0]
@[reducible] def k0_t54_loop (v1310 : BitVec 32) (v1318 : BitVec 32) : Scf.Loop 32 :=
  let c1_i32_465 : BitVec 32 := 1#32
  let v1319 : BitVec 32 := Scalar.addi v1318 c1_i32_465
  let v1321 : BitVec 32 := Scalar.subi v1319 v1310
  let c1_i32_467 : BitVec 32 := 1#32
  let v1323 : BitVec 32 := Scalar.divsi v1321 c1_i32_467
  let v1324 : BitVec 32 := Scalar.muli v1323 c1_i32_467
  let v1325 : BitVec 32 := Scalar.addi v1310 v1324
  let v1322 : BitVec 32 := Scalar.addi v1310 v1321
  let c1_i32_469 : BitVec 32 := 1#32
  ⟨v1325, v1322, c1_i32_469⟩
def k0_off54 (v1310 : BitVec 32) (v1318 : BitVec 32) (k0_t54 : Fin (k0_t54_loop v1310 v1318).trips) : Fin 2 → Nat :=
  let c1_i32_465 : BitVec 32 := 1#32
  let v1319 : BitVec 32 := Scalar.addi v1318 c1_i32_465
  let v1321 : BitVec 32 := Scalar.subi v1319 v1310
  let c1_i32_467 : BitVec 32 := 1#32
  let v1323 : BitVec 32 := Scalar.divsi v1321 c1_i32_467
  let v1324 : BitVec 32 := Scalar.muli v1323 c1_i32_467
  let v1325 : BitVec 32 := Scalar.addi v1310 v1324
  let c1_i32_469 : BitVec 32 := 1#32
  let arg7 : BitVec 32 := Scf.iv v1325 c1_i32_469 k0_t54
  let v1577 : Index := Scalar.indexCast arg7
  let c0_558 : Index := 0#32
  ![v1577.toNat, 0]

def k0_chk27 (v1310 : BitVec 32) (v1318 : BitVec 32) : Prop :=
  ((k0_t53_loop v1310 v1318).OK) ∧
  (∀ k0_t53 : Fin (k0_t53_loop v1310 v1318).trips, ∀ a, (k0_off53 v1310 v1318 k0_t53) a + S1x128.size a ≤ S128x128.size a) ∧
  ((k0_t54_loop v1310 v1318).OK) ∧
  (∀ k0_t54 : Fin (k0_t54_loop v1310 v1318).trips, ∀ a, (k0_off54 v1310 v1318 k0_t54) a + S1x128.size a ≤ S128x128.size a)
theorem k0_t53_ok : ∀ (v1310 : BitVec 32) (v1318 : BitVec 32) (k0_hw27 : k0_chk27 v1310 v1318), (k0_t53_loop v1310 v1318).OK := fun v1310 v1318 k0_hw27 => k0_hw27.1
theorem k0_off53_inb : ∀ (v1310 : BitVec 32) (v1318 : BitVec 32) (k0_hw27 : k0_chk27 v1310 v1318) (k0_t53 : Fin (k0_t53_loop v1310 v1318).trips), ∀ a, (k0_off53 v1310 v1318 k0_t53) a + S1x128.size a ≤ S128x128.size a := fun v1310 v1318 k0_hw27 k0_t53 => k0_hw27.2.1 k0_t53
theorem k0_t54_ok : ∀ (v1310 : BitVec 32) (v1318 : BitVec 32) (k0_hw27 : k0_chk27 v1310 v1318), (k0_t54_loop v1310 v1318).OK := fun v1310 v1318 k0_hw27 => k0_hw27.2.2.1
theorem k0_off54_inb : ∀ (v1310 : BitVec 32) (v1318 : BitVec 32) (k0_hw27 : k0_chk27 v1310 v1318) (k0_t54 : Fin (k0_t54_loop v1310 v1318).trips), ∀ a, (k0_off54 v1310 v1318 k0_t54) a + S1x128.size a ≤ S128x128.size a := fun v1310 v1318 k0_hw27 k0_t54 => k0_hw27.2.2.2 k0_t54

@[reducible] def k0_t55_loop (v1359 : BitVec 32) (v1367 : BitVec 32) : Scf.Loop 32 :=
  let c1_i32_482 : BitVec 32 := 1#32
  let v1368 : BitVec 32 := Scalar.addi v1367 c1_i32_482
  let v1370 : BitVec 32 := Scalar.subi v1368 v1359
  let c1_i32_484 : BitVec 32 := 1#32
  let v1372 : BitVec 32 := Scalar.divsi v1370 c1_i32_484
  let v1373 : BitVec 32 := Scalar.muli v1372 c1_i32_484
  let v1374 : BitVec 32 := Scalar.addi v1359 v1373
  let c1_i32_485 : BitVec 32 := 1#32
  ⟨v1359, v1374, c1_i32_485⟩

def k0_off55 (v1359 : BitVec 32) (v1367 : BitVec 32) (k0_t55 : Fin (k0_t55_loop v1359 v1367).trips) : Fin 2 → Nat :=
  let c1_i32_485 : BitVec 32 := 1#32
  let arg7 : BitVec 32 := Scf.iv v1359 c1_i32_485 k0_t55
  let v1577 : Index := Scalar.indexCast arg7
  let c0_558 : Index := 0#32
  ![v1577.toNat, 0]
@[reducible] def k0_t56_loop (v1359 : BitVec 32) (v1367 : BitVec 32) : Scf.Loop 32 :=
  let c1_i32_482 : BitVec 32 := 1#32
  let v1368 : BitVec 32 := Scalar.addi v1367 c1_i32_482
  let v1370 : BitVec 32 := Scalar.subi v1368 v1359
  let c1_i32_484 : BitVec 32 := 1#32
  let v1372 : BitVec 32 := Scalar.divsi v1370 c1_i32_484
  let v1373 : BitVec 32 := Scalar.muli v1372 c1_i32_484
  let v1374 : BitVec 32 := Scalar.addi v1359 v1373
  let v1371 : BitVec 32 := Scalar.addi v1359 v1370
  let c1_i32_486 : BitVec 32 := 1#32
  ⟨v1374, v1371, c1_i32_486⟩
def k0_off56 (v1359 : BitVec 32) (v1367 : BitVec 32) (k0_t56 : Fin (k0_t56_loop v1359 v1367).trips) : Fin 2 → Nat :=
  let c1_i32_482 : BitVec 32 := 1#32
  let v1368 : BitVec 32 := Scalar.addi v1367 c1_i32_482
  let v1370 : BitVec 32 := Scalar.subi v1368 v1359
  let c1_i32_484 : BitVec 32 := 1#32
  let v1372 : BitVec 32 := Scalar.divsi v1370 c1_i32_484
  let v1373 : BitVec 32 := Scalar.muli v1372 c1_i32_484
  let v1374 : BitVec 32 := Scalar.addi v1359 v1373
  let c1_i32_486 : BitVec 32 := 1#32
  let arg7 : BitVec 32 := Scf.iv v1374 c1_i32_486 k0_t56
  let v1577 : Index := Scalar.indexCast arg7
  let c0_558 : Index := 0#32
  ![v1577.toNat, 0]

def k0_chk28 (v1359 : BitVec 32) (v1367 : BitVec 32) : Prop :=
  ((k0_t55_loop v1359 v1367).OK) ∧
  (∀ k0_t55 : Fin (k0_t55_loop v1359 v1367).trips, ∀ a, (k0_off55 v1359 v1367 k0_t55) a + S1x128.size a ≤ S128x128.size a) ∧
  ((k0_t56_loop v1359 v1367).OK) ∧
  (∀ k0_t56 : Fin (k0_t56_loop v1359 v1367).trips, ∀ a, (k0_off56 v1359 v1367 k0_t56) a + S1x128.size a ≤ S128x128.size a)
theorem k0_t55_ok : ∀ (v1359 : BitVec 32) (v1367 : BitVec 32) (k0_hw28 : k0_chk28 v1359 v1367), (k0_t55_loop v1359 v1367).OK := fun v1359 v1367 k0_hw28 => k0_hw28.1
theorem k0_off55_inb : ∀ (v1359 : BitVec 32) (v1367 : BitVec 32) (k0_hw28 : k0_chk28 v1359 v1367) (k0_t55 : Fin (k0_t55_loop v1359 v1367).trips), ∀ a, (k0_off55 v1359 v1367 k0_t55) a + S1x128.size a ≤ S128x128.size a := fun v1359 v1367 k0_hw28 k0_t55 => k0_hw28.2.1 k0_t55
theorem k0_t56_ok : ∀ (v1359 : BitVec 32) (v1367 : BitVec 32) (k0_hw28 : k0_chk28 v1359 v1367), (k0_t56_loop v1359 v1367).OK := fun v1359 v1367 k0_hw28 => k0_hw28.2.2.1
theorem k0_off56_inb : ∀ (v1359 : BitVec 32) (v1367 : BitVec 32) (k0_hw28 : k0_chk28 v1359 v1367) (k0_t56 : Fin (k0_t56_loop v1359 v1367).trips), ∀ a, (k0_off56 v1359 v1367 k0_t56) a + S1x128.size a ≤ S128x128.size a := fun v1359 v1367 k0_hw28 k0_t56 => k0_hw28.2.2.2 k0_t56

@[reducible] def k0_t57_loop (v1408 : BitVec 32) (v1416 : BitVec 32) : Scf.Loop 32 :=
  let c1_i32_500 : BitVec 32 := 1#32
  let v1417 : BitVec 32 := Scalar.addi v1416 c1_i32_500
  let v1419 : BitVec 32 := Scalar.subi v1417 v1408
  let c1_i32_502 : BitVec 32 := 1#32
  let v1421 : BitVec 32 := Scalar.divsi v1419 c1_i32_502
  let v1422 : BitVec 32 := Scalar.muli v1421 c1_i32_502
  let v1423 : BitVec 32 := Scalar.addi v1408 v1422
  let c1_i32_503 : BitVec 32 := 1#32
  ⟨v1408, v1423, c1_i32_503⟩

def k0_off57 (v1408 : BitVec 32) (v1416 : BitVec 32) (k0_t57 : Fin (k0_t57_loop v1408 v1416).trips) : Fin 2 → Nat :=
  let c1_i32_503 : BitVec 32 := 1#32
  let arg7 : BitVec 32 := Scf.iv v1408 c1_i32_503 k0_t57
  let v1577 : Index := Scalar.indexCast arg7
  let c0_558 : Index := 0#32
  ![v1577.toNat, 0]
@[reducible] def k0_t58_loop (v1408 : BitVec 32) (v1416 : BitVec 32) : Scf.Loop 32 :=
  let c1_i32_500 : BitVec 32 := 1#32
  let v1417 : BitVec 32 := Scalar.addi v1416 c1_i32_500
  let v1419 : BitVec 32 := Scalar.subi v1417 v1408
  let c1_i32_502 : BitVec 32 := 1#32
  let v1421 : BitVec 32 := Scalar.divsi v1419 c1_i32_502
  let v1422 : BitVec 32 := Scalar.muli v1421 c1_i32_502
  let v1423 : BitVec 32 := Scalar.addi v1408 v1422
  let v1420 : BitVec 32 := Scalar.addi v1408 v1419
  let c1_i32_504 : BitVec 32 := 1#32
  ⟨v1423, v1420, c1_i32_504⟩
def k0_off58 (v1408 : BitVec 32) (v1416 : BitVec 32) (k0_t58 : Fin (k0_t58_loop v1408 v1416).trips) : Fin 2 → Nat :=
  let c1_i32_500 : BitVec 32 := 1#32
  let v1417 : BitVec 32 := Scalar.addi v1416 c1_i32_500
  let v1419 : BitVec 32 := Scalar.subi v1417 v1408
  let c1_i32_502 : BitVec 32 := 1#32
  let v1421 : BitVec 32 := Scalar.divsi v1419 c1_i32_502
  let v1422 : BitVec 32 := Scalar.muli v1421 c1_i32_502
  let v1423 : BitVec 32 := Scalar.addi v1408 v1422
  let c1_i32_504 : BitVec 32 := 1#32
  let arg7 : BitVec 32 := Scf.iv v1423 c1_i32_504 k0_t58
  let v1577 : Index := Scalar.indexCast arg7
  let c0_558 : Index := 0#32
  ![v1577.toNat, 0]

def k0_chk29 (v1408 : BitVec 32) (v1416 : BitVec 32) : Prop :=
  ((k0_t57_loop v1408 v1416).OK) ∧
  (∀ k0_t57 : Fin (k0_t57_loop v1408 v1416).trips, ∀ a, (k0_off57 v1408 v1416 k0_t57) a + S1x128.size a ≤ S128x128.size a) ∧
  ((k0_t58_loop v1408 v1416).OK) ∧
  (∀ k0_t58 : Fin (k0_t58_loop v1408 v1416).trips, ∀ a, (k0_off58 v1408 v1416 k0_t58) a + S1x128.size a ≤ S128x128.size a)
theorem k0_t57_ok : ∀ (v1408 : BitVec 32) (v1416 : BitVec 32) (k0_hw29 : k0_chk29 v1408 v1416), (k0_t57_loop v1408 v1416).OK := fun v1408 v1416 k0_hw29 => k0_hw29.1
theorem k0_off57_inb : ∀ (v1408 : BitVec 32) (v1416 : BitVec 32) (k0_hw29 : k0_chk29 v1408 v1416) (k0_t57 : Fin (k0_t57_loop v1408 v1416).trips), ∀ a, (k0_off57 v1408 v1416 k0_t57) a + S1x128.size a ≤ S128x128.size a := fun v1408 v1416 k0_hw29 k0_t57 => k0_hw29.2.1 k0_t57
theorem k0_t58_ok : ∀ (v1408 : BitVec 32) (v1416 : BitVec 32) (k0_hw29 : k0_chk29 v1408 v1416), (k0_t58_loop v1408 v1416).OK := fun v1408 v1416 k0_hw29 => k0_hw29.2.2.1
theorem k0_off58_inb : ∀ (v1408 : BitVec 32) (v1416 : BitVec 32) (k0_hw29 : k0_chk29 v1408 v1416) (k0_t58 : Fin (k0_t58_loop v1408 v1416).trips), ∀ a, (k0_off58 v1408 v1416 k0_t58) a + S1x128.size a ≤ S128x128.size a := fun v1408 v1416 k0_hw29 k0_t58 => k0_hw29.2.2.2 k0_t58

@[reducible] def k0_t59_loop (v1457 : BitVec 32) (v1465 : BitVec 32) : Scf.Loop 32 :=
  let c1_i32_517 : BitVec 32 := 1#32
  let v1466 : BitVec 32 := Scalar.addi v1465 c1_i32_517
  let v1468 : BitVec 32 := Scalar.subi v1466 v1457
  let c1_i32_519 : BitVec 32 := 1#32
  let v1470 : BitVec 32 := Scalar.divsi v1468 c1_i32_519
  let v1471 : BitVec 32 := Scalar.muli v1470 c1_i32_519
  let v1472 : BitVec 32 := Scalar.addi v1457 v1471
  let c1_i32_520 : BitVec 32 := 1#32
  ⟨v1457, v1472, c1_i32_520⟩

def k0_off59 (v1457 : BitVec 32) (v1465 : BitVec 32) (k0_t59 : Fin (k0_t59_loop v1457 v1465).trips) : Fin 2 → Nat :=
  let c1_i32_520 : BitVec 32 := 1#32
  let arg7 : BitVec 32 := Scf.iv v1457 c1_i32_520 k0_t59
  let v1577 : Index := Scalar.indexCast arg7
  let c0_558 : Index := 0#32
  ![v1577.toNat, 0]
@[reducible] def k0_t60_loop (v1457 : BitVec 32) (v1465 : BitVec 32) : Scf.Loop 32 :=
  let c1_i32_517 : BitVec 32 := 1#32
  let v1466 : BitVec 32 := Scalar.addi v1465 c1_i32_517
  let v1468 : BitVec 32 := Scalar.subi v1466 v1457
  let c1_i32_519 : BitVec 32 := 1#32
  let v1470 : BitVec 32 := Scalar.divsi v1468 c1_i32_519
  let v1471 : BitVec 32 := Scalar.muli v1470 c1_i32_519
  let v1472 : BitVec 32 := Scalar.addi v1457 v1471
  let v1469 : BitVec 32 := Scalar.addi v1457 v1468
  let c1_i32_521 : BitVec 32 := 1#32
  ⟨v1472, v1469, c1_i32_521⟩
def k0_off60 (v1457 : BitVec 32) (v1465 : BitVec 32) (k0_t60 : Fin (k0_t60_loop v1457 v1465).trips) : Fin 2 → Nat :=
  let c1_i32_517 : BitVec 32 := 1#32
  let v1466 : BitVec 32 := Scalar.addi v1465 c1_i32_517
  let v1468 : BitVec 32 := Scalar.subi v1466 v1457
  let c1_i32_519 : BitVec 32 := 1#32
  let v1470 : BitVec 32 := Scalar.divsi v1468 c1_i32_519
  let v1471 : BitVec 32 := Scalar.muli v1470 c1_i32_519
  let v1472 : BitVec 32 := Scalar.addi v1457 v1471
  let c1_i32_521 : BitVec 32 := 1#32
  let arg7 : BitVec 32 := Scf.iv v1472 c1_i32_521 k0_t60
  let v1577 : Index := Scalar.indexCast arg7
  let c0_558 : Index := 0#32
  ![v1577.toNat, 0]

def k0_chk30 (v1457 : BitVec 32) (v1465 : BitVec 32) : Prop :=
  ((k0_t59_loop v1457 v1465).OK) ∧
  (∀ k0_t59 : Fin (k0_t59_loop v1457 v1465).trips, ∀ a, (k0_off59 v1457 v1465 k0_t59) a + S1x128.size a ≤ S128x128.size a) ∧
  ((k0_t60_loop v1457 v1465).OK) ∧
  (∀ k0_t60 : Fin (k0_t60_loop v1457 v1465).trips, ∀ a, (k0_off60 v1457 v1465 k0_t60) a + S1x128.size a ≤ S128x128.size a)
theorem k0_t59_ok : ∀ (v1457 : BitVec 32) (v1465 : BitVec 32) (k0_hw30 : k0_chk30 v1457 v1465), (k0_t59_loop v1457 v1465).OK := fun v1457 v1465 k0_hw30 => k0_hw30.1
theorem k0_off59_inb : ∀ (v1457 : BitVec 32) (v1465 : BitVec 32) (k0_hw30 : k0_chk30 v1457 v1465) (k0_t59 : Fin (k0_t59_loop v1457 v1465).trips), ∀ a, (k0_off59 v1457 v1465 k0_t59) a + S1x128.size a ≤ S128x128.size a := fun v1457 v1465 k0_hw30 k0_t59 => k0_hw30.2.1 k0_t59
theorem k0_t60_ok : ∀ (v1457 : BitVec 32) (v1465 : BitVec 32) (k0_hw30 : k0_chk30 v1457 v1465), (k0_t60_loop v1457 v1465).OK := fun v1457 v1465 k0_hw30 => k0_hw30.2.2.1
theorem k0_off60_inb : ∀ (v1457 : BitVec 32) (v1465 : BitVec 32) (k0_hw30 : k0_chk30 v1457 v1465) (k0_t60 : Fin (k0_t60_loop v1457 v1465).trips), ∀ a, (k0_off60 v1457 v1465 k0_t60) a + S1x128.size a ≤ S128x128.size a := fun v1457 v1465 k0_hw30 k0_t60 => k0_hw30.2.2.2 k0_t60

@[reducible] def k0_t61_loop (v1506 : BitVec 32) (v1514 : BitVec 32) : Scf.Loop 32 :=
  let c1_i32_535 : BitVec 32 := 1#32
  let v1515 : BitVec 32 := Scalar.addi v1514 c1_i32_535
  let v1517 : BitVec 32 := Scalar.subi v1515 v1506
  let c1_i32_537 : BitVec 32 := 1#32
  let v1519 : BitVec 32 := Scalar.divsi v1517 c1_i32_537
  let v1520 : BitVec 32 := Scalar.muli v1519 c1_i32_537
  let v1521 : BitVec 32 := Scalar.addi v1506 v1520
  let c1_i32_538 : BitVec 32 := 1#32
  ⟨v1506, v1521, c1_i32_538⟩

def k0_off61 (v1506 : BitVec 32) (v1514 : BitVec 32) (k0_t61 : Fin (k0_t61_loop v1506 v1514).trips) : Fin 2 → Nat :=
  let c1_i32_538 : BitVec 32 := 1#32
  let arg7 : BitVec 32 := Scf.iv v1506 c1_i32_538 k0_t61
  let v1577 : Index := Scalar.indexCast arg7
  let c0_558 : Index := 0#32
  ![v1577.toNat, 0]
@[reducible] def k0_t62_loop (v1506 : BitVec 32) (v1514 : BitVec 32) : Scf.Loop 32 :=
  let c1_i32_535 : BitVec 32 := 1#32
  let v1515 : BitVec 32 := Scalar.addi v1514 c1_i32_535
  let v1517 : BitVec 32 := Scalar.subi v1515 v1506
  let c1_i32_537 : BitVec 32 := 1#32
  let v1519 : BitVec 32 := Scalar.divsi v1517 c1_i32_537
  let v1520 : BitVec 32 := Scalar.muli v1519 c1_i32_537
  let v1521 : BitVec 32 := Scalar.addi v1506 v1520
  let v1518 : BitVec 32 := Scalar.addi v1506 v1517
  let c1_i32_539 : BitVec 32 := 1#32
  ⟨v1521, v1518, c1_i32_539⟩
def k0_off62 (v1506 : BitVec 32) (v1514 : BitVec 32) (k0_t62 : Fin (k0_t62_loop v1506 v1514).trips) : Fin 2 → Nat :=
  let c1_i32_535 : BitVec 32 := 1#32
  let v1515 : BitVec 32 := Scalar.addi v1514 c1_i32_535
  let v1517 : BitVec 32 := Scalar.subi v1515 v1506
  let c1_i32_537 : BitVec 32 := 1#32
  let v1519 : BitVec 32 := Scalar.divsi v1517 c1_i32_537
  let v1520 : BitVec 32 := Scalar.muli v1519 c1_i32_537
  let v1521 : BitVec 32 := Scalar.addi v1506 v1520
  let c1_i32_539 : BitVec 32 := 1#32
  let arg7 : BitVec 32 := Scf.iv v1521 c1_i32_539 k0_t62
  let v1577 : Index := Scalar.indexCast arg7
  let c0_558 : Index := 0#32
  ![v1577.toNat, 0]

def k0_chk31 (v1506 : BitVec 32) (v1514 : BitVec 32) : Prop :=
  ((k0_t61_loop v1506 v1514).OK) ∧
  (∀ k0_t61 : Fin (k0_t61_loop v1506 v1514).trips, ∀ a, (k0_off61 v1506 v1514 k0_t61) a + S1x128.size a ≤ S128x128.size a) ∧
  ((k0_t62_loop v1506 v1514).OK) ∧
  (∀ k0_t62 : Fin (k0_t62_loop v1506 v1514).trips, ∀ a, (k0_off62 v1506 v1514 k0_t62) a + S1x128.size a ≤ S128x128.size a)
theorem k0_t61_ok : ∀ (v1506 : BitVec 32) (v1514 : BitVec 32) (k0_hw31 : k0_chk31 v1506 v1514), (k0_t61_loop v1506 v1514).OK := fun v1506 v1514 k0_hw31 => k0_hw31.1
theorem k0_off61_inb : ∀ (v1506 : BitVec 32) (v1514 : BitVec 32) (k0_hw31 : k0_chk31 v1506 v1514) (k0_t61 : Fin (k0_t61_loop v1506 v1514).trips), ∀ a, (k0_off61 v1506 v1514 k0_t61) a + S1x128.size a ≤ S128x128.size a := fun v1506 v1514 k0_hw31 k0_t61 => k0_hw31.2.1 k0_t61
theorem k0_t62_ok : ∀ (v1506 : BitVec 32) (v1514 : BitVec 32) (k0_hw31 : k0_chk31 v1506 v1514), (k0_t62_loop v1506 v1514).OK := fun v1506 v1514 k0_hw31 => k0_hw31.2.2.1
theorem k0_off62_inb : ∀ (v1506 : BitVec 32) (v1514 : BitVec 32) (k0_hw31 : k0_chk31 v1506 v1514) (k0_t62 : Fin (k0_t62_loop v1506 v1514).trips), ∀ a, (k0_off62 v1506 v1514 k0_t62) a + S1x128.size a ≤ S128x128.size a := fun v1506 v1514 k0_hw31 k0_t62 => k0_hw31.2.2.2 k0_t62

@[reducible] def k0_t63_loop (v1555 : BitVec 32) (v1563 : BitVec 32) : Scf.Loop 32 :=
  let c1_i32_552 : BitVec 32 := 1#32
  let v1564 : BitVec 32 := Scalar.addi v1563 c1_i32_552
  let v1566 : BitVec 32 := Scalar.subi v1564 v1555
  let c1_i32_554 : BitVec 32 := 1#32
  let v1568 : BitVec 32 := Scalar.divsi v1566 c1_i32_554
  let v1569 : BitVec 32 := Scalar.muli v1568 c1_i32_554
  let v1570 : BitVec 32 := Scalar.addi v1555 v1569
  let c1_i32_555 : BitVec 32 := 1#32
  ⟨v1555, v1570, c1_i32_555⟩

def k0_off63 (v1555 : BitVec 32) (v1563 : BitVec 32) (k0_t63 : Fin (k0_t63_loop v1555 v1563).trips) : Fin 2 → Nat :=
  let c1_i32_555 : BitVec 32 := 1#32
  let arg7 : BitVec 32 := Scf.iv v1555 c1_i32_555 k0_t63
  let v1577 : Index := Scalar.indexCast arg7
  let c0_558 : Index := 0#32
  ![v1577.toNat, 0]
@[reducible] def k0_t64_loop (v1555 : BitVec 32) (v1563 : BitVec 32) : Scf.Loop 32 :=
  let c1_i32_552 : BitVec 32 := 1#32
  let v1564 : BitVec 32 := Scalar.addi v1563 c1_i32_552
  let v1566 : BitVec 32 := Scalar.subi v1564 v1555
  let c1_i32_554 : BitVec 32 := 1#32
  let v1568 : BitVec 32 := Scalar.divsi v1566 c1_i32_554
  let v1569 : BitVec 32 := Scalar.muli v1568 c1_i32_554
  let v1570 : BitVec 32 := Scalar.addi v1555 v1569
  let v1567 : BitVec 32 := Scalar.addi v1555 v1566
  let c1_i32_556 : BitVec 32 := 1#32
  ⟨v1570, v1567, c1_i32_556⟩
def k0_off64 (v1555 : BitVec 32) (v1563 : BitVec 32) (k0_t64 : Fin (k0_t64_loop v1555 v1563).trips) : Fin 2 → Nat :=
  let c1_i32_552 : BitVec 32 := 1#32
  let v1564 : BitVec 32 := Scalar.addi v1563 c1_i32_552
  let v1566 : BitVec 32 := Scalar.subi v1564 v1555
  let c1_i32_554 : BitVec 32 := 1#32
  let v1568 : BitVec 32 := Scalar.divsi v1566 c1_i32_554
  let v1569 : BitVec 32 := Scalar.muli v1568 c1_i32_554
  let v1570 : BitVec 32 := Scalar.addi v1555 v1569
  let c1_i32_556 : BitVec 32 := 1#32
  let arg7 : BitVec 32 := Scf.iv v1570 c1_i32_556 k0_t64
  let v1577 : Index := Scalar.indexCast arg7
  let c0_558 : Index := 0#32
  ![v1577.toNat, 0]

def k0_chk32 (v1555 : BitVec 32) (v1563 : BitVec 32) : Prop :=
  ((k0_t63_loop v1555 v1563).OK) ∧
  (∀ k0_t63 : Fin (k0_t63_loop v1555 v1563).trips, ∀ a, (k0_off63 v1555 v1563 k0_t63) a + S1x128.size a ≤ S128x128.size a) ∧
  ((k0_t64_loop v1555 v1563).OK) ∧
  (∀ k0_t64 : Fin (k0_t64_loop v1555 v1563).trips, ∀ a, (k0_off64 v1555 v1563 k0_t64) a + S1x128.size a ≤ S128x128.size a)
theorem k0_t63_ok : ∀ (v1555 : BitVec 32) (v1563 : BitVec 32) (k0_hw32 : k0_chk32 v1555 v1563), (k0_t63_loop v1555 v1563).OK := fun v1555 v1563 k0_hw32 => k0_hw32.1
theorem k0_off63_inb : ∀ (v1555 : BitVec 32) (v1563 : BitVec 32) (k0_hw32 : k0_chk32 v1555 v1563) (k0_t63 : Fin (k0_t63_loop v1555 v1563).trips), ∀ a, (k0_off63 v1555 v1563 k0_t63) a + S1x128.size a ≤ S128x128.size a := fun v1555 v1563 k0_hw32 k0_t63 => k0_hw32.2.1 k0_t63
theorem k0_t64_ok : ∀ (v1555 : BitVec 32) (v1563 : BitVec 32) (k0_hw32 : k0_chk32 v1555 v1563), (k0_t64_loop v1555 v1563).OK := fun v1555 v1563 k0_hw32 => k0_hw32.2.2.1
theorem k0_off64_inb : ∀ (v1555 : BitVec 32) (v1563 : BitVec 32) (k0_hw32 : k0_chk32 v1555 v1563) (k0_t64 : Fin (k0_t64_loop v1555 v1563).trips), ∀ a, (k0_off64 v1555 v1563 k0_t64) a + S1x128.size a ≤ S128x128.size a := fun v1555 v1563 k0_hw32 k0_t64 => k0_hw32.2.2.2 k0_t64

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![14, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S8x2048x4096 : Shape := ⟨3, ![8, 2048, 4096]⟩
abbrev S2048x14336 : Shape := ⟨2, ![2048, 14336]⟩
abbrev S32x14336 : Shape := ⟨2, ![32, 14336]⟩
abbrev S128x14336 : Shape := ⟨2, ![128, 14336]⟩
abbrev S4096x64 : Shape := ⟨2, ![4096, 64]⟩
abbrev S64x14336 : Shape := ⟨2, ![64, 14336]⟩
abbrev S_ : Shape := ⟨0, ![]⟩
abbrev S2048x1x14336 : Shape := ⟨3, ![2048, 1, 14336]⟩
abbrev S2048x2x14336 : Shape := ⟨3, ![2048, 2, 14336]⟩
abbrev S4096x14336 : Shape := ⟨2, ![4096, 14336]⟩
abbrev S32x128x14336 : Shape := ⟨3, ![32, 128, 14336]⟩
abbrev S32x1x14336 : Shape := ⟨3, ![32, 1, 14336]⟩
abbrev S8x2048x14336 : Shape := ⟨3, ![8, 2048, 14336]⟩
abbrev S14336 : Shape := ⟨1, ![14336]⟩
abbrev S1x14336 : Shape := ⟨2, ![1, 14336]⟩
abbrev S128x14336x1 : Shape := ⟨3, ![128, 14336, 1]⟩
abbrev S128x14336x2 : Shape := ⟨3, ![128, 14336, 2]⟩
abbrev S8x2048x64 : Shape := ⟨3, ![8, 2048, 64]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S2048x14336, .i8⟩
  | .hbm, ⟨2, _⟩ => ⟨S32x14336, .f32⟩
  | .hbm, ⟨3, _⟩ => ⟨S32x14336, .i8⟩
  | .hbm, ⟨4, _⟩ => ⟨S128x14336, .i32⟩
  | .hbm, ⟨5, _⟩ => ⟨S128x14336, .bf16⟩
  | .hbm, ⟨6, _⟩ => ⟨S4096x64, .bf16⟩
  | .hbm, ⟨7, _⟩ => ⟨S64x14336, .bf16⟩
  | .hbm, ⟨8, _⟩ => ⟨S32x14336, .bf16⟩
  | .hbm, ⟨9, _⟩ => ⟨S32x14336, .i32⟩
  | .hbm, ⟨10, _⟩ => ⟨S32x14336, .f32⟩
  | .hbm, ⟨11, _⟩ => ⟨S32x14336, .bf16⟩
  | .hbm, ⟨12, _⟩ => ⟨S2048x14336, .i32⟩
  | .hbm, ⟨13, _⟩ => ⟨S_, .i32⟩
  | .hbm, ⟨14, _⟩ => ⟨S2048x14336, .i32⟩
  | .hbm, ⟨15, _⟩ => ⟨S2048x14336, .i32⟩
  | .hbm, ⟨16, _⟩ => ⟨S_, .i32⟩
  | .hbm, ⟨17, _⟩ => ⟨S2048x14336, .i32⟩
  | .hbm, ⟨18, _⟩ => ⟨S2048x14336, .i32⟩
  | .hbm, ⟨19, _⟩ => ⟨S2048x1x14336, .i32⟩
  | .hbm, ⟨20, _⟩ => ⟨S2048x1x14336, .i32⟩
  | .hbm, ⟨21, _⟩ => ⟨S2048x2x14336, .i32⟩
  | .hbm, ⟨22, _⟩ => ⟨S4096x14336, .i32⟩
  | .hbm, ⟨23, _⟩ => ⟨S4096x14336, .f32⟩
  | .hbm, ⟨24, _⟩ => ⟨S4096x14336, .bf16⟩
  | .hbm, ⟨25, _⟩ => ⟨S32x128x14336, .bf16⟩
  | .hbm, ⟨26, _⟩ => ⟨S32x1x14336, .bf16⟩
  | .hbm, ⟨27, _⟩ => ⟨S32x128x14336, .bf16⟩
  | .hbm, ⟨28, _⟩ => ⟨S32x128x14336, .bf16⟩
  | .hbm, ⟨29, _⟩ => ⟨S32x1x14336, .bf16⟩
  | .hbm, ⟨30, _⟩ => ⟨S32x128x14336, .bf16⟩
  | .hbm, ⟨31, _⟩ => ⟨S32x128x14336, .bf16⟩
  | .hbm, ⟨32, _⟩ => ⟨S4096x14336, .bf16⟩
  | .hbm, ⟨33, _⟩ => ⟨S8x2048x14336, .f32⟩
  | .hbm, ⟨34, _⟩ => ⟨S_, .bf16⟩
  | .hbm, ⟨35, _⟩ => ⟨S4096x14336, .bf16⟩
  | .hbm, ⟨36, _⟩ => ⟨S14336, .i32⟩
  | .hbm, ⟨37, _⟩ => ⟨S1x14336, .i32⟩
  | .hbm, ⟨38, _⟩ => ⟨S_, .i32⟩
  | .hbm, ⟨39, _⟩ => ⟨S128x14336, .i32⟩
  | .hbm, ⟨40, _⟩ => ⟨S128x14336, .i1⟩
  | .hbm, ⟨41, _⟩ => ⟨S_, .i32⟩
  | .hbm, ⟨42, _⟩ => ⟨S128x14336, .i32⟩
  | .hbm, ⟨43, _⟩ => ⟨S128x14336, .i32⟩
  | .hbm, ⟨44, _⟩ => ⟨S128x14336, .i32⟩
  | .hbm, ⟨45, _⟩ => ⟨S_, .i32⟩
  | .hbm, ⟨46, _⟩ => ⟨S1x14336, .i32⟩
  | .hbm, ⟨47, _⟩ => ⟨S1x14336, .i1⟩
  | .hbm, ⟨48, _⟩ => ⟨S_, .i32⟩
  | .hbm, ⟨49, _⟩ => ⟨S1x14336, .i32⟩
  | .hbm, ⟨50, _⟩ => ⟨S1x14336, .i32⟩
  | .hbm, ⟨51, _⟩ => ⟨S1x14336, .i32⟩
  | .hbm, ⟨52, _⟩ => ⟨S128x14336, .i32⟩
  | .hbm, ⟨53, _⟩ => ⟨S128x14336x1, .i32⟩
  | .hbm, ⟨54, _⟩ => ⟨S128x14336x1, .i32⟩
  | .hbm, ⟨55, _⟩ => ⟨S128x14336x2, .i32⟩
  | .hbm, ⟨56, _⟩ => ⟨S4096x14336, .bf16⟩
  | .hbm, ⟨57, _⟩ => ⟨S8x2048x14336, .f32⟩
  | .hbm, ⟨58, _⟩ => ⟨S8x2048x64, .f32⟩
  | .hbm, ⟨59, _⟩ => ⟨S8x2048x64, .bf16⟩
  | .hbm, ⟨60, _⟩ => ⟨S8x2048x14336, .f32⟩
  | .hbm, ⟨61, _⟩ => ⟨S8x2048x14336, .f32⟩
  | .hbm, ⟨62, _⟩ => ⟨S_, .f32⟩
  | .hbm, ⟨63, _⟩ => ⟨S8x2048x14336, .f32⟩
  | .hbm, ⟨64, _⟩ => ⟨S8x2048x14336, .f32⟩
  | .hbm, ⟨65, _⟩ => ⟨S8x2048x14336, .f32⟩
  | .hbm, ⟨66, _⟩ => ⟨S8x2048x14336, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Kernel.Words.lean ====
/-
  The words the weight builder computes before each of its loops, and why the side conditions it assumes hold.
-/
module

public import proofs.«01_k».proof.Proof.Gen.Kernel.Skeleton
public import Idealize.ShloMosaic.Lib.LoopRemainder
public import Idealize.ShloMosaic.PureOps.Reduce
public import Idealize.ShloMosaic.Lib.SortNet.Extract

@[expose] public section

set_option maxRecDepth 16384

noncomputable section

namespace Cert.Kernel.Build

open Cert.Kernel Cert.Kernel.Gen
open Idealize.ShloMosaic

variable {F : FTy → Type} [FloatOps F]

/-- The row number of each element of a square block of row indices. -/
abbrev rank : IVec S128x128 32 := iota .tc S128x128 32 [0] iota_S128x128_d0_w32

/-- The number of the first row of the block that the mask picks an element of; 128 if it picks none. -/
def firstRow (m : IVec S128x128 1) : BitVec 32 :=
  extractAt ![0, 0, 0] (shapeCast S1x1x1 (multiReductionI .minsi [1, 2] S1
    (shapeCast S1x128x128 (select m rank (broadcast S128x128 128#32)) shapeCasts_S128x128_S1x128x128)
    2147483647#32 reduces_S1x128x128_S1 rfl) shapeCasts_S1_S1x1x1) inpos_S1x1x1_p0_0_0

/-- The number of the last row of the block that the mask picks an element of; -1 if it picks none. -/
def lastRow (m : IVec S128x128 1) : BitVec 32 :=
  extractAt ![0, 0, 0] (shapeCast S1x1x1 (multiReductionI .maxsi [1, 2] S1
    (shapeCast S1x128x128 (select m rank (broadcast S128x128 4294967295#32)) shapeCasts_S128x128_S1x128x128)
    2147483648#32 reduces_S1x128x128_S1 rfl) shapeCasts_S1_S1x1x1) inpos_S1x1x1_p0_0_0

/-- A fold of the signed minimum over a set of indices is at most the start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  refine Finset.induction_on s ⟨le_of_eq (by rw [Finset.fold_empty]), fun i hi => absurd hi (Finset.notMem_empty i),
    Or.inl (by rw [Finset.fold_empty])⟩ ?_
  intro a s has ih
  obtain ⟨h1, h2, h3⟩ := ih
  rw [Finset.fold_insert has]
  have hm := SortNet.toInt_minsi (g a) (s.fold IntOp.minsi init g)
  refine ⟨le_trans (by rw [hm]; exact min_le_right _ _) h1, fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

/-- The one index of the shape that a whole reduction leaves. -/
abbrev only : S1.Idx := fun a => ⟨0, by fin_cases a; decide⟩

theorem only_eq (j : S1.Idx) : only = j := by
  funext a; fin_cases a; exact Fin.ext (by have h : (j 0).val < 1 := (j 0).isLt; show 0 = (j 0).val; omega)

theorem rank_toInt (k : S128x128.Idx) : (rank k).toInt = (k 0).val := by
  have h : (k 0).val < 128 := (k 0).isLt
  show (BitVec.ofNat 32 (0 * 128 + (k 0).val)).toInt = _
  rw [BitVec.toInt_ofNat']; simp only [Nat.zero_mul, Nat.zero_add]
  rw [Int.bmod_def]; push_cast; split <;> omega

/-- What the two reductions fold: the row number where the mask picks the element, else the given word. -/
theorem picked (m : IVec S128x128 1) (e : BitVec 32) (k : S128x128.Idx) :
    select m rank (broadcast S128x128 e) k = if m k = 1 then rank k else e := rfl

theorem firstRow_eq (m : IVec S128x128 1) : firstRow m = (Finset.univ.filter fun i => reduces_S1x128x128_S1.drop i = only).fold IntOp.minsi 2147483647#32
    (shapeCast S1x128x128 (select m rank (broadcast S128x128 128#32)) shapeCasts_S128x128_S1x128x128) := by
  unfold firstRow extractAt
  rw [shapeCast]
  exact (multiReductionI_eq_fold .minsi _ _ _ rfl _).trans (by rw [← only_eq (Shape.reshapeEquiv _ _)]; rfl)

theorem lastRow_eq (m : IVec S128x128 1) : lastRow m = (Finset.univ.filter fun i => reduces_S1x128x128_S1.drop i = only).fold IntOp.maxsi 2147483648#32
    (shapeCast S1x128x128 (select m rank (broadcast S128x128 4294967295#32)) shapeCasts_S128x128_S1x128x128) := by
  unfold lastRow extractAt
  rw [shapeCast]
  exact (multiReductionI_eq_fold .maxsi _ _ _ rfl _).trans (by rw [← only_eq (Shape.reshapeEquiv _ _)]; rfl)

/-- Every element of the block is among those folded. -/
theorem met (k : S128x128.Idx) : ∃ i ∈ (Finset.univ.filter fun i => reduces_S1x128x128_S1.drop i = only),
    Shape.reshapeEquiv shapeCasts_S128x128_S1x128x128 i = k := by
  refine ⟨(Shape.reshapeEquiv shapeCasts_S128x128_S1x128x128).symm k, Finset.mem_filter.mpr ⟨Finset.mem_univ _, (only_eq _).symm⟩, ?_⟩
  exact Equiv.apply_symm_apply _ _

/-- The first row is at or above every row the mask picks an element of. -/
theorem firstRow_le (m : IVec S128x128 1) (k : S128x128.Idx) (hk : m k = 1) : (firstRow m).toInt ≤ (k 0).val := by
  obtain ⟨i, hi, e⟩ := met k
  have h := (fold_minsi_spec (shapeCast S1x128x128 (select m rank (broadcast S128x128 128#32)) shapeCasts_S128x128_S1x128x128) _ 2147483647#32).2.1 i hi
  rw [firstRow_eq]
  refine h.trans (le_of_eq ?_)
  unfold shapeCast
  rw [e, picked, if_pos hk, rank_toInt]

/-- The last row is at or below every row the mask picks an element of. -/
theorem le_lastRow (m : IVec S128x128 1) (k : S128x128.Idx) (hk : m k = 1) : ((k 0).val : ℤ) ≤ (lastRow m).toInt := by
  obtain ⟨i, hi, e⟩ := met k
  have h := (SortNet.fold_maxsi_spec (shapeCast S1x128x128 (select m rank (broadcast S128x128 4294967295#32)) shapeCasts_S128x128_S1x128x128) _ 2147483648#32).2.1 i hi
  rw [lastRow_eq]
  refine le_trans (le_of_eq ?_) h
  unfold shapeCast
  rw [e, picked, if_pos hk, rank_toInt]

/-- The first row's number is between 0 and 128. -/
theorem firstRow_range (m : IVec S128x128 1) : 0 ≤ (firstRow m).toInt ∧ (firstRow m).toInt ≤ 128 := by
  have hb : ∀ i, 0 ≤ (shapeCast S1x128x128 (select m rank (broadcast S128x128 128#32)) shapeCasts_S128x128_S1x128x128 i).toInt
      ∧ (shapeCast S1x128x128 (select m rank (broadcast S128x128 128#32)) shapeCasts_S128x128_S1x128x128 i).toInt ≤ 128 := by
    intro i
    unfold shapeCast
    have h : ((Shape.reshapeEquiv shapeCasts_S128x128_S1x128x128 i) 0).val < 128 := ((Shape.reshapeEquiv shapeCasts_S128x128_S1x128x128 i) 0).isLt
    rw [picked]
    split
    · rw [rank_toInt]; omega
    · decide
  obtain ⟨h1, h2, h3⟩ := fold_minsi_spec (shapeCast S1x128x128 (select m rank (broadcast S128x128 128#32)) shapeCasts_S128x128_S1x128x128)
    (Finset.univ.filter fun i => reduces_S1x128x128_S1.drop i = only) 2147483647#32
  rw [firstRow_eq]
  obtain ⟨i, hi, -⟩ := met (fun a => ⟨0, by fin_cases a <;> decide⟩)
  refine ⟨?_, (h2 i hi).trans (hb i).2⟩
  rcases h3 with h3 | ⟨i, -, h3⟩
  · rw [h3]; decide
  · rw [h3]; exact (hb i).1

/-- The last row's number is between -1 and 127. -/
theorem lastRow_range (m : IVec S128x128 1) : -1 ≤ (lastRow m).toInt ∧ (lastRow m).toInt ≤ 127 := by
  have hb : ∀ i, -1 ≤ (shapeCast S1x128x128 (select m rank (broadcast S128x128 4294967295#32)) shapeCasts_S128x128_S1x128x128 i).toInt
      ∧ (shapeCast S1x128x128 (select m rank (broadcast S128x128 4294967295#32)) shapeCasts_S128x128_S1x128x128 i).toInt ≤ 127 := by
    intro i
    unfold shapeCast
    have h : ((Shape.reshapeEquiv shapeCasts_S128x128_S1x128x128 i) 0).val < 128 := ((Shape.reshapeEquiv shapeCasts_S128x128_S1x128x128 i) 0).isLt
    rw [picked]
    split
    · rw [rank_toInt]; omega
    · decide
  obtain ⟨h1, h2, h3⟩ := SortNet.fold_maxsi_spec (shapeCast S1x128x128 (select m rank (broadcast S128x128 4294967295#32)) shapeCasts_S128x128_S1x128x128)
    (Finset.univ.filter fun i => reduces_S1x128x128_S1.drop i = only) 2147483648#32
  rw [lastRow_eq]
  obtain ⟨i, hi, -⟩ := met (fun a => ⟨0, by fin_cases a <;> decide⟩)
  refine ⟨(hb i).1.trans (h2 i hi), ?_⟩
  rcases h3 with h3 | ⟨i, -, h3⟩
  · rw [h3]; decide
  · rw [h3]; exact (hb i).2

/-- The loop's two bounds: the first row, and the row after the last. -/
theorem bounds (lo hi : BitVec 32) (h : 0 ≤ lo.toInt ∧ lo.toInt ≤ 128) (h' : -1 ≤ hi.toInt ∧ hi.toInt ≤ 127) :
    (k0_t1_loop lo hi).ub.toInt = hi.toInt + 1 := by
  show (Scalar.addi lo (Scalar.muli (Scalar.divsi (Scalar.subi (Scalar.addi hi 1#32) lo) 1#32) 1#32)).toInt = _
  rw [Scalar.muli_divsi_one]
  have e : Scalar.addi lo (Scalar.subi (Scalar.addi hi 1#32) lo) = hi + 1#32 := by
    show lo + ((hi + 1#32) - lo) = hi + 1#32
    rw [BitVec.add_comm, BitVec.sub_add_cancel]
  rw [e, BitVec.toInt_add, Int.bmod_def]
  have : (1#32 : BitVec 32).toInt = 1 := by decide
  rw [this]; push_cast; split <;> omega

/-- The counted loop between those bounds does not wrap. -/
theorem firstLoopOK (lo hi : BitVec 32) (h : 0 ≤ lo.toInt ∧ lo.toInt ≤ 128) (h' : -1 ≤ hi.toInt ∧ hi.toInt ≤ 127) :
    (k0_t1_loop lo hi).OK := by
  refine Affine.ok (Affine.word lo) (Affine.word (k0_t1_loop lo hi).ub) (Affine.ofNat 1 ⟨rfl, by decide⟩) ⟨by decide, ?_⟩
  rw [bounds lo hi h h']
  omega

/-- In that range the loop's bounds do not wrap and its rows lie in the block, which is what the builder takes for granted. -/
theorem loopOK (lo hi : BitVec 32) (h : 0 ≤ lo.toInt ∧ lo.toInt ≤ 128) (h' : -1 ≤ hi.toInt ∧ hi.toInt ≤ 127) : k0_chk1 lo hi := by
  have ok := firstLoopOK lo hi h h'
  refine ⟨ok, fun t a => ?_, Scf.rem_ok _ _, fun t => (Scf.rem_no_trip _ _ t).elim⟩
  have h1 := Scf.iv_lt_ub ok t.isLt
  have h2 := Scf.toInt_iv ok (Nat.le_of_lt t.isLt)
  rw [bounds lo hi h h'] at h1
  have h3 : (k0_t1_loop lo hi).st.toInt = 1 := (by decide : (1#32 : BitVec 32).toInt = 1)
  rw [h3] at h2
  fin_cases a
  · show (Scf.iv lo 1#32 t).toNat + 1 ≤ 128
    change (Scf.iv lo 1#32 t).toInt < _ at h1
    change (Scf.iv lo 1#32 t).toInt = lo.toInt + _ at h2
    have h4 := BitVec.toInt_eq_toNat_cond (Scf.iv lo 1#32 t)
    have h5 := (Scf.iv lo 1#32 t).isLt
    split at h4 <;> omega
  · show 0 + 128 ≤ 128
    omega

end Cert.Kernel.Build

end
-- ==== Proof.Kernel.Loop.lean ====
/-
  One loop of the weight builder: it walks down the rows `lo..hi` of the block of row indices and of values, and where an
  index names a row of the current group of 128 rows, writes the value there. Stated once, for any group.
-/
module

public import proofs.«01_k».proof.Proof.Kernel.Words
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.Pipeline.Kit

@[expose] public section

set_option maxRecDepth 16384

noncomputable section

namespace Cert.Kernel.Build

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-- One trip's new block: where the row of indices, less the group's first row `base`, names the element's row, the row of
    values; elsewhere the block as it was. -/
def place (base : BitVec 32) (v8 : IVec S128x128 32) (acc : FVec F S128x128 .f32) (rows : Vec F S1x128 .i32) (vals : Vec F S1x128 .f32) :
    FVec F S128x128 .f32 :=
  select (cmpi .eq v8 (broadcastTo S128x128 (subi rows (broadcast S1x128 base)) broadcasts_S1x128_S128x128))
    (broadcastTo S128x128 (shapeCast S1x128 (shapeCast S1x128 vals shapeCasts_S1x128_S1x128) shapeCasts_S1x128_S1x128) broadcasts_S1x128_S128x128) acc

/-- A function applied `n` times, each time with its number, from `init`; past `n` nothing changes. -/
def iterate {α : Type} {n : ℕ} (f : Fin n → α → α) (init : α) : ℕ → α
  | 0 => init
  | k + 1 => if h : k < n then f ⟨k, h⟩ (iterate f init k) else iterate f init k

theorem iterate_succ {α : Type} {n : ℕ} (f : Fin n → α → α) (init : α) (k : Fin n) :
    iterate f init (k.val + 1) = f k (iterate f init k.val) := by
  rw [iterate]; exact dif_pos k.isLt

/-- What one trip makes of the block: the rows read off the two buffers' contents, and placed. -/
def trip {n : ℕ} (base : BitVec 32) (v8 : IVec S128x128 32)
    (arg4 : Memref sig .tc .vmem S128x128 .i32) (arg5 : Memref sig .tc .vmem S128x128 .f32)
    (off : Fin n → Fin 2 → ℕ) (hoff : ∀ k a, off k a + S1x128.size a ≤ S128x128.size a)
    (X4 : BufTy.Contents (Elt F) arg4.view.ty) (X5 : BufTy.Contents (Elt F) arg5.view.ty) (k : Fin n) (acc : FVec F S128x128 .f32) :
    FVec F S128x128 .f32 :=
  place base v8 acc (arg4.view.readAt (Elt F) (Rect.unit (s := S128x128) (off k) S1x128.size (hoff k)).toLoadRect X4)
    (arg5.view.readAt (Elt F) (Rect.unit (s := S128x128) (off k) S1x128.size (hoff k)).toLoadRect X5)

/-- The loop, one trip of which reads a row of indices and a row of values at the trip's place and places them, keeps the two buffers it reads, and before trip `k` carries the block after `k` trips. -/
@[instance_reducible, sl_loop] def loopInv (𝒱 : Variants) (c : Dev nD) (E : Set ℕ) (lb ub st : BitVec 32) (hok : Scf.OK lb ub st) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    LoopInv (M := 𝕄) Idealize.ShloMosaic.frame (wpE (defs₀ (F := F)) 𝒱 (c : Thread nD τ) none) E lb ub st hok init
      (fun k acc => do
        let rows : Vec F S1x128 .i32 ← Prog.lift (.load arg4 (Rect.unit (s := S128x128) (off k) S1x128.size (hoff k)).toLoadRect (View.loadsAt_vmem h_S1x128))
        let vals : Vec F S1x128 .f32 ← Prog.lift (.load arg5 (Rect.unit (s := S128x128) (off k) S1x128.size (hoff k)).toLoadRect (View.loadsAt_vmem h_S1x128))
        pure (place base v8 acc rows vals)) where
  inv k acc := iprop((arg4.view.loc (c : Thread nD τ) ↦[arg4.view.set]{fullShare} X4) ∗ (arg5.view.loc (c : Thread nD τ) ↦[arg5.view.set]{fullShare} X5)
    ∗ ⌜acc = iterate (trip base v8 arg4 arg5 off hoff X4 X5) init k⌝)
  step k acc := by
    iintro ⟨H4, H5, %h⟩
    subst h
    sl_exec
    sl_step
    isplitl [H4]; · iexact H4
    isplitl [H5]; · iexact H5
    ipureintro
    rw [iterate_succ]; rfl

/-- The block after all the trips of a loop: the trips' rows placed in order, a later one over an earlier one; a name
    that does not unfold, for the `swept_eq` that says what it is. -/
@[irreducible] def swept (lb ub st : BitVec 32) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) : FVec F S128x128 .f32 :=
  Classical.choose (p := fun v => v = iterate (trip base v8 arg4 arg5 off hoff X4 X5) init (Scf.trips lb ub st)) ⟨_, rfl⟩

theorem swept_eq (lb ub st : BitVec 32) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    swept lb ub st init base v8 arg4 arg5 off hoff X4 X5 = iterate (trip base v8 arg4 arg5 off hoff X4 X5) init (Scf.trips lb ub st) := by
  unfold swept
  exact Classical.choose_spec (p := fun v => v = iterate (trip base v8 arg4 arg5 off hoff X4 X5) init (Scf.trips lb ub st)) ⟨_, rfl⟩

/-- After the loop the carried block is `swept`'s. -/
instance loopExit (𝒱 : Variants) (c : Dev nD) (E : Set ℕ) (lb ub st : BitVec 32) (hok : Scf.OK lb ub st) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    LoopExit (loopInv (Ix := Ix) (U := U) (Lvl := Lvl) 𝒱 c E lb ub st hok init base v8 arg4 arg5 off hoff X4 X5) where
  post acc := iprop((arg4.view.loc (c : Thread nD τ) ↦[arg4.view.set]{fullShare} X4) ∗ (arg5.view.loc (c : Thread nD τ) ↦[arg5.view.set]{fullShare} X5)
    ∗ ⌜acc = swept lb ub st init base v8 arg4 arg5 off hoff X4 X5⌝)
  exit acc := by
    show iprop((arg4.view.loc (c : Thread nD τ) ↦[arg4.view.set]{fullShare} X4) ∗ (arg5.view.loc (c : Thread nD τ) ↦[arg5.view.set]{fullShare} X5)
      ∗ ⌜acc = iterate (trip base v8 arg4 arg5 off hoff X4 X5) init (Scf.trips lb ub st)⌝) ⊢ _
    iintro ⟨H4, H5, %h⟩
    isplitl [H4]; · iexact H4
    isplitl [H5]; · iexact H5
    ipureintro
    rw [swept_eq]
    exact h

end Cert.Kernel.Build

end
-- ==== Proof.Kernel.Run.lean ====
/-
  The run of the weight builder's body on any whole buffers.
-/
module

public import proofs.«01_k».proof.Proof.Kernel.Loop
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 32768

noncomputable section

namespace Cert.Kernel.Build

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

set_option sl_exec.dischHeartbeats 20000 in
set_option pp.maxSteps 400 in
set_option maxHeartbeats 4000000 in
/-- The pieces that the body's stores leave in the result's buffer, last first, with the proof that on whole buffers, the inputs' at
    their contents and the result's at anything, the body runs to the inputs' as they were and the result's with these pieces written. -/
noncomputable def bodyRun (𝒱₀ : Variants) (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) :
    { L5 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) 𝒱₀ c none) E (cc0_build_w i arg1 harg1 arg2 harg2 arg3 harg3 arg4 harg4 arg5 harg5 arg6 harg6) K } := by
  refine ⟨?_, fun E K => ?run⟩
  case run =>
    simp only [cc0_build_w_eq_skeleton]; unfold cc0_build_w_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec_parts (disch := (refine loopOK _ _ ?_ ?_; exact firstRow_range _; exact lastRow_range _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Build

end
-- ==== Proof.Kernel.K0.lean ====
/-
  Call 0, the weight builder: its proof data and its body obligation, from any entry contents, over the run of its body.
-/
module

public import proofs.«01_k».proof.Proof.Kernel.Run
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose array is `V`'s and
    whose body leaves the block in place. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose array is `V`'s and
    whose body leaves the block in place. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose array is `V`'s and
    whose body leaves the block in place. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose array is `V`'s and
    whose body leaves the block in place. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose array is `V`'s and
    whose body leaves the block in place. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- One staging buffer of the result's window, through which its contents are stated. -/
abbrev VO0_5 : View sig .tc .vmem S4096x128 .bf16 := (Memref.whole cc0_stg5_0 : Memref sig .tc .vmem S4096x128 .bf16).view
-- each window's staging memref at point `t`, and that it is whole
abbrev ms0_0 (t : Fin cfg0.N) : Memref sig .tc .vmem S2048x128 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .bf16 := win0_5.stage (cfg0.slots t 5)
abbrev hs0_5 (t : Fin cfg0.N) : (ms0_5 t).IsWhole := hstage0_5 ((cfg0.slots t 5).cast nbuf0_5)

/-- The run's pieces tile the result's block, so they cover it. -/
theorem cover0_A_5 (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) (y : S4096x128.Idx) :
    ∃ pc ∈ (Build.bodyRun (Ix := Ix) (U := U) (Lvl := Lvl) 𝒱₀ c i arg1 harg1 arg2 harg2 arg3 harg3 arg4 harg4 arg5 harg5 arg6 harg6 x0 x1 x2 x3 x4).1, y ∈ pc.1.set :=
  View.cover_of_tiledL (Build.bodyRun (Ix := Ix) (U := U) (Lvl := Lvl) 𝒱₀ c i arg1 harg1 arg2 harg2 arg3 harg3 arg4 harg4 arg5 harg5 arg6 harg6 x0 x1 x2 x3 x4).1 S128x128.size (by sl_kernel_rfl) y

/-- What the run leaves in the result's staging buffer: its pieces read back over junk. -/
def out0_A_5 (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) : Vec F S4096x128 .bf16 :=
  VO0_5.read (Elt F) (VO0_5.writes (Elt F) VO0_5.junk (Build.bodyRun (Ix := Ix) (U := U) (Lvl := Lvl) 𝒱₀ c i arg1 harg1 arg2 harg2 arg3 harg3 arg4 harg4 arg5 harg5 arg6 harg6 x0 x1 x2 x3 x4).1)

/-- What the result's staging buffer holds after the body at point `t`. -/
def outsAt0 (c : Dev nD) (t : Fin cfg0.N) : Vec F S4096x128 .bf16 :=
  out0_A_5 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t) (iblk V c 2 t) (iblk V c 3 t) (iblk V c 4 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg0.W) : (dat (Ix := Ix) (U := U) (Lvl := Lvl) 𝒱₀ V D c).A w = V c (Pipeline.arrRef spec0 w) := by
  dsimp only [dat]

-- What the body leaves, window by window.
theorem after0_0 (c : Dev nD) (t : Fin cfg0.N) : (dat (Ix := Ix) (U := U) (Lvl := Lvl) 𝒱₀ V D c).after 0 t = iblk V c 0 t := by dsimp only [dat]
theorem after0_1 (c : Dev nD) (t : Fin cfg0.N) : (dat (Ix := Ix) (U := U) (Lvl := Lvl) 𝒱₀ V D c).after 1 t = iblk V c 1 t := by dsimp only [dat]
theorem after0_2 (c : Dev nD) (t : Fin cfg0.N) : (dat (Ix := Ix) (U := U) (Lvl := Lvl) 𝒱₀ V D c).after 2 t = iblk V c 2 t := by dsimp only [dat]
theorem after0_3 (c : Dev nD) (t : Fin cfg0.N) : (dat (Ix := Ix) (U := U) (Lvl := Lvl) 𝒱₀ V D c).after 3 t = iblk V c 3 t := by dsimp only [dat]
theorem after0_4 (c : Dev nD) (t : Fin cfg0.N) : (dat (Ix := Ix) (U := U) (Lvl := Lvl) 𝒱₀ V D c).after 4 t = iblk V c 4 t := by dsimp only [dat]
theorem after0_5 (c : Dev nD) (t : Fin cfg0.N) : (dat (Ix := Ix) (U := U) (Lvl := Lvl) 𝒱₀ V D c).after 5 t = (outsAt0 (Ix := Ix) (U := U) (Lvl := Lvl) 𝒱₀ V c t) := by dsimp only [dat]

-- Each input's staging buffer holds its block at every point.
theorem before0_0 (c : Dev nD) (t : Fin cfg0.N) (d) : (dat (Ix := Ix) (U := U) (Lvl := Lvl) 𝒱₀ V D c).before 0 t d = iblk V c 0 t :=
  before0_0_of V (dat (Ix := Ix) (U := U) (Lvl := Lvl) 𝒱₀ V D c) (A_eq 𝒱₀ V D c 0) (after0_0 𝒱₀ V D c) t d
theorem before0_1 (c : Dev nD) (t : Fin cfg0.N) (d) : (dat (Ix := Ix) (U := U) (Lvl := Lvl) 𝒱₀ V D c).before 1 t d = iblk V c 1 t :=
  before0_1_of V (dat (Ix := Ix) (U := U) (Lvl := Lvl) 𝒱₀ V D c) (A_eq 𝒱₀ V D c 1) (after0_1 𝒱₀ V D c) t d
theorem before0_2 (c : Dev nD) (t : Fin cfg0.N) (d) : (dat (Ix := Ix) (U := U) (Lvl := Lvl) 𝒱₀ V D c).before 2 t d = iblk V c 2 t :=
  before0_2_of V (dat (Ix := Ix) (U := U) (Lvl := Lvl) 𝒱₀ V D c) (A_eq 𝒱₀ V D c 2) (after0_2 𝒱₀ V D c) t d
theorem before0_3 (c : Dev nD) (t : Fin cfg0.N) (d) : (dat (Ix := Ix) (U := U) (Lvl := Lvl) 𝒱₀ V D c).before 3 t d = iblk V c 3 t :=
  before0_3_of V (dat (Ix := Ix) (U := U) (Lvl := Lvl) 𝒱₀ V D c) (A_eq 𝒱₀ V D c 3) (after0_3 𝒱₀ V D c) t d
theorem before0_4 (c : Dev nD) (t : Fin cfg0.N) (d) : (dat (Ix := Ix) (U := U) (Lvl := Lvl) 𝒱₀ V D c).before 4 t d = iblk V c 4 t :=
  before0_4_of V (dat (Ix := Ix) (U := U) (Lvl := Lvl) 𝒱₀ V D c) (A_eq 𝒱₀ V D c 4) (after0_4 𝒱₀ V D c) t d

/-! ## The body obligation, at a generic point -/

/-- What the body is called with at point `t`, the windows one by one, -/
def bodyPre (c : Dev nD) (t : Fin cfg0.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms0_0 t) fullShare ((dat (Ix := Ix) (U := U) (Lvl := Lvl) 𝒱₀ V D c).before 0 t d))
    ∗ (∃ d, owns (c : Thread nD τ) (ms0_1 t) fullShare ((dat (Ix := Ix) (U := U) (Lvl := Lvl) 𝒱₀ V D c).before 1 t d))
    ∗ (∃ d, owns (c : Thread nD τ) (ms0_2 t) fullShare ((dat (Ix := Ix) (U := U) (Lvl := Lvl) 𝒱₀ V D c).before 2 t d))
    ∗ (∃ d, owns (c : Thread nD τ) (ms0_3 t) fullShare ((dat (Ix := Ix) (U := U) (Lvl := Lvl) 𝒱₀ V D c).before 3 t d))
    ∗ (∃ d, owns (c : Thread nD τ) (ms0_4 t) fullShare ((dat (Ix := Ix) (U := U) (Lvl := Lvl) 𝒱₀ V D c).before 4 t d))
    ∗ (∃ d, owns (c : Thread nD τ) (ms0_5 t) fullShare ((dat (Ix := Ix) (U := U) (Lvl := Lvl) 𝒱₀ V D c).before 5 t d)))

/-- and what it returns. -/
def bodyPost (c : Dev nD) (t : Fin cfg0.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms0_0 t) fullShare ((dat (Ix := Ix) (U := U) (Lvl := Lvl) 𝒱₀ V D c).after 0 t)
    ∗ owns (c : Thread nD τ) (ms0_1 t) fullShare ((dat (Ix := Ix) (U := U) (Lvl := Lvl) 𝒱₀ V D c).after 1 t)
    ∗ owns (c : Thread nD τ) (ms0_2 t) fullShare ((dat (Ix := Ix) (U := U) (Lvl := Lvl) 𝒱₀ V D c).after 2 t)
    ∗ owns (c : Thread nD τ) (ms0_3 t) fullShare ((dat (Ix := Ix) (U := U) (Lvl := Lvl) 𝒱₀ V D c).after 3 t)
    ∗ owns (c : Thread nD τ) (ms0_4 t) fullShare ((dat (Ix := Ix) (U := U) (Lvl := Lvl) 𝒱₀ V D c).after 4 t)
    ∗ owns (c : Thread nD τ) (ms0_5 t) fullShare ((dat (Ix := Ix) (U := U) (Lvl := Lvl) 𝒱₀ V D c).after 5 t))

/-- The body at any point: the inputs' memrefs hold their blocks, so the run applies; the invariant passes through unread. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3, before0_4]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((Build.bodyRun (Ix := Ix) (U := U) (Lvl := Lvl) 𝒱₀ c (grid0.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 (Ix := Ix) (U := U) (Lvl := Lvl) 𝒱₀ c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.Kernel.Own.K0

end
-- ==== Proof.Kernel.K1.lean ====
/-
  Call 1, the low-rank factor: the run of its body, its proof data and its body obligation, from any entry contents.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S1024x64 .bf16 := (Memref.whole cc1_stg2_0 : Memref sig .tc .vmem S1024x64 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) :
    { L2 : List (View.Piece (Elt F) S1024x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_lora_t i arg1 harg1 arg2 harg2 arg3 harg3) K } := by
  refine ⟨?_, fun E K => ?run⟩
  case run =>
    simp only [cc1_lora_t_eq_skeleton]; unfold cc1_lora_t_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S1024x64`, checked by the kernel's evaluation: Lib/Ring.lean `Piece.tiledL`, linear in the pieces, through a loop's `@[irreducible]` trip theorem too), so they cover it. -/
theorem cover1_A_2 (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) (y : S1024x64.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S1024x64.size (by sl_kernel_rfl) y

/-- What the run leaves in output 2's staging buffer: its pieces read back over junk. -/
def out1_A_2 (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) : Vec F S1024x64 .bf16 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S1024x64 .bf16 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.Kernel.Own.K1

end
-- ==== Proof.Kernel.K2.lean ====
/-
  Call 2, the output product: the run of its body, its proof data and its body obligation, from any entry contents.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO2_4 : View sig .tc .vmem S1024x1024 .bf16 := (Memref.whole cc2_stg4_0 : Memref sig .tc .vmem S1024x1024 .bf16).view
/-- Each window's current staging memref at point `t`, spelled as the pipeline passes it (`bodyAt2`), and its wholeness. -/
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) :
    { L4 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) 𝒱₀ c none) E (cc2_matmul i arg2 harg2 arg3 harg3 arg4 harg4 arg5 harg5 arg6 harg6) K } := by
  refine ⟨?_, fun E K => ?run⟩
  case run =>
    simp only [cc2_matmul_eq_skeleton]; unfold cc2_matmul_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x1024`, checked by the kernel's evaluation: Lib/Ring.lean `Piece.tiledL`, linear in the pieces, through a loop's `@[irreducible]` trip theorem too), so they cover it. -/
theorem cover2_A_4 (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) (y : S1024x1024.Idx) :
    ∃ pc ∈ (kernelRun2_A (Ix := Ix) (U := U) (Lvl := Lvl) 𝒱₀ c i arg2 harg2 arg3 harg3 arg4 harg4 arg5 harg5 arg6 harg6 x0 x1 x2 x3).1, y ∈ pc.1.set :=
  View.cover_of_tiledL (kernelRun2_A (Ix := Ix) (U := U) (Lvl := Lvl) 𝒱₀ c i arg2 harg2 arg3 harg3 arg4 harg4 arg5 harg5 arg6 harg6 x0 x1 x2 x3).1 S1024x1024.size (by sl_kernel_rfl) y

/-- What the run leaves in output 4's staging buffer: its pieces read back over junk. -/
def out2_A_4 (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) : Vec F S1024x1024 .bf16 :=
  VO2_4.read (Elt F) (VO2_4.writes (Elt F) VO2_4.junk (kernelRun2_A (Ix := Ix) (U := U) (Lvl := Lvl) 𝒱₀ c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt2 (c : Dev nD) (t : Fin cfg2.N) : Vec F S1024x1024 .bf16 :=
  out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) (iblk V c 3 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = iblk V c 3 t := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t) := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d
theorem before2_3 (c : Dev nD) (t : Fin cfg2.N) (d) : (dat (Ix := Ix) (U := U) (Lvl := Lvl) 𝒱₀ V D c).before 3 t d = iblk V c 3 t :=
  before2_3_of V (dat (Ix := Ix) (U := U) (Lvl := Lvl) 𝒱₀ V D c) (A_eq 𝒱₀ V D c 3) (after2_3 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms2_0 t) fullShare ((dat (Ix := Ix) (U := U) (Lvl := Lvl) 𝒱₀ V D c).after 0 t)
    ∗ owns (c : Thread nD τ) (ms2_1 t) fullShare ((dat (Ix := Ix) (U := U) (Lvl := Lvl) 𝒱₀ V D c).after 1 t)
    ∗ owns (c : Thread nD τ) (ms2_2 t) fullShare ((dat (Ix := Ix) (U := U) (Lvl := Lvl) 𝒱₀ V D c).after 2 t)
    ∗ owns (c : Thread nD τ) (ms2_3 t) fullShare ((dat (Ix := Ix) (U := U) (Lvl := Lvl) 𝒱₀ V D c).after 3 t)
    ∗ owns (c : Thread nD τ) (ms2_4 t) fullShare ((dat (Ix := Ix) (U := U) (Lvl := Lvl) 𝒱₀ V D c).after 4 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A (Ix := Ix) (U := U) (Lvl := Lvl) 𝒱₀ c (grid2.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 (Ix := Ix) (U := U) (Lvl := Lvl) 𝒱₀ c _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.Kernel.Own.K2

end
-- ==== Proof.Kernel.Records.lean ====
/-
  The three regions' records: each call's body obligation carried to the state of every buffer between the calls.
-/
module

public import proofs.«01_k».proof.Proof.Gen.Kernel.Regions
public import proofs.«01_k».proof.Proof.Kernel.K0
public import proofs.«01_k».proof.Proof.Kernel.K1
public import proofs.«01_k».proof.Proof.Kernel.K2
public import Idealize.ShloMosaic.Lib.Pipeline.RegionArrays

@[expose] public section

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
/-- Region 0's entry contents: the valuation before item 1, at the TensorCore's references. -/
abbrev Ve0 (m : (ℓ : Loc nD τ sig) → Buf (Elt F) ℓ) (c : Dev nD) (b : Ref sig .tc) : Buf (Elt F) ((c : Thread nD τ).loc b) := V1 m c (Proc.devRef .tc b)

theorem V2_at_main_v2 (m : (ℓ : Loc nD τ sig) → Buf (Elt F) ℓ) (outs : Outs (F := F)) (c : Dev nD) : V2 m outs c (Proc.devRef .tc main_v2) = outs 2 main_v2 c := by
  simp only [V2, Function.update_self]

/-- Across region 0 every held buffer but its arrays keeps its contents: the frame has it change its output arrays alone. -/
theorem rest0_eq (m : (ℓ : Loc nD τ sig) → Buf (Elt F) ℓ) (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v2 : b ≠ Proc.devRef .tc main_v2 := by rintro rfl; exact hn (by first | exact arr0_mem 5 | decide)
  simp only [V2, Function.update_of_ne h_main_v2]

/-- Each window's array of region 1 (custom call 1), as a device buffer, is in the region's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers: unscoped. -/
theorem arr1_S : Pipeline.arrRefs (τ := τ) spec1 ⊆ Pipeline.ucRefs τ sig :=
  Pipeline.arrRefs_sub_ucRefs spec1 (by decide)
/-- Region 1's entry contents: the valuation before item 2, at the TensorCore's references. -/
abbrev Ve1 (m : (ℓ : Loc nD τ sig) → Buf (Elt F) ℓ) (outs : Outs (F := F)) (c : Dev nD) (b : Ref sig .tc) : Buf (Elt F) ((c : Thread nD τ).loc b) := V2 m outs c (Proc.devRef .tc b)

theorem V3_at_main_v3 (m : (ℓ : Loc nD τ sig) → Buf (Elt F) ℓ) (outs : Outs (F := F)) (c : Dev nD) : V3 m outs c (Proc.devRef .tc main_v3) = outs 3 main_v3 c := by
  simp only [V3, Function.update_self]

/-- Across region 1 every held buffer but its arrays keeps its contents: the frame has it change its output arrays alone. -/
theorem rest1_eq (m : (ℓ : Loc nD τ sig) → Buf (Elt F) ℓ) (outs : Outs (F := F)) (c : Dev nD) : ∀ b ∈ (Pipeline.ucRefs τ sig) \ Pipeline.arrRefs (τ := τ) spec1, V3 m outs c b = V2 m outs c b := fun b hb => by
  have hn : b ∉ Pipeline.arrRefs (τ := τ) spec1 := (Finset.mem_sdiff.mp hb).2
  have h_main_v3 : b ≠ Proc.devRef .tc main_v3 := by rintro rfl; exact hn (by first | exact arr1_mem 2 | decide)
  simp only [V3, Function.update_of_ne h_main_v3]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 3, at the TensorCore's references. -/
abbrev Ve2 (m : (ℓ : Loc nD τ sig) → Buf (Elt F) ℓ) (outs : Outs (F := F)) (c : Dev nD) (b : Ref sig .tc) : Buf (Elt F) ((c : Thread nD τ).loc b) := V3 m outs c (Proc.devRef .tc b)

theorem V4_at_main_v4 (m : (ℓ : Loc nD τ sig) → Buf (Elt F) ℓ) (outs : Outs (F := F)) (c : Dev nD) : V4 m outs c (Proc.devRef .tc main_v4) = outs 4 main_v4 c := by
  simp only [V4, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V4 m outs c b = V3 m outs c b := fun b hb => by
  have hn : b ∉ Pipeline.arrRefs (τ := τ) spec2 := (Finset.mem_sdiff.mp hb).2
  have h_main_v4 : b ≠ Proc.devRef .tc main_v4 := by rintro rfl; exact hn (by first | exact arr2_mem 4 | decide)
  simp only [V4, Function.update_of_ne h_main_v4]

section

variable {Ix : Type} [DecidableEq Ix] {U : Type} [URA U] {Lvl : Type} [Preorder Lvl]

/-- The proof data of the three regions, each entered from its contents while the core owes `DK`. -/
def pdatsD (m : (ℓ : Loc nD τ sig) → Buf (Elt F) ℓ) (outs : Outs (F := F)) (𝒱₀ : Variants) (D0 D1 D2 : Dev nD → CellTallies nD τ sig Ix) :
    (p : Fin 3) → (c : Dev nD) → Dat τ (Elt F) Ix ℕ U Lvl (cfgs p) c
  | ⟨0, _⟩ => fun c => K0.dat 𝒱₀ (Ve0 m) D0 c
  | ⟨1, _⟩ => fun c => K1.dat 𝒱₀ (Ve1 m outs) D1 c
  | ⟨2, _⟩ => fun c => K2.dat 𝒱₀ (Ve2 m outs) D2 c

/-! ## The regions' records and entailments -/

-- a library definition stated over `pin pcs a p` unifies with the pinned configuration only when unification may unfold plain
-- definitions in a metavariable's type
set_option backward.isDefEq.respectTransparency.types false in
/-- Region 0 (custom call 0, item 1) from the kernel's run: its arrays held at `V1` in and at `V2` out. Every other held
    buffer, at `V1`, and `Er c` ride; the random-number register goes in and comes out; the core owes `D0 c`. -/
def R0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b) (Er : Dev nD → sProp (MT nD τ sig Ix (Elt F) ℕ U Lvl))
    (hout0_5 : ∀ c : Dev nD, outs 2 main_v2 c = ((pdatsD (U := U) (Lvl := Lvl) m outs 𝒱₀ D0 D1 D2) 0 c).arrAt 5 cfg0.N) :
    RegionSeg (pcfgs (F := F)) adm (pdatsD (U := U) (Lvl := Lvl) m outs 𝒱₀ D0 D1 D2) ι defs₀ 𝒱₀ L lv 0 :=
  Pipeline.RegionSeg.ofHeld (pcfgs (F := F)) adm (pdatsD (U := U) (Lvl := Lvl) m outs 𝒱₀ D0 D1 D2) ι defs₀ 𝒱₀ L lv 0 D0
    (fun c => iprop(∃ r, prngReg c r)) (fun c => iprop(∃ r, prngReg c r))
    launch0.toP rfl
    (fun c => (K0.body_obligation (U := U) (Lvl := Lvl) 𝒱₀ (Ve0 m) D0 ι c).loose) (fun _ _ => rfl) (fun _ => rfl)
    (fun c => ((pdatsD (U := U) (Lvl := Lvl) m outs 𝒱₀ D0 D1 D2) 0 c).share_full fun _ => rfl) (fun _ => .rfl) (fun _ => .rfl) b hcut
    (fun c => iprop(StableHlo.held (c : Thread nD τ) ((Pipeline.ucRefs τ sig) \ Pipeline.arrRefs (τ := τ) spec0) (V1 m c) ∗ Er c))
    (V1 m) (V2 m outs) (fun _ _ => rfl)
    (fun c => fun | 0 => (((pdatsD (U := U) (Lvl := Lvl) m outs 𝒱₀ D0 D1 D2) 0 c).arrAt_in 0 rfl _).trans ((K0.A_eq (U := U) (Lvl := Lvl) 𝒱₀ (Ve0 m) D0 c 0).trans (V2_of m outs c (Pipeline.arrRef spec0 0) (by decide)).symm) | 1 => (((pdatsD (U := U) (Lvl := Lvl) m outs 𝒱₀ D0 D1 D2) 0 c).arrAt_in 1 rfl _).trans ((K0.A_eq (U := U) (Lvl := Lvl) 𝒱₀ (Ve0 m) D0 c 1).trans (V2_of m outs c (Pipeline.arrRef spec0 1) (by decide)).symm) | 2 => (((pdatsD (U := U) (Lvl := Lvl) m outs 𝒱₀ D0 D1 D2) 0 c).arrAt_in 2 rfl _).trans ((K0.A_eq (U := U) (Lvl := Lvl) 𝒱₀ (Ve0 m) D0 c 2).trans (V2_of m outs c (Pipeline.arrRef spec0 2) (by decide)).symm) | 3 => (((pdatsD (U := U) (Lvl := Lvl) m outs 𝒱₀ D0 D1 D2) 0 c).arrAt_in 3 rfl _).trans ((K0.A_eq (U := U) (Lvl := Lvl) 𝒱₀ (Ve0 m) D0 c 3).trans (V2_of m outs c (Pipeline.arrRef spec0 3) (by decide)).symm) | 4 => (((pdatsD (U := U) (Lvl := Lvl) m outs 𝒱₀ D0 D1 D2) 0 c).arrAt_in 4 rfl _).trans ((K0.A_eq (U := U) (Lvl := Lvl) 𝒱₀ (Ve0 m) D0 c 4).trans (V2_of m outs c (Pipeline.arrRef spec0 4) (by decide)).symm) | 5 => (hout0_5 c).symm.trans (V2_at_main_v2 m outs c).symm | ⟨_ + 6, h⟩ => absurd h (Nat.not_lt.2 (Nat.le_add_left _ _)))

/-- Region 0's entry entailment: the held buffers at `V1` split at its arrays, and the rest state `E 0` sorted (`hEin`). -/
theorem hpre0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEin : ∀ c : Dev nD, E 0 c ⊢ iprop((∃ r, prngReg c r) ∗ (∃ W, owes (c : Thread nD τ) (D0 c) W) ∗ Er c))
    (hout0_5 : ∀ c : Dev nD, outs 2 main_v2 c = ((pdatsD (U := U) (Lvl := Lvl) m outs 𝒱₀ D0 D1 D2) 0 c).arrAt 5 cfg0.N) (c : Dev nD) :
    iprop(StableHlo.held (c : Thread nD τ) (Pipeline.ucRefs τ sig) (V1 m c) ∗ E 0 c) ⊢ (R0D m outs 𝒱₀ L lv ι D0 D1 D2 b hcut Er hout0_5).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W)
  rw [StableHlo.held_sub_split (c : Thread nD τ) arr0_S (V1 m c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 0's exit entailment: its arrays at `V2` rejoined with the other held buffers, unchanged (`rest0_eq`), and the rest state
    `E 1` made (`hEout`). -/
theorem hpost0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D0 c) W) ∗ Er c) ⊢ E 1 c)
    (hout0_5 : ∀ c : Dev nD, outs 2 main_v2 c = ((pdatsD (U := U) (Lvl := Lvl) m outs 𝒱₀ D0 D1 D2) 0 c).arrAt 5 cfg0.N) (c : Dev nD) :
    (R0D m outs 𝒱₀ L lv ι D0 D1 D2 b hcut Er hout0_5).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 1 (custom call 1, item 2) from the kernel's run: its arrays held at `V2` in and at `V3` out. Every other held
    buffer, at `V2`, and `Er c` ride; the random-number register goes in and comes out; the core owes `D1 c`. -/
def R1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b) (Er : Dev nD → sProp (MT nD τ sig Ix (Elt F) ℕ U Lvl))
    (hout1_2 : ∀ c : Dev nD, outs 3 main_v3 c = ((pdatsD (U := U) (Lvl := Lvl) m outs 𝒱₀ D0 D1 D2) 1 c).arrAt 2 cfg1.N) :
    RegionSeg (pcfgs (F := F)) adm (pdatsD (U := U) (Lvl := Lvl) m outs 𝒱₀ D0 D1 D2) ι defs₀ 𝒱₀ L lv 1 :=
  Pipeline.RegionSeg.ofHeld (pcfgs (F := F)) adm (pdatsD (U := U) (Lvl := Lvl) m outs 𝒱₀ D0 D1 D2) ι defs₀ 𝒱₀ L lv 1 D1
    (fun c => iprop(∃ r, prngReg c r)) (fun c => iprop(∃ r, prngReg c r))
    launch1.toP rfl
    (fun c => (K1.body_obligation (U := U) (Lvl := Lvl) 𝒱₀ (Ve1 m outs) D1 ι c).loose) (fun _ _ => rfl) (fun _ => rfl)
    (fun c => ((pdatsD (U := U) (Lvl := Lvl) m outs 𝒱₀ D0 D1 D2) 1 c).share_full fun _ => rfl) (fun _ => .rfl) (fun _ => .rfl) b hcut
    (fun c => iprop(StableHlo.held (c : Thread nD τ) ((Pipeline.ucRefs τ sig) \ Pipeline.arrRefs (τ := τ) spec1) (V2 m outs c) ∗ Er c))
    (V2 m outs) (V3 m outs) (fun _ _ => rfl)
    (fun c => fun | 0 => (((pdatsD (U := U) (Lvl := Lvl) m outs 𝒱₀ D0 D1 D2) 1 c).arrAt_in 0 rfl _).trans ((K1.A_eq (U := U) (Lvl := Lvl) 𝒱₀ (Ve1 m outs) D1 c 0).trans (V3_of m outs c (Pipeline.arrRef spec1 0) (by decide)).symm) | 1 => (((pdatsD (U := U) (Lvl := Lvl) m outs 𝒱₀ D0 D1 D2) 1 c).arrAt_in 1 rfl _).trans ((K1.A_eq (U := U) (Lvl := Lvl) 𝒱₀ (Ve1 m outs) D1 c 1).trans (V3_of m outs c (Pipeline.arrRef spec1 1) (by decide)).symm) | 2 => (hout1_2 c).symm.trans (V3_at_main_v3 m outs c).symm | ⟨_ + 3, h⟩ => absurd h (Nat.not_lt.2 (Nat.le_add_left _ _)))

/-- Region 1's entry entailment: the held buffers at `V2` split at its arrays, and the rest state `E 1` sorted (`hEin`). -/
theorem hpre1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEin : ∀ c : Dev nD, E 1 c ⊢ iprop((∃ r, prngReg c r) ∗ (∃ W, owes (c : Thread nD τ) (D1 c) W) ∗ Er c))
    (hout1_2 : ∀ c : Dev nD, outs 3 main_v3 c = ((pdatsD (U := U) (Lvl := Lvl) m outs 𝒱₀ D0 D1 D2) 1 c).arrAt 2 cfg1.N) (c : Dev nD) :
    iprop(StableHlo.held (c : Thread nD τ) (Pipeline.ucRefs τ sig) (V2 m outs c) ∗ E 1 c) ⊢ (R1D m outs 𝒱₀ L lv ι D0 D1 D2 b hcut Er hout1_2).pre c := by
  show _ ⊢ iprop(StableHlo.held (c : Thread nD τ) (Pipeline.arrRefs (τ := τ) spec1) (V2 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W)
  rw [StableHlo.held_sub_split (c : Thread nD τ) arr1_S (V2 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 1's exit entailment: its arrays at `V3` rejoined with the other held buffers, unchanged (`rest1_eq`), and the rest state
    `E 2` made (`hEout`). -/
theorem hpost1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D1 c) W) ∗ Er c) ⊢ E 2 c)
    (hout1_2 : ∀ c : Dev nD, outs 3 main_v3 c = ((pdatsD (U := U) (Lvl := Lvl) m outs 𝒱₀ D0 D1 D2) 1 c).arrAt 2 cfg1.N) (c : Dev nD) :
    (R1D m outs 𝒱₀ L lv ι D0 D1 D2 b hcut Er hout1_2).post c ⊢ iprop(StableHlo.held (c : Thread nD τ) (Pipeline.ucRefs τ sig) (V3 m outs c) ∗ E 2 c) := by
  show iprop(StableHlo.held (c : Thread nD τ) (Pipeline.arrRefs (τ := τ) spec1) (V3 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W) ⊢ _
  rw [StableHlo.held_sub_split (c : Thread nD τ) arr1_S (V3 m outs c),
    StableHlo.held_congr (c : Thread nD τ) (S := (Pipeline.ucRefs τ sig) \ Pipeline.arrRefs (τ := τ) spec1) (rest1_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 3) from the kernel's run: its arrays held at `V3` in and at `V4` out. Every other held
    buffer, at `V3`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_4 : ∀ c : Dev nD, outs 4 main_v4 c = ((pdatsD (U := U) (Lvl := Lvl) m outs 𝒱₀ D0 D1 D2) 2 c).arrAt 4 cfg2.N) :
    RegionSeg (pcfgs (F := F)) adm (pdatsD (U := U) (Lvl := Lvl) m outs 𝒱₀ D0 D1 D2) ι defs₀ 𝒱₀ L lv 2 :=
  Pipeline.RegionSeg.ofHeld (pcfgs (F := F)) adm (pdatsD (U := U) (Lvl := Lvl) m outs 𝒱₀ D0 D1 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ D0 D1 D2) 2 c).share_full fun _ => rfl) (fun _ => .rfl) (fun _ => .rfl) b hcut
    (fun c => iprop(StableHlo.held (c : Thread nD τ) ((Pipeline.ucRefs τ sig) \ Pipeline.arrRefs (τ := τ) spec2) (V3 m outs c) ∗ Er c))
    (V3 m outs) (V4 m outs) (fun _ _ => rfl)
    (fun c => fun | 0 => (((pdatsD (U := U) (Lvl := Lvl) m outs 𝒱₀ D0 D1 D2) 2 c).arrAt_in 0 rfl _).trans ((K2.A_eq (U := U) (Lvl := Lvl) 𝒱₀ (Ve2 m outs) D2 c 0).trans (V4_of m outs c (Pipeline.arrRef spec2 0) (by decide)).symm) | 1 => (((pdatsD (U := U) (Lvl := Lvl) m outs 𝒱₀ D0 D1 D2) 2 c).arrAt_in 1 rfl _).trans ((K2.A_eq (U := U) (Lvl := Lvl) 𝒱₀ (Ve2 m outs) D2 c 1).trans (V4_of m outs c (Pipeline.arrRef spec2 1) (by decide)).symm) | 2 => (((pdatsD (U := U) (Lvl := Lvl) m outs 𝒱₀ D0 D1 D2) 2 c).arrAt_in 2 rfl _).trans ((K2.A_eq (U := U) (Lvl := Lvl) 𝒱₀ (Ve2 m outs) D2 c 2).trans (V4_of m outs c (Pipeline.arrRef spec2 2) (by decide)).symm) | 3 => (((pdatsD (U := U) (Lvl := Lvl) m outs 𝒱₀ D0 D1 D2) 2 c).arrAt_in 3 rfl _).trans ((K2.A_eq (U := U) (Lvl := Lvl) 𝒱₀ (Ve2 m outs) D2 c 3).trans (V4_of m outs c (Pipeline.arrRef spec2 3) (by decide)).symm) | 4 => (hout2_4 c).symm.trans (V4_at_main_v4 m outs c).symm | ⟨_ + 5, h⟩ => absurd h (Nat.not_lt.2 (Nat.le_add_left _ _)))

/-- Region 2's entry entailment: the held buffers at `V3` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_4 : ∀ c : Dev nD, outs 4 main_v4 c = ((pdatsD (U := U) (Lvl := Lvl) m outs 𝒱₀ D0 D1 D2) 2 c).arrAt 4 cfg2.N) (c : Dev nD) :
    iprop(StableHlo.held (c : Thread nD τ) (Pipeline.ucRefs τ sig) (V3 m outs c) ∗ E 2 c) ⊢ (R2D m outs 𝒱₀ L lv ι D0 D1 D2 b hcut Er hout2_4).pre c := by
  show _ ⊢ iprop(StableHlo.held (c : Thread nD τ) (Pipeline.arrRefs (τ := τ) spec2) (V3 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W)
  rw [StableHlo.held_sub_split (c : Thread nD τ) arr2_S (V3 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V4` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_4 : ∀ c : Dev nD, outs 4 main_v4 c = ((pdatsD (U := U) (Lvl := Lvl) m outs 𝒱₀ D0 D1 D2) 2 c).arrAt 4 cfg2.N) (c : Dev nD) :
    (R2D m outs 𝒱₀ L lv ι D0 D1 D2 b hcut Er hout2_4).post c ⊢ iprop(StableHlo.held (c : Thread nD τ) (Pipeline.ucRefs τ sig) (V4 m outs c) ∗ E 3 c) := by
  show iprop(StableHlo.held (c : Thread nD τ) (Pipeline.arrRefs (τ := τ) spec2) (V4 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W) ⊢ _
  rw [StableHlo.held_sub_split (c : Thread nD τ) arr2_S (V4 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

end Cert.Kernel.Own

end
-- ==== Proof.Kernel.Program.lean ====
/-
  The whole program's run: the arguments as launched, the result at its last contents, the counters at zero.
-/
module

public import proofs.«01_k».proof.Proof.Kernel.Records
public import Idealize.ShloMosaic.Lib.Pipeline.Kit

@[expose] public section

noncomputable section

namespace Cert.Kernel.Own

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

-- `θ_run_regions_kit_dev_sems`'s implicit arguments are found by unifying its conclusion with this one, which takes unfolding
-- plain definitions in a metavariable's type
set_option backward.isDefEq.respectTransparency.types false in
/-- Given the three regions' records, every weakly fair execution of the program from memory `m` with zero counters ends with each
    argument as launched, the result at the last contents `V5`, and every counter at zero. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v5) = V5 m outs c (Proc.devRef .tc main_v5))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, (hpost0 c).trans (hpre1 c), (hpost1 c).trans (hpre2 c), hpost2 c, sep_mono .rfl (hE3 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v5) = V5 m outs c (Proc.devRef .tc main_v5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        (h (Proc.devRef .tc main_arg6) (Finset.mem_filter.mpr ⟨StableHlo.devRef_mem_tcRefs main_arg6, by decide⟩)).trans (V5_main_arg6 m outs c),
        (h (Proc.devRef .tc main_arg7) (Finset.mem_filter.mpr ⟨StableHlo.devRef_mem_tcRefs main_arg7, by decide⟩)).trans (V5_main_arg7 m outs c),
        h (Proc.devRef .tc main_v5) (Finset.mem_filter.mpr ⟨StableHlo.devRef_mem_tcRefs main_v5, by decide⟩)⟩
    · iexact HSI

/-! ## The program's run -/

section

variable (m : (ℓ : Loc nD τ sig) → Buf (Elt F) ℓ)

local notation "𝕄" => MT nD τ sig Unit (Elt F) ℕ (UR sig nD τ) ℕ

/-- No core owes anything. -/
abbrev noDue : Dev nD → CellTallies nD τ sig Unit := fun _ => 0
/-- What the weight builder leaves. -/
abbrev built (c : Dev nD) : Buf (Elt F) ((c : Thread nD τ).loc main_v2) :=
  (K0.dat (U := UR sig nD τ) (Lvl := ℕ) Variants.none (Ve0 m) noDue c).arrAt 5 cfg0.N
/-- The contents known after the weight builder. -/
def outsA : Outs (F := F) := fun _ => Function.update (fun r c => m ((c : Thread nD τ).loc r)) main_v2 (built m)
/-- What the low-rank factor's call leaves. -/
abbrev factor (c : Dev nD) : Buf (Elt F) ((c : Thread nD τ).loc main_v3) :=
  (K1.dat (U := UR sig nD τ) (Lvl := ℕ) Variants.none (Ve1 m (outsA m)) noDue c).arrAt 2 cfg1.N
/-- The contents known after the low-rank factor's call. -/
def outsB : Outs (F := F) := fun j => Function.update (outsA m j) main_v3 (factor m)
/-- What the output product's call leaves. -/
abbrev product (c : Dev nD) : Buf (Elt F) ((c : Thread nD τ).loc main_v4) :=
  (K2.dat (U := UR sig nD τ) (Lvl := ℕ) Variants.none (Ve2 m (outsB m)) noDue c).arrAt 4 cfg2.N
/-- The contents known after all three calls. -/
def outsC : Outs (F := F) := fun j => Function.update (outsB m j) main_v4 (product m)

theorem outsA_v2 (j : ℕ) : outsA m j main_v2 = built m := Function.update_self ..
theorem outsB_v2 (j : ℕ) : outsB m j main_v2 = built m := (Function.update_of_ne (by decide) ..).trans (outsA_v2 m j)
theorem outsC_v2 (j : ℕ) : outsC m j main_v2 = built m := (Function.update_of_ne (by decide) ..).trans (outsB_v2 m j)
theorem outsB_v3 (j : ℕ) : outsB m j main_v3 = factor m := Function.update_self ..
theorem outsC_v3 (j : ℕ) : outsC m j main_v3 = factor m := (Function.update_of_ne (by decide) ..).trans (outsB_v3 m j)
theorem outsC_v4 (j : ℕ) : outsC m j main_v4 = product m := Function.update_self ..

theorem V2_outs (c : Dev nD) : V2 m (outsC m) c = V2 m (outsA m) c := by unfold V2; rw [outsC_v2, outsA_v2]
theorem V2_outsB (c : Dev nD) : V2 m (outsC m) c = V2 m (outsB m) c := by unfold V2; rw [outsC_v2, outsB_v2]
theorem V3_outs (c : Dev nD) : V3 m (outsC m) c = V3 m (outsB m) c := by unfold V3; rw [outsC_v3, outsB_v3, V2_outsB]

theorem Ve1_outs : Ve1 m (outsC m) = Ve1 m (outsA m) := by funext c b; unfold Ve1; rw [V2_outs]
theorem Ve2_outs : Ve2 m (outsC m) = Ve2 m (outsB m) := by funext c b; unfold Ve2; rw [V3_outs]

/-- The rest of every thread state: the random-number register and an empty due. -/
abbrev rest (c : Dev nD) : sProp 𝕄 := iprop((∃ r, prngReg c r) ∗ (∃ W, owes (c : Thread nD τ) (0 : CellTallies nD τ sig Unit) W) ∗ emp)

/-- The one wait index, at every cell of a TensorCore. -/
def lvls : GSem nD τ sig → Finset Unit := fun g => if g.1.2 = .tc then {()} else ∅

theorem cut (p : Fin 3) : Pipeline.LevelCut (pcfgs (F := F)) adm () lvls (fun _ _ => (0 : ℕ)) p noDue (fun _ => 0) where
  hι c w s := by unfold lvls; rw [if_pos rfl]; exact Finset.mem_singleton_self _
  hιb c w s := Nat.le_refl _
  hD c g i h := absurd h (by simp [noDue])

set_option backward.isDefEq.respectTransparency.types false in
/-- Every weakly fair execution of the program from memory `m` with zero counters ends with each argument as launched, the result at the
    last contents, and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v5) = V5 m (outsC m) c (Proc.devRef .tc main_v5))
      ∧ r.2.sem = fun _ => 0) :=
  run_cond m emb₁ () Variants.none lvls (fun _ _ => (0 : ℕ)) (fun g h => if_neg h) ρ (outsC m)
    (pdatsD m (outsC m) Variants.none noDue noDue noDue) noDue (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ => rest)
    (by
      refine Pipeline.initEach lvls (fun _ _ => (0 : ℕ)) fun c => ?_
      iintro ⟨⟨-, HO, -, Hp, -⟩, -⟩
      imodintro
      isplitl [Hp]; · iexists _; iexact Hp
      isplitl [HO]; · iexists _; iexact HO
      iempintro)
    (fun c => by iintro ⟨-, HO, -⟩; iexact HO)
    (R0D m (outsC m) Variants.none lvls _ () noDue noDue noDue _ (cut 0) (fun _ => iprop(emp)) (fun c => by rw [outsC_v2]; rfl))
      (hpre0D m (outsC m) Variants.none lvls _ () noDue noDue noDue _ (cut 0) (fun _ => rest) (fun _ => iprop(emp)) (fun _ => .rfl) _)
      (hpost0D m (outsC m) Variants.none lvls _ () noDue noDue noDue _ (cut 0) (fun _ => rest) (fun _ => iprop(emp)) (fun _ => .rfl) _)
    (R1D m (outsC m) Variants.none lvls _ () noDue noDue noDue _ (cut 1) (fun _ => iprop(emp)) (fun c => by rw [outsC_v3]; unfold pdatsD; dsimp only; rw [Ve1_outs]))
      (hpre1D m (outsC m) Variants.none lvls _ () noDue noDue noDue _ (cut 1) (fun _ => rest) (fun _ => iprop(emp)) (fun _ => .rfl) _)
      (hpost1D m (outsC m) Variants.none lvls _ () noDue noDue noDue _ (cut 1) (fun _ => rest) (fun _ => iprop(emp)) (fun _ => .rfl) _)
    (R2D m (outsC m) Variants.none lvls _ () noDue noDue noDue _ (cut 2) (fun _ => iprop(emp)) (fun c => by rw [outsC_v4]; unfold pdatsD; dsimp only; rw [Ve2_outs]))
      (hpre2D m (outsC m) Variants.none lvls _ () noDue noDue noDue _ (cut 2) (fun _ => rest) (fun _ => iprop(emp)) (fun _ => .rfl) _)
      (hpost2D m (outsC m) Variants.none lvls _ () noDue noDue noDue _ (cut 2) (fun _ => rest) (fun _ => iprop(emp)) (fun _ => .rfl) _)

end

end Cert.Kernel.Own

end
-- ==== Proof.KernelIdeal.Words.lean ====
/-
  The words the weight builder computes before each of its loops, and why the side conditions it assumes hold.
-/
module

public import proofs.«01_k».proof.Proof.Gen.KernelIdeal.Skeleton
public import Idealize.ShloMosaic.Lib.LoopRemainder
public import Idealize.ShloMosaic.PureOps.Reduce
public import Idealize.ShloMosaic.Lib.SortNet.Extract

@[expose] public section

set_option maxRecDepth 16384

noncomputable section

namespace Cert.KernelIdeal.Build

open Cert.KernelIdeal Cert.KernelIdeal.Gen
open Idealize.ShloMosaic

variable {F : FTy → Type} [FloatOps F]

/-- The row number of each element of a square block of row indices. -/
abbrev rank : IVec S128x128 32 := iota .tc S128x128 32 [0] iota_S128x128_d0_w32

/-- The number of the first row of the block that the mask picks an element of; 128 if it picks none. -/
def firstRow (m : IVec S128x128 1) : BitVec 32 :=
  extractAt ![0, 0, 0] (shapeCast S1x1x1 (multiReductionI .minsi [1, 2] S1
    (shapeCast S1x128x128 (select m rank (broadcast S128x128 128#32)) shapeCasts_S128x128_S1x128x128)
    2147483647#32 reduces_S1x128x128_S1 rfl) shapeCasts_S1_S1x1x1) inpos_S1x1x1_p0_0_0

/-- The number of the last row of the block that the mask picks an element of; -1 if it picks none. -/
def lastRow (m : IVec S128x128 1) : BitVec 32 :=
  extractAt ![0, 0, 0] (shapeCast S1x1x1 (multiReductionI .maxsi [1, 2] S1
    (shapeCast S1x128x128 (select m rank (broadcast S128x128 4294967295#32)) shapeCasts_S128x128_S1x128x128)
    2147483648#32 reduces_S1x128x128_S1 rfl) shapeCasts_S1_S1x1x1) inpos_S1x1x1_p0_0_0

/-- A fold of the signed minimum over a set of indices is at most the start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  refine Finset.induction_on s ⟨le_of_eq (by rw [Finset.fold_empty]), fun i hi => absurd hi (Finset.notMem_empty i),
    Or.inl (by rw [Finset.fold_empty])⟩ ?_
  intro a s has ih
  obtain ⟨h1, h2, h3⟩ := ih
  rw [Finset.fold_insert has]
  have hm := SortNet.toInt_minsi (g a) (s.fold IntOp.minsi init g)
  refine ⟨le_trans (by rw [hm]; exact min_le_right _ _) h1, fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

/-- The one index of the shape that a whole reduction leaves. -/
abbrev only : S1.Idx := fun a => ⟨0, by fin_cases a; decide⟩

theorem only_eq (j : S1.Idx) : only = j := by
  funext a; fin_cases a; exact Fin.ext (by have h : (j 0).val < 1 := (j 0).isLt; show 0 = (j 0).val; omega)

theorem rank_toInt (k : S128x128.Idx) : (rank k).toInt = (k 0).val := by
  have h : (k 0).val < 128 := (k 0).isLt
  show (BitVec.ofNat 32 (0 * 128 + (k 0).val)).toInt = _
  rw [BitVec.toInt_ofNat']; simp only [Nat.zero_mul, Nat.zero_add]
  rw [Int.bmod_def]; push_cast; split <;> omega

/-- What the two reductions fold: the row number where the mask picks the element, else the given word. -/
theorem picked (m : IVec S128x128 1) (e : BitVec 32) (k : S128x128.Idx) :
    select m rank (broadcast S128x128 e) k = if m k = 1 then rank k else e := rfl

theorem firstRow_eq (m : IVec S128x128 1) : firstRow m = (Finset.univ.filter fun i => reduces_S1x128x128_S1.drop i = only).fold IntOp.minsi 2147483647#32
    (shapeCast S1x128x128 (select m rank (broadcast S128x128 128#32)) shapeCasts_S128x128_S1x128x128) := by
  unfold firstRow extractAt
  rw [shapeCast]
  exact (multiReductionI_eq_fold .minsi _ _ _ rfl _).trans (by rw [← only_eq (Shape.reshapeEquiv _ _)]; rfl)

theorem lastRow_eq (m : IVec S128x128 1) : lastRow m = (Finset.univ.filter fun i => reduces_S1x128x128_S1.drop i = only).fold IntOp.maxsi 2147483648#32
    (shapeCast S1x128x128 (select m rank (broadcast S128x128 4294967295#32)) shapeCasts_S128x128_S1x128x128) := by
  unfold lastRow extractAt
  rw [shapeCast]
  exact (multiReductionI_eq_fold .maxsi _ _ _ rfl _).trans (by rw [← only_eq (Shape.reshapeEquiv _ _)]; rfl)

/-- Every element of the block is among those folded. -/
theorem met (k : S128x128.Idx) : ∃ i ∈ (Finset.univ.filter fun i => reduces_S1x128x128_S1.drop i = only),
    Shape.reshapeEquiv shapeCasts_S128x128_S1x128x128 i = k := by
  refine ⟨(Shape.reshapeEquiv shapeCasts_S128x128_S1x128x128).symm k, Finset.mem_filter.mpr ⟨Finset.mem_univ _, (only_eq _).symm⟩, ?_⟩
  exact Equiv.apply_symm_apply _ _

/-- The first row is at or above every row the mask picks an element of. -/
theorem firstRow_le (m : IVec S128x128 1) (k : S128x128.Idx) (hk : m k = 1) : (firstRow m).toInt ≤ (k 0).val := by
  obtain ⟨i, hi, e⟩ := met k
  have h := (fold_minsi_spec (shapeCast S1x128x128 (select m rank (broadcast S128x128 128#32)) shapeCasts_S128x128_S1x128x128) _ 2147483647#32).2.1 i hi
  rw [firstRow_eq]
  refine h.trans (le_of_eq ?_)
  unfold shapeCast
  rw [e, picked, if_pos hk, rank_toInt]

/-- The last row is at or below every row the mask picks an element of. -/
theorem le_lastRow (m : IVec S128x128 1) (k : S128x128.Idx) (hk : m k = 1) : ((k 0).val : ℤ) ≤ (lastRow m).toInt := by
  obtain ⟨i, hi, e⟩ := met k
  have h := (SortNet.fold_maxsi_spec (shapeCast S1x128x128 (select m rank (broadcast S128x128 4294967295#32)) shapeCasts_S128x128_S1x128x128) _ 2147483648#32).2.1 i hi
  rw [lastRow_eq]
  refine le_trans (le_of_eq ?_) h
  unfold shapeCast
  rw [e, picked, if_pos hk, rank_toInt]

/-- The first row's number is between 0 and 128. -/
theorem firstRow_range (m : IVec S128x128 1) : 0 ≤ (firstRow m).toInt ∧ (firstRow m).toInt ≤ 128 := by
  have hb : ∀ i, 0 ≤ (shapeCast S1x128x128 (select m rank (broadcast S128x128 128#32)) shapeCasts_S128x128_S1x128x128 i).toInt
      ∧ (shapeCast S1x128x128 (select m rank (broadcast S128x128 128#32)) shapeCasts_S128x128_S1x128x128 i).toInt ≤ 128 := by
    intro i
    unfold shapeCast
    have h : ((Shape.reshapeEquiv shapeCasts_S128x128_S1x128x128 i) 0).val < 128 := ((Shape.reshapeEquiv shapeCasts_S128x128_S1x128x128 i) 0).isLt
    rw [picked]
    split
    · rw [rank_toInt]; omega
    · decide
  obtain ⟨h1, h2, h3⟩ := fold_minsi_spec (shapeCast S1x128x128 (select m rank (broadcast S128x128 128#32)) shapeCasts_S128x128_S1x128x128)
    (Finset.univ.filter fun i => reduces_S1x128x128_S1.drop i = only) 2147483647#32
  rw [firstRow_eq]
  obtain ⟨i, hi, -⟩ := met (fun a => ⟨0, by fin_cases a <;> decide⟩)
  refine ⟨?_, (h2 i hi).trans (hb i).2⟩
  rcases h3 with h3 | ⟨i, -, h3⟩
  · rw [h3]; decide
  · rw [h3]; exact (hb i).1

/-- The last row's number is between -1 and 127. -/
theorem lastRow_range (m : IVec S128x128 1) : -1 ≤ (lastRow m).toInt ∧ (lastRow m).toInt ≤ 127 := by
  have hb : ∀ i, -1 ≤ (shapeCast S1x128x128 (select m rank (broadcast S128x128 4294967295#32)) shapeCasts_S128x128_S1x128x128 i).toInt
      ∧ (shapeCast S1x128x128 (select m rank (broadcast S128x128 4294967295#32)) shapeCasts_S128x128_S1x128x128 i).toInt ≤ 127 := by
    intro i
    unfold shapeCast
    have h : ((Shape.reshapeEquiv shapeCasts_S128x128_S1x128x128 i) 0).val < 128 := ((Shape.reshapeEquiv shapeCasts_S128x128_S1x128x128 i) 0).isLt
    rw [picked]
    split
    · rw [rank_toInt]; omega
    · decide
  obtain ⟨h1, h2, h3⟩ := SortNet.fold_maxsi_spec (shapeCast S1x128x128 (select m rank (broadcast S128x128 4294967295#32)) shapeCasts_S128x128_S1x128x128)
    (Finset.univ.filter fun i => reduces_S1x128x128_S1.drop i = only) 2147483648#32
  rw [lastRow_eq]
  obtain ⟨i, hi, -⟩ := met (fun a => ⟨0, by fin_cases a <;> decide⟩)
  refine ⟨(hb i).1.trans (h2 i hi), ?_⟩
  rcases h3 with h3 | ⟨i, -, h3⟩
  · rw [h3]; decide
  · rw [h3]; exact (hb i).2

/-- The loop's two bounds: the first row, and the row after the last. -/
theorem bounds (lo hi : BitVec 32) (h : 0 ≤ lo.toInt ∧ lo.toInt ≤ 128) (h' : -1 ≤ hi.toInt ∧ hi.toInt ≤ 127) :
    (k0_t1_loop lo hi).ub.toInt = hi.toInt + 1 := by
  show (Scalar.addi lo (Scalar.muli (Scalar.divsi (Scalar.subi (Scalar.addi hi 1#32) lo) 1#32) 1#32)).toInt = _
  rw [Scalar.muli_divsi_one]
  have e : Scalar.addi lo (Scalar.subi (Scalar.addi hi 1#32) lo) = hi + 1#32 := by
    show lo + ((hi + 1#32) - lo) = hi + 1#32
    rw [BitVec.add_comm, BitVec.sub_add_cancel]
  rw [e, BitVec.toInt_add, Int.bmod_def]
  have : (1#32 : BitVec 32).toInt = 1 := by decide
  rw [this]; push_cast; split <;> omega

/-- The counted loop between those bounds does not wrap. -/
theorem firstLoopOK (lo hi : BitVec 32) (h : 0 ≤ lo.toInt ∧ lo.toInt ≤ 128) (h' : -1 ≤ hi.toInt ∧ hi.toInt ≤ 127) :
    (k0_t1_loop lo hi).OK := by
  refine Affine.ok (Affine.word lo) (Affine.word (k0_t1_loop lo hi).ub) (Affine.ofNat 1 ⟨rfl, by decide⟩) ⟨by decide, ?_⟩
  rw [bounds lo hi h h']
  omega

/-- In that range the loop's bounds do not wrap and its rows lie in the block, which is what the builder takes for granted. -/
theorem loopOK (lo hi : BitVec 32) (h : 0 ≤ lo.toInt ∧ lo.toInt ≤ 128) (h' : -1 ≤ hi.toInt ∧ hi.toInt ≤ 127) : k0_chk1 lo hi := by
  have ok := firstLoopOK lo hi h h'
  refine ⟨ok, fun t a => ?_, Scf.rem_ok _ _, fun t => (Scf.rem_no_trip _ _ t).elim⟩
  have h1 := Scf.iv_lt_ub ok t.isLt
  have h2 := Scf.toInt_iv ok (Nat.le_of_lt t.isLt)
  rw [bounds lo hi h h'] at h1
  have h3 : (k0_t1_loop lo hi).st.toInt = 1 := (by decide : (1#32 : BitVec 32).toInt = 1)
  rw [h3] at h2
  fin_cases a
  · show (Scf.iv lo 1#32 t).toNat + 1 ≤ 128
    change (Scf.iv lo 1#32 t).toInt < _ at h1
    change (Scf.iv lo 1#32 t).toInt = lo.toInt + _ at h2
    have h4 := BitVec.toInt_eq_toNat_cond (Scf.iv lo 1#32 t)
    have h5 := (Scf.iv lo 1#32 t).isLt
    split at h4 <;> omega
  · show 0 + 128 ≤ 128
    omega

end Cert.KernelIdeal.Build

end
-- ==== Proof.KernelIdeal.Loop.lean ====
/-
  One loop of the weight builder: it walks down the rows `lo..hi` of the block of row indices and of values, and where an
  index names a row of the current group of 128 rows, writes the value there. Stated once, for any group.
-/
module

public import proofs.«01_k».proof.Proof.KernelIdeal.Words
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit

@[expose] public section

set_option maxRecDepth 16384

noncomputable section

namespace Cert.KernelIdeal.Build

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-- One trip's new block: where the row of indices, less the group's first row `base`, names the element's row, the row of
    values; elsewhere the block as it was. -/
def place (base : BitVec 32) (v8 : IVec S128x128 32) (acc : FVec F S128x128 .f32) (rows : Vec F S1x128 .i32) (vals : Vec F S1x128 .f32) :
    FVec F S128x128 .f32 :=
  select (cmpi .eq v8 (broadcastTo S128x128 (subi rows (broadcast S1x128 base)) broadcasts_S1x128_S128x128))
    (broadcastTo S128x128 (shapeCast S1x128 (shapeCast S1x128 vals shapeCasts_S1x128_S1x128) shapeCasts_S1x128_S1x128) broadcasts_S1x128_S128x128) acc

/-- A function applied `n` times, each time with its number, from `init`; past `n` nothing changes. -/
def iterate {α : Type} {n : ℕ} (f : Fin n → α → α) (init : α) : ℕ → α
  | 0 => init
  | k + 1 => if h : k < n then f ⟨k, h⟩ (iterate f init k) else iterate f init k

theorem iterate_succ {α : Type} {n : ℕ} (f : Fin n → α → α) (init : α) (k : Fin n) :
    iterate f init (k.val + 1) = f k (iterate f init k.val) := by
  rw [iterate]; exact dif_pos k.isLt

/-- What one trip makes of the block: the rows read off the two buffers' contents, and placed. -/
def trip {n : ℕ} (base : BitVec 32) (v8 : IVec S128x128 32)
    (arg4 : Memref sig .tc .vmem S128x128 .i32) (arg5 : Memref sig .tc .vmem S128x128 .f32)
    (off : Fin n → Fin 2 → ℕ) (hoff : ∀ k a, off k a + S1x128.size a ≤ S128x128.size a)
    (X4 : BufTy.Contents (Elt F) arg4.view.ty) (X5 : BufTy.Contents (Elt F) arg5.view.ty) (k : Fin n) (acc : FVec F S128x128 .f32) :
    FVec F S128x128 .f32 :=
  place base v8 acc (arg4.view.readAt (Elt F) (Rect.unit (s := S128x128) (off k) S1x128.size (hoff k)).toLoadRect X4)
    (arg5.view.readAt (Elt F) (Rect.unit (s := S128x128) (off k) S1x128.size (hoff k)).toLoadRect X5)

/-- The loop, one trip of which reads a row of indices and a row of values at the trip's place and places them, keeps the two buffers it reads, and before trip `k` carries the block after `k` trips. -/
@[instance_reducible, sl_loop] def loopInv (𝒱 : Variants) (c : Dev nD) (E : Set ℕ) (lb ub st : BitVec 32) (hok : Scf.OK lb ub st) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    LoopInv (M := 𝕄) Idealize.ShloMosaic.frame (wpE (defs₀ (F := F)) 𝒱 (c : Thread nD τ) none) E lb ub st hok init
      (fun k acc => do
        let rows : Vec F S1x128 .i32 ← Prog.lift (.load arg4 (Rect.unit (s := S128x128) (off k) S1x128.size (hoff k)).toLoadRect (View.loadsAt_vmem h_S1x128))
        let vals : Vec F S1x128 .f32 ← Prog.lift (.load arg5 (Rect.unit (s := S128x128) (off k) S1x128.size (hoff k)).toLoadRect (View.loadsAt_vmem h_S1x128))
        pure (place base v8 acc rows vals)) where
  inv k acc := iprop((arg4.view.loc (c : Thread nD τ) ↦[arg4.view.set]{fullShare} X4) ∗ (arg5.view.loc (c : Thread nD τ) ↦[arg5.view.set]{fullShare} X5)
    ∗ ⌜acc = iterate (trip base v8 arg4 arg5 off hoff X4 X5) init k⌝)
  step k acc := by
    iintro ⟨H4, H5, %h⟩
    subst h
    sl_exec
    sl_step
    isplitl [H4]; · iexact H4
    isplitl [H5]; · iexact H5
    ipureintro
    rw [iterate_succ]; rfl

/-- The block after all the trips of a loop: the trips' rows placed in order, a later one over an earlier one; a name
    that does not unfold, for the `swept_eq` that says what it is. -/
@[irreducible] def swept (lb ub st : BitVec 32) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) : FVec F S128x128 .f32 :=
  Classical.choose (p := fun v => v = iterate (trip base v8 arg4 arg5 off hoff X4 X5) init (Scf.trips lb ub st)) ⟨_, rfl⟩

theorem swept_eq (lb ub st : BitVec 32) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    swept lb ub st init base v8 arg4 arg5 off hoff X4 X5 = iterate (trip base v8 arg4 arg5 off hoff X4 X5) init (Scf.trips lb ub st) := by
  unfold swept
  exact Classical.choose_spec (p := fun v => v = iterate (trip base v8 arg4 arg5 off hoff X4 X5) init (Scf.trips lb ub st)) ⟨_, rfl⟩

/-- After the loop the carried block is `swept`'s. -/
instance loopExit (𝒱 : Variants) (c : Dev nD) (E : Set ℕ) (lb ub st : BitVec 32) (hok : Scf.OK lb ub st) (init : FVec F S128x128 .f32)
    (base : BitVec 32) (v8 : IVec S128x128 32) (arg4 : Memref sig .tc .vmem S128x128 .i32) (arg5 : Memref sig .tc .vmem S128x128 .f32)
    (off : Fin (Scf.trips lb ub st) → Fin 2 → ℕ) (hoff : ∀ k a, off k a + S1x128.size a ≤ S128x128.size a)
    (X4 : BufTy.Contents (Elt F) arg4.view.ty) (X5 : BufTy.Contents (Elt F) arg5.view.ty) :
    LoopExit (loopInv (Ix := Ix) (U := U) (Lvl := Lvl) 𝒱 c E lb ub st hok init base v8 arg4 arg5 off hoff X4 X5) where
  post acc := iprop((arg4.view.loc (c : Thread nD τ) ↦[arg4.view.set]{fullShare} X4) ∗ (arg5.view.loc (c : Thread nD τ) ↦[arg5.view.set]{fullShare} X5)
    ∗ ⌜acc = swept lb ub st init base v8 arg4 arg5 off hoff X4 X5⌝)
  exit acc := by
    show iprop((arg4.view.loc (c : Thread nD τ) ↦[arg4.view.set]{fullShare} X4) ∗ (arg5.view.loc (c : Thread nD τ) ↦[arg5.view.set]{fullShare} X5)
      ∗ ⌜acc = iterate (trip base v8 arg4 arg5 off hoff X4 X5) init (Scf.trips lb ub st)⌝) ⊢ _
    iintro ⟨H4, H5, %h⟩
    isplitl [H4]; · iexact H4
    isplitl [H5]; · iexact H5
    ipureintro
    rw [swept_eq]
    exact h

end Cert.KernelIdeal.Build

end
-- ==== Proof.KernelIdeal.Run.lean ====
/-
  The run of the weight builder's body on any whole buffers.
-/
module

public import proofs.«01_k».proof.Proof.KernelIdeal.Loop
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 32768

noncomputable section

namespace Cert.KernelIdeal.Build

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

set_option sl_exec.dischHeartbeats 20000 in
set_option pp.maxSteps 400 in
set_option maxHeartbeats 4000000 in
/-- The pieces that the body's stores leave in the result's buffer, last first, with the proof that on whole buffers, the inputs' at
    their contents and the result's at anything, the body runs to the inputs' as they were and the result's with these pieces written. -/
noncomputable def bodyRun (𝒱₀ : Variants) (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) :
    { L5 : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) 𝒱₀ c none) E (cc0_build_w i arg1 harg1 arg2 harg2 arg3 harg3 arg4 harg4 arg5 harg5 arg6 harg6) K } := by
  refine ⟨?_, fun E K => ?run⟩
  case run =>
    simp only [cc0_build_w_eq_skeleton]; unfold cc0_build_w_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec_parts (disch := (refine loopOK _ _ ?_ ?_; exact firstRow_range _; exact lastRow_range _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Build

end
-- ==== Proof.KernelIdeal.K0.lean ====
/-
  Call 0, the weight builder: its proof data and its body obligation, from any entry contents, over the run of its body.
-/
module

public import proofs.«01_k».proof.Proof.KernelIdeal.Run
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose array is `V`'s and
    whose body leaves the block in place. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose array is `V`'s and
    whose body leaves the block in place. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose array is `V`'s and
    whose body leaves the block in place. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose array is `V`'s and
    whose body leaves the block in place. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose array is `V`'s and
    whose body leaves the block in place. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- One staging buffer of the result's window, through which its contents are stated. -/
abbrev VO0_5 : View sig .tc .vmem S4096x128 .bf16 := (Memref.whole cc0_stg5_0 : Memref sig .tc .vmem S4096x128 .bf16).view
-- each window's staging memref at point `t`, and that it is whole
abbrev ms0_0 (t : Fin cfg0.N) : Memref sig .tc .vmem S2048x128 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .bf16 := win0_5.stage (cfg0.slots t 5)
abbrev hs0_5 (t : Fin cfg0.N) : (ms0_5 t).IsWhole := hstage0_5 ((cfg0.slots t 5).cast nbuf0_5)

/-- The run's pieces tile the result's block, so they cover it. -/
theorem cover0_A_5 (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) (y : S4096x128.Idx) :
    ∃ pc ∈ (Build.bodyRun (Ix := Ix) (U := U) (Lvl := Lvl) 𝒱₀ c i arg1 harg1 arg2 harg2 arg3 harg3 arg4 harg4 arg5 harg5 arg6 harg6 x0 x1 x2 x3 x4).1, y ∈ pc.1.set :=
  View.cover_of_tiledL (Build.bodyRun (Ix := Ix) (U := U) (Lvl := Lvl) 𝒱₀ c i arg1 harg1 arg2 harg2 arg3 harg3 arg4 harg4 arg5 harg5 arg6 harg6 x0 x1 x2 x3 x4).1 S128x128.size (by sl_kernel_rfl) y

/-- What the run leaves in the result's staging buffer: its pieces read back over junk. -/
def out0_A_5 (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) : Vec F S4096x128 .bf16 :=
  VO0_5.read (Elt F) (VO0_5.writes (Elt F) VO0_5.junk (Build.bodyRun (Ix := Ix) (U := U) (Lvl := Lvl) 𝒱₀ c i arg1 harg1 arg2 harg2 arg3 harg3 arg4 harg4 arg5 harg5 arg6 harg6 x0 x1 x2 x3 x4).1)

/-- What the result's staging buffer holds after the body at point `t`. -/
def outsAt0 (c : Dev nD) (t : Fin cfg0.N) : Vec F S4096x128 .bf16 :=
  out0_A_5 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t) (iblk V c 2 t) (iblk V c 3 t) (iblk V c 4 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg0.W) : (dat (Ix := Ix) (U := U) (Lvl := Lvl) 𝒱₀ V D c).A w = V c (Pipeline.arrRef spec0 w) := by
  dsimp only [dat]

-- What the body leaves, window by window.
theorem after0_0 (c : Dev nD) (t : Fin cfg0.N) : (dat (Ix := Ix) (U := U) (Lvl := Lvl) 𝒱₀ V D c).after 0 t = iblk V c 0 t := by dsimp only [dat]
theorem after0_1 (c : Dev nD) (t : Fin cfg0.N) : (dat (Ix := Ix) (U := U) (Lvl := Lvl) 𝒱₀ V D c).after 1 t = iblk V c 1 t := by dsimp only [dat]
theorem after0_2 (c : Dev nD) (t : Fin cfg0.N) : (dat (Ix := Ix) (U := U) (Lvl := Lvl) 𝒱₀ V D c).after 2 t = iblk V c 2 t := by dsimp only [dat]
theorem after0_3 (c : Dev nD) (t : Fin cfg0.N) : (dat (Ix := Ix) (U := U) (Lvl := Lvl) 𝒱₀ V D c).after 3 t = iblk V c 3 t := by dsimp only [dat]
theorem after0_4 (c : Dev nD) (t : Fin cfg0.N) : (dat (Ix := Ix) (U := U) (Lvl := Lvl) 𝒱₀ V D c).after 4 t = iblk V c 4 t := by dsimp only [dat]
theorem after0_5 (c : Dev nD) (t : Fin cfg0.N) : (dat (Ix := Ix) (U := U) (Lvl := Lvl) 𝒱₀ V D c).after 5 t = (outsAt0 (Ix := Ix) (U := U) (Lvl := Lvl) 𝒱₀ V c t) := by dsimp only [dat]

-- Each input's staging buffer holds its block at every point.
theorem before0_0 (c : Dev nD) (t : Fin cfg0.N) (d) : (dat (Ix := Ix) (U := U) (Lvl := Lvl) 𝒱₀ V D c).before 0 t d = iblk V c 0 t :=
  before0_0_of V (dat (Ix := Ix) (U := U) (Lvl := Lvl) 𝒱₀ V D c) (A_eq 𝒱₀ V D c 0) (after0_0 𝒱₀ V D c) t d
theorem before0_1 (c : Dev nD) (t : Fin cfg0.N) (d) : (dat (Ix := Ix) (U := U) (Lvl := Lvl) 𝒱₀ V D c).before 1 t d = iblk V c 1 t :=
  before0_1_of V (dat (Ix := Ix) (U := U) (Lvl := Lvl) 𝒱₀ V D c) (A_eq 𝒱₀ V D c 1) (after0_1 𝒱₀ V D c) t d
theorem before0_2 (c : Dev nD) (t : Fin cfg0.N) (d) : (dat (Ix := Ix) (U := U) (Lvl := Lvl) 𝒱₀ V D c).before 2 t d = iblk V c 2 t :=
  before0_2_of V (dat (Ix := Ix) (U := U) (Lvl := Lvl) 𝒱₀ V D c) (A_eq 𝒱₀ V D c 2) (after0_2 𝒱₀ V D c) t d
theorem before0_3 (c : Dev nD) (t : Fin cfg0.N) (d) : (dat (Ix := Ix) (U := U) (Lvl := Lvl) 𝒱₀ V D c).before 3 t d = iblk V c 3 t :=
  before0_3_of V (dat (Ix := Ix) (U := U) (Lvl := Lvl) 𝒱₀ V D c) (A_eq 𝒱₀ V D c 3) (after0_3 𝒱₀ V D c) t d
theorem before0_4 (c : Dev nD) (t : Fin cfg0.N) (d) : (dat (Ix := Ix) (U := U) (Lvl := Lvl) 𝒱₀ V D c).before 4 t d = iblk V c 4 t :=
  before0_4_of V (dat (Ix := Ix) (U := U) (Lvl := Lvl) 𝒱₀ V D c) (A_eq 𝒱₀ V D c 4) (after0_4 𝒱₀ V D c) t d

/-! ## The body obligation, at a generic point -/

/-- What the body is called with at point `t`, the windows one by one, -/
def bodyPre (c : Dev nD) (t : Fin cfg0.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms0_0 t) fullShare ((dat (Ix := Ix) (U := U) (Lvl := Lvl) 𝒱₀ V D c).before 0 t d))
    ∗ (∃ d, owns (c : Thread nD τ) (ms0_1 t) fullShare ((dat (Ix := Ix) (U := U) (Lvl := Lvl) 𝒱₀ V D c).before 1 t d))
    ∗ (∃ d, owns (c : Thread nD τ) (ms0_2 t) fullShare ((dat (Ix := Ix) (U := U) (Lvl := Lvl) 𝒱₀ V D c).before 2 t d))
    ∗ (∃ d, owns (c : Thread nD τ) (ms0_3 t) fullShare ((dat (Ix := Ix) (U := U) (Lvl := Lvl) 𝒱₀ V D c).before 3 t d))
    ∗ (∃ d, owns (c : Thread nD τ) (ms0_4 t) fullShare ((dat (Ix := Ix) (U := U) (Lvl := Lvl) 𝒱₀ V D c).before 4 t d))
    ∗ (∃ d, owns (c : Thread nD τ) (ms0_5 t) fullShare ((dat (Ix := Ix) (U := U) (Lvl := Lvl) 𝒱₀ V D c).before 5 t d)))

/-- and what it returns. -/
def bodyPost (c : Dev nD) (t : Fin cfg0.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms0_0 t) fullShare ((dat (Ix := Ix) (U := U) (Lvl := Lvl) 𝒱₀ V D c).after 0 t)
    ∗ owns (c : Thread nD τ) (ms0_1 t) fullShare ((dat (Ix := Ix) (U := U) (Lvl := Lvl) 𝒱₀ V D c).after 1 t)
    ∗ owns (c : Thread nD τ) (ms0_2 t) fullShare ((dat (Ix := Ix) (U := U) (Lvl := Lvl) 𝒱₀ V D c).after 2 t)
    ∗ owns (c : Thread nD τ) (ms0_3 t) fullShare ((dat (Ix := Ix) (U := U) (Lvl := Lvl) 𝒱₀ V D c).after 3 t)
    ∗ owns (c : Thread nD τ) (ms0_4 t) fullShare ((dat (Ix := Ix) (U := U) (Lvl := Lvl) 𝒱₀ V D c).after 4 t)
    ∗ owns (c : Thread nD τ) (ms0_5 t) fullShare ((dat (Ix := Ix) (U := U) (Lvl := Lvl) 𝒱₀ V D c).after 5 t))

/-- The body at any point: the inputs' memrefs hold their blocks, so the run applies; the invariant passes through unread. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3, before0_4]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((Build.bodyRun (Ix := Ix) (U := U) (Lvl := Lvl) 𝒱₀ c (grid0.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 (Ix := Ix) (U := U) (Lvl := Lvl) 𝒱₀ c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Own.K0

end
-- ==== Proof.KernelIdeal.K1.lean ====
/-
  Call 1, the low-rank factor: the run of its body, its proof data and its body obligation, from any entry contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S1024x64 .bf16 := (Memref.whole cc1_stg2_0 : Memref sig .tc .vmem S1024x64 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .bf16 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) :
    { L2 : List (View.Piece (Elt F) S1024x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_lora_t i arg1 harg1 arg2 harg2 arg3 harg3) K } := by
  refine ⟨?_, fun E K => ?run⟩
  case run =>
    simp only [cc1_lora_t_eq_skeleton]; unfold cc1_lora_t_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S1024x64`, checked by the kernel's evaluation: Lib/Ring.lean `Piece.tiledL`, linear in the pieces, through a loop's `@[irreducible]` trip theorem too), so they cover it. -/
theorem cover1_A_2 (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) (y : S1024x64.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S1024x64.size (by sl_kernel_rfl) y

/-- What the run leaves in output 2's staging buffer: its pieces read back over junk. -/
def out1_A_2 (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec F S1024x4096 .bf16) (x1 : Vec F S4096x64 .bf16) : Vec F S1024x64 .bf16 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S1024x64 .bf16 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.KernelIdeal.Own.K1

end
-- ==== Proof.KernelIdeal.K2.lean ====
/-
  Call 2, the output product: the run of its body, its proof data and its body obligation, from any entry contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO2_4 : View sig .tc .vmem S1024x1024 .bf16 := (Memref.whole cc2_stg4_0 : Memref sig .tc .vmem S1024x1024 .bf16).view
/-- Each window's current staging memref at point `t`, spelled as the pipeline passes it (`bodyAt2`), and its wholeness. -/
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) :
    { L4 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) 𝒱₀ c none) E (cc2_matmul i arg2 harg2 arg3 harg3 arg4 harg4 arg5 harg5 arg6 harg6) K } := by
  refine ⟨?_, fun E K => ?run⟩
  case run =>
    simp only [cc2_matmul_eq_skeleton]; unfold cc2_matmul_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x1024`, checked by the kernel's evaluation: Lib/Ring.lean `Piece.tiledL`, linear in the pieces, through a loop's `@[irreducible]` trip theorem too), so they cover it. -/
theorem cover2_A_4 (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) (y : S1024x1024.Idx) :
    ∃ pc ∈ (kernelRun2_A (Ix := Ix) (U := U) (Lvl := Lvl) 𝒱₀ c i arg2 harg2 arg3 harg3 arg4 harg4 arg5 harg5 arg6 harg6 x0 x1 x2 x3).1, y ∈ pc.1.set :=
  View.cover_of_tiledL (kernelRun2_A (Ix := Ix) (U := U) (Lvl := Lvl) 𝒱₀ c i arg2 harg2 arg3 harg3 arg4 harg4 arg5 harg5 arg6 harg6 x0 x1 x2 x3).1 S1024x1024.size (by sl_kernel_rfl) y

/-- What the run leaves in output 4's staging buffer: its pieces read back over junk. -/
def out2_A_4 (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec F S1024x4096 .bf16) (x1 : Vec F S4096x1024 .bf16) (x2 : Vec F S1024x64 .bf16) (x3 : Vec F S64x1024 .bf16) : Vec F S1024x1024 .bf16 :=
  VO2_4.read (Elt F) (VO2_4.writes (Elt F) VO2_4.junk (kernelRun2_A (Ix := Ix) (U := U) (Lvl := Lvl) 𝒱₀ c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt2 (c : Dev nD) (t : Fin cfg2.N) : Vec F S1024x1024 .bf16 :=
  out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) (iblk V c 3 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt2 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = iblk V c 3 t := by dsimp only [dat]
theorem after2_4 (c : Dev nD) (t : Fin cfg2.N) : (dat (Ix := Ix) (U := U) (Lvl := Lvl) 𝒱₀ V D c).after 4 t = (outsAt2 (Ix := Ix) (U := U) (Lvl := Lvl) 𝒱₀ V c t) := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d
theorem before2_3 (c : Dev nD) (t : Fin cfg2.N) (d) : (dat (Ix := Ix) (U := U) (Lvl := Lvl) 𝒱₀ V D c).before 3 t d = iblk V c 3 t :=
  before2_3_of V (dat (Ix := Ix) (U := U) (Lvl := Lvl) 𝒱₀ V D c) (A_eq 𝒱₀ V D c 3) (after2_3 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms2_0 t) fullShare ((dat (Ix := Ix) (U := U) (Lvl := Lvl) 𝒱₀ V D c).after 0 t)
    ∗ owns (c : Thread nD τ) (ms2_1 t) fullShare ((dat (Ix := Ix) (U := U) (Lvl := Lvl) 𝒱₀ V D c).after 1 t)
    ∗ owns (c : Thread nD τ) (ms2_2 t) fullShare ((dat (Ix := Ix) (U := U) (Lvl := Lvl) 𝒱₀ V D c).after 2 t)
    ∗ owns (c : Thread nD τ) (ms2_3 t) fullShare ((dat (Ix := Ix) (U := U) (Lvl := Lvl) 𝒱₀ V D c).after 3 t)
    ∗ owns (c : Thread nD τ) (ms2_4 t) fullShare ((dat (Ix := Ix) (U := U) (Lvl := Lvl) 𝒱₀ V D c).after 4 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A (Ix := Ix) (U := U) (Lvl := Lvl) 𝒱₀ c (grid2.coords t) _ _ _ _ _ _ _ _ _ _ (iblk V c 0 t) (iblk V c 1 t) (iblk V c 2 t) (iblk V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 (Ix := Ix) (U := U) (Lvl := Lvl) 𝒱₀ c _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Own.K2

end
-- ==== Proof.KernelIdeal.Records.lean ====
/-
  The three regions' records: each call's body obligation carried to the state of every buffer between the calls.
-/
module

public import proofs.«01_k».proof.Proof.Gen.KernelIdeal.Regions
public import proofs.«01_k».proof.Proof.KernelIdeal.K0
public import proofs.«01_k».proof.Proof.KernelIdeal.K1
public import proofs.«01_k».proof.Proof.KernelIdeal.K2
public import Idealize.ShloMosaic.Lib.Pipeline.RegionArrays

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
/-- Region 0's entry contents: the valuation before item 1, at the TensorCore's references. -/
abbrev Ve0 (m : (ℓ : Loc nD τ sig) → Buf (Elt F) ℓ) (c : Dev nD) (b : Ref sig .tc) : Buf (Elt F) ((c : Thread nD τ).loc b) := V1 m c (Proc.devRef .tc b)

theorem V2_at_main_v2 (m : (ℓ : Loc nD τ sig) → Buf (Elt F) ℓ) (outs : Outs (F := F)) (c : Dev nD) : V2 m outs c (Proc.devRef .tc main_v2) = outs 2 main_v2 c := by
  simp only [V2, Function.update_self]

/-- Across region 0 every held buffer but its arrays keeps its contents: the frame has it change its output arrays alone. -/
theorem rest0_eq (m : (ℓ : Loc nD τ sig) → Buf (Elt F) ℓ) (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v2 : b ≠ Proc.devRef .tc main_v2 := by rintro rfl; exact hn (by first | exact arr0_mem 5 | decide)
  simp only [V2, Function.update_of_ne h_main_v2]

/-- Each window's array of region 1 (custom call 1), as a device buffer, is in the region's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers: unscoped. -/
theorem arr1_S : Pipeline.arrRefs (τ := τ) spec1 ⊆ Pipeline.ucRefs τ sig :=
  Pipeline.arrRefs_sub_ucRefs spec1 (by decide)
/-- Region 1's entry contents: the valuation before item 2, at the TensorCore's references. -/
abbrev Ve1 (m : (ℓ : Loc nD τ sig) → Buf (Elt F) ℓ) (outs : Outs (F := F)) (c : Dev nD) (b : Ref sig .tc) : Buf (Elt F) ((c : Thread nD τ).loc b) := V2 m outs c (Proc.devRef .tc b)

theorem V3_at_main_v3 (m : (ℓ : Loc nD τ sig) → Buf (Elt F) ℓ) (outs : Outs (F := F)) (c : Dev nD) : V3 m outs c (Proc.devRef .tc main_v3) = outs 3 main_v3 c := by
  simp only [V3, Function.update_self]

/-- Across region 1 every held buffer but its arrays keeps its contents: the frame has it change its output arrays alone. -/
theorem rest1_eq (m : (ℓ : Loc nD τ sig) → Buf (Elt F) ℓ) (outs : Outs (F := F)) (c : Dev nD) : ∀ b ∈ (Pipeline.ucRefs τ sig) \ Pipeline.arrRefs (τ := τ) spec1, V3 m outs c b = V2 m outs c b := fun b hb => by
  have hn : b ∉ Pipeline.arrRefs (τ := τ) spec1 := (Finset.mem_sdiff.mp hb).2
  have h_main_v3 : b ≠ Proc.devRef .tc main_v3 := by rintro rfl; exact hn (by first | exact arr1_mem 2 | decide)
  simp only [V3, Function.update_of_ne h_main_v3]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 3, at the TensorCore's references. -/
abbrev Ve2 (m : (ℓ : Loc nD τ sig) → Buf (Elt F) ℓ) (outs : Outs (F := F)) (c : Dev nD) (b : Ref sig .tc) : Buf (Elt F) ((c : Thread nD τ).loc b) := V3 m outs c (Proc.devRef .tc b)

theorem V4_at_main_v4 (m : (ℓ : Loc nD τ sig) → Buf (Elt F) ℓ) (outs : Outs (F := F)) (c : Dev nD) : V4 m outs c (Proc.devRef .tc main_v4) = outs 4 main_v4 c := by
  simp only [V4, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V4 m outs c b = V3 m outs c b := fun b hb => by
  have hn : b ∉ Pipeline.arrRefs (τ := τ) spec2 := (Finset.mem_sdiff.mp hb).2
  have h_main_v4 : b ≠ Proc.devRef .tc main_v4 := by rintro rfl; exact hn (by first | exact arr2_mem 4 | decide)
  simp only [V4, Function.update_of_ne h_main_v4]

section

variable {Ix : Type} [DecidableEq Ix] {U : Type} [URA U] {Lvl : Type} [Preorder Lvl]

/-- The proof data of the three regions, each entered from its contents while the core owes `DK`. -/
def pdatsD (m : (ℓ : Loc nD τ sig) → Buf (Elt F) ℓ) (outs : Outs (F := F)) (𝒱₀ : Variants) (D0 D1 D2 : Dev nD → CellTallies nD τ sig Ix) :
    (p : Fin 3) → (c : Dev nD) → Dat τ (Elt F) Ix ℕ U Lvl (cfgs p) c
  | ⟨0, _⟩ => fun c => K0.dat 𝒱₀ (Ve0 m) D0 c
  | ⟨1, _⟩ => fun c => K1.dat 𝒱₀ (Ve1 m outs) D1 c
  | ⟨2, _⟩ => fun c => K2.dat 𝒱₀ (Ve2 m outs) D2 c

/-! ## The regions' records and entailments -/

-- a library definition stated over `pin pcs a p` unifies with the pinned configuration only when unification may unfold plain
-- definitions in a metavariable's type
set_option backward.isDefEq.respectTransparency.types false in
/-- Region 0 (custom call 0, item 1) from the kernel's run: its arrays held at `V1` in and at `V2` out. Every other held
    buffer, at `V1`, and `Er c` ride; the random-number register goes in and comes out; the core owes `D0 c`. -/
def R0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b) (Er : Dev nD → sProp (MT nD τ sig Ix (Elt F) ℕ U Lvl))
    (hout0_5 : ∀ c : Dev nD, outs 2 main_v2 c = ((pdatsD (U := U) (Lvl := Lvl) m outs 𝒱₀ D0 D1 D2) 0 c).arrAt 5 cfg0.N) :
    RegionSeg (pcfgs (F := F)) adm (pdatsD (U := U) (Lvl := Lvl) m outs 𝒱₀ D0 D1 D2) ι defs₀ 𝒱₀ L lv 0 :=
  Pipeline.RegionSeg.ofHeld (pcfgs (F := F)) adm (pdatsD (U := U) (Lvl := Lvl) m outs 𝒱₀ D0 D1 D2) ι defs₀ 𝒱₀ L lv 0 D0
    (fun c => iprop(∃ r, prngReg c r)) (fun c => iprop(∃ r, prngReg c r))
    launch0.toP rfl
    (fun c => (K0.body_obligation (U := U) (Lvl := Lvl) 𝒱₀ (Ve0 m) D0 ι c).loose) (fun _ _ => rfl) (fun _ => rfl)
    (fun c => ((pdatsD (U := U) (Lvl := Lvl) m outs 𝒱₀ D0 D1 D2) 0 c).share_full fun _ => rfl) (fun _ => .rfl) (fun _ => .rfl) b hcut
    (fun c => iprop(StableHlo.held (c : Thread nD τ) ((Pipeline.ucRefs τ sig) \ Pipeline.arrRefs (τ := τ) spec0) (V1 m c) ∗ Er c))
    (V1 m) (V2 m outs) (fun _ _ => rfl)
    (fun c => fun | 0 => (((pdatsD (U := U) (Lvl := Lvl) m outs 𝒱₀ D0 D1 D2) 0 c).arrAt_in 0 rfl _).trans ((K0.A_eq (U := U) (Lvl := Lvl) 𝒱₀ (Ve0 m) D0 c 0).trans (V2_of m outs c (Pipeline.arrRef spec0 0) (by decide)).symm) | 1 => (((pdatsD (U := U) (Lvl := Lvl) m outs 𝒱₀ D0 D1 D2) 0 c).arrAt_in 1 rfl _).trans ((K0.A_eq (U := U) (Lvl := Lvl) 𝒱₀ (Ve0 m) D0 c 1).trans (V2_of m outs c (Pipeline.arrRef spec0 1) (by decide)).symm) | 2 => (((pdatsD (U := U) (Lvl := Lvl) m outs 𝒱₀ D0 D1 D2) 0 c).arrAt_in 2 rfl _).trans ((K0.A_eq (U := U) (Lvl := Lvl) 𝒱₀ (Ve0 m) D0 c 2).trans (V2_of m outs c (Pipeline.arrRef spec0 2) (by decide)).symm) | 3 => (((pdatsD (U := U) (Lvl := Lvl) m outs 𝒱₀ D0 D1 D2) 0 c).arrAt_in 3 rfl _).trans ((K0.A_eq (U := U) (Lvl := Lvl) 𝒱₀ (Ve0 m) D0 c 3).trans (V2_of m outs c (Pipeline.arrRef spec0 3) (by decide)).symm) | 4 => (((pdatsD (U := U) (Lvl := Lvl) m outs 𝒱₀ D0 D1 D2) 0 c).arrAt_in 4 rfl _).trans ((K0.A_eq (U := U) (Lvl := Lvl) 𝒱₀ (Ve0 m) D0 c 4).trans (V2_of m outs c (Pipeline.arrRef spec0 4) (by decide)).symm) | 5 => (hout0_5 c).symm.trans (V2_at_main_v2 m outs c).symm | ⟨_ + 6, h⟩ => absurd h (Nat.not_lt.2 (Nat.le_add_left _ _)))

/-- Region 0's entry entailment: the held buffers at `V1` split at its arrays, and the rest state `E 0` sorted (`hEin`). -/
theorem hpre0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEin : ∀ c : Dev nD, E 0 c ⊢ iprop((∃ r, prngReg c r) ∗ (∃ W, owes (c : Thread nD τ) (D0 c) W) ∗ Er c))
    (hout0_5 : ∀ c : Dev nD, outs 2 main_v2 c = ((pdatsD (U := U) (Lvl := Lvl) m outs 𝒱₀ D0 D1 D2) 0 c).arrAt 5 cfg0.N) (c : Dev nD) :
    iprop(StableHlo.held (c : Thread nD τ) (Pipeline.ucRefs τ sig) (V1 m c) ∗ E 0 c) ⊢ (R0D m outs 𝒱₀ L lv ι D0 D1 D2 b hcut Er hout0_5).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W)
  rw [StableHlo.held_sub_split (c : Thread nD τ) arr0_S (V1 m c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 0's exit entailment: its arrays at `V2` rejoined with the other held buffers, unchanged (`rest0_eq`), and the rest state
    `E 1` made (`hEout`). -/
theorem hpost0D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 0 D0 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D0 c) W) ∗ Er c) ⊢ E 1 c)
    (hout0_5 : ∀ c : Dev nD, outs 2 main_v2 c = ((pdatsD (U := U) (Lvl := Lvl) m outs 𝒱₀ D0 D1 D2) 0 c).arrAt 5 cfg0.N) (c : Dev nD) :
    (R0D m outs 𝒱₀ L lv ι D0 D1 D2 b hcut Er hout0_5).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ Er c) ∗ ∃ W, owes (c : Thread nD τ) (D0 c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 1 (custom call 1, item 2) from the kernel's run: its arrays held at `V2` in and at `V3` out. Every other held
    buffer, at `V2`, and `Er c` ride; the random-number register goes in and comes out; the core owes `D1 c`. -/
def R1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b) (Er : Dev nD → sProp (MT nD τ sig Ix (Elt F) ℕ U Lvl))
    (hout1_2 : ∀ c : Dev nD, outs 3 main_v3 c = ((pdatsD (U := U) (Lvl := Lvl) m outs 𝒱₀ D0 D1 D2) 1 c).arrAt 2 cfg1.N) :
    RegionSeg (pcfgs (F := F)) adm (pdatsD (U := U) (Lvl := Lvl) m outs 𝒱₀ D0 D1 D2) ι defs₀ 𝒱₀ L lv 1 :=
  Pipeline.RegionSeg.ofHeld (pcfgs (F := F)) adm (pdatsD (U := U) (Lvl := Lvl) m outs 𝒱₀ D0 D1 D2) ι defs₀ 𝒱₀ L lv 1 D1
    (fun c => iprop(∃ r, prngReg c r)) (fun c => iprop(∃ r, prngReg c r))
    launch1.toP rfl
    (fun c => (K1.body_obligation (U := U) (Lvl := Lvl) 𝒱₀ (Ve1 m outs) D1 ι c).loose) (fun _ _ => rfl) (fun _ => rfl)
    (fun c => ((pdatsD (U := U) (Lvl := Lvl) m outs 𝒱₀ D0 D1 D2) 1 c).share_full fun _ => rfl) (fun _ => .rfl) (fun _ => .rfl) b hcut
    (fun c => iprop(StableHlo.held (c : Thread nD τ) ((Pipeline.ucRefs τ sig) \ Pipeline.arrRefs (τ := τ) spec1) (V2 m outs c) ∗ Er c))
    (V2 m outs) (V3 m outs) (fun _ _ => rfl)
    (fun c => fun | 0 => (((pdatsD (U := U) (Lvl := Lvl) m outs 𝒱₀ D0 D1 D2) 1 c).arrAt_in 0 rfl _).trans ((K1.A_eq (U := U) (Lvl := Lvl) 𝒱₀ (Ve1 m outs) D1 c 0).trans (V3_of m outs c (Pipeline.arrRef spec1 0) (by decide)).symm) | 1 => (((pdatsD (U := U) (Lvl := Lvl) m outs 𝒱₀ D0 D1 D2) 1 c).arrAt_in 1 rfl _).trans ((K1.A_eq (U := U) (Lvl := Lvl) 𝒱₀ (Ve1 m outs) D1 c 1).trans (V3_of m outs c (Pipeline.arrRef spec1 1) (by decide)).symm) | 2 => (hout1_2 c).symm.trans (V3_at_main_v3 m outs c).symm | ⟨_ + 3, h⟩ => absurd h (Nat.not_lt.2 (Nat.le_add_left _ _)))

/-- Region 1's entry entailment: the held buffers at `V2` split at its arrays, and the rest state `E 1` sorted (`hEin`). -/
theorem hpre1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEin : ∀ c : Dev nD, E 1 c ⊢ iprop((∃ r, prngReg c r) ∗ (∃ W, owes (c : Thread nD τ) (D1 c) W) ∗ Er c))
    (hout1_2 : ∀ c : Dev nD, outs 3 main_v3 c = ((pdatsD (U := U) (Lvl := Lvl) m outs 𝒱₀ D0 D1 D2) 1 c).arrAt 2 cfg1.N) (c : Dev nD) :
    iprop(StableHlo.held (c : Thread nD τ) (Pipeline.ucRefs τ sig) (V2 m outs c) ∗ E 1 c) ⊢ (R1D m outs 𝒱₀ L lv ι D0 D1 D2 b hcut Er hout1_2).pre c := by
  show _ ⊢ iprop(StableHlo.held (c : Thread nD τ) (Pipeline.arrRefs (τ := τ) spec1) (V2 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W)
  rw [StableHlo.held_sub_split (c : Thread nD τ) arr1_S (V2 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 1's exit entailment: its arrays at `V3` rejoined with the other held buffers, unchanged (`rest1_eq`), and the rest state
    `E 2` made (`hEout`). -/
theorem hpost1D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D1 c) W) ∗ Er c) ⊢ E 2 c)
    (hout1_2 : ∀ c : Dev nD, outs 3 main_v3 c = ((pdatsD (U := U) (Lvl := Lvl) m outs 𝒱₀ D0 D1 D2) 1 c).arrAt 2 cfg1.N) (c : Dev nD) :
    (R1D m outs 𝒱₀ L lv ι D0 D1 D2 b hcut Er hout1_2).post c ⊢ iprop(StableHlo.held (c : Thread nD τ) (Pipeline.ucRefs τ sig) (V3 m outs c) ∗ E 2 c) := by
  show iprop(StableHlo.held (c : Thread nD τ) (Pipeline.arrRefs (τ := τ) spec1) (V3 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W) ⊢ _
  rw [StableHlo.held_sub_split (c : Thread nD τ) arr1_S (V3 m outs c),
    StableHlo.held_congr (c : Thread nD τ) (S := (Pipeline.ucRefs τ sig) \ Pipeline.arrRefs (τ := τ) spec1) (rest1_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 3) from the kernel's run: its arrays held at `V3` in and at `V4` out. Every other held
    buffer, at `V3`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_4 : ∀ c : Dev nD, outs 4 main_v4 c = ((pdatsD (U := U) (Lvl := Lvl) m outs 𝒱₀ D0 D1 D2) 2 c).arrAt 4 cfg2.N) :
    RegionSeg (pcfgs (F := F)) adm (pdatsD (U := U) (Lvl := Lvl) m outs 𝒱₀ D0 D1 D2) ι defs₀ 𝒱₀ L lv 2 :=
  Pipeline.RegionSeg.ofHeld (pcfgs (F := F)) adm (pdatsD (U := U) (Lvl := Lvl) m outs 𝒱₀ D0 D1 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ D0 D1 D2) 2 c).share_full fun _ => rfl) (fun _ => .rfl) (fun _ => .rfl) b hcut
    (fun c => iprop(StableHlo.held (c : Thread nD τ) ((Pipeline.ucRefs τ sig) \ Pipeline.arrRefs (τ := τ) spec2) (V3 m outs c) ∗ Er c))
    (V3 m outs) (V4 m outs) (fun _ _ => rfl)
    (fun c => fun | 0 => (((pdatsD (U := U) (Lvl := Lvl) m outs 𝒱₀ D0 D1 D2) 2 c).arrAt_in 0 rfl _).trans ((K2.A_eq (U := U) (Lvl := Lvl) 𝒱₀ (Ve2 m outs) D2 c 0).trans (V4_of m outs c (Pipeline.arrRef spec2 0) (by decide)).symm) | 1 => (((pdatsD (U := U) (Lvl := Lvl) m outs 𝒱₀ D0 D1 D2) 2 c).arrAt_in 1 rfl _).trans ((K2.A_eq (U := U) (Lvl := Lvl) 𝒱₀ (Ve2 m outs) D2 c 1).trans (V4_of m outs c (Pipeline.arrRef spec2 1) (by decide)).symm) | 2 => (((pdatsD (U := U) (Lvl := Lvl) m outs 𝒱₀ D0 D1 D2) 2 c).arrAt_in 2 rfl _).trans ((K2.A_eq (U := U) (Lvl := Lvl) 𝒱₀ (Ve2 m outs) D2 c 2).trans (V4_of m outs c (Pipeline.arrRef spec2 2) (by decide)).symm) | 3 => (((pdatsD (U := U) (Lvl := Lvl) m outs 𝒱₀ D0 D1 D2) 2 c).arrAt_in 3 rfl _).trans ((K2.A_eq (U := U) (Lvl := Lvl) 𝒱₀ (Ve2 m outs) D2 c 3).trans (V4_of m outs c (Pipeline.arrRef spec2 3) (by decide)).symm) | 4 => (hout2_4 c).symm.trans (V4_at_main_v4 m outs c).symm | ⟨_ + 5, h⟩ => absurd h (Nat.not_lt.2 (Nat.le_add_left _ _)))

/-- Region 2's entry entailment: the held buffers at `V3` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_4 : ∀ c : Dev nD, outs 4 main_v4 c = ((pdatsD (U := U) (Lvl := Lvl) m outs 𝒱₀ D0 D1 D2) 2 c).arrAt 4 cfg2.N) (c : Dev nD) :
    iprop(StableHlo.held (c : Thread nD τ) (Pipeline.ucRefs τ sig) (V3 m outs c) ∗ E 2 c) ⊢ (R2D m outs 𝒱₀ L lv ι D0 D1 D2 b hcut Er hout2_4).pre c := by
  show _ ⊢ iprop(StableHlo.held (c : Thread nD τ) (Pipeline.arrRefs (τ := τ) spec2) (V3 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W)
  rw [StableHlo.held_sub_split (c : Thread nD τ) arr2_S (V3 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V4` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (D0 D1 D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_4 : ∀ c : Dev nD, outs 4 main_v4 c = ((pdatsD (U := U) (Lvl := Lvl) m outs 𝒱₀ D0 D1 D2) 2 c).arrAt 4 cfg2.N) (c : Dev nD) :
    (R2D m outs 𝒱₀ L lv ι D0 D1 D2 b hcut Er hout2_4).post c ⊢ iprop(StableHlo.held (c : Thread nD τ) (Pipeline.ucRefs τ sig) (V4 m outs c) ∗ E 3 c) := by
  show iprop(StableHlo.held (c : Thread nD τ) (Pipeline.arrRefs (τ := τ) spec2) (V4 m outs c) ∗ (∃ r, prngReg c r)
    ∗ (StableHlo.held (c : Thread nD τ) ((Pipeline.ucRefs τ sig) \ Pipeline.arrRefs (τ := τ) spec2) (V3 m outs c) ∗ Er c) ∗ ∃ W, owes (c : Thread nD τ) (D2 c) W) ⊢ _
  rw [StableHlo.held_sub_split (c : Thread nD τ) arr2_S (V4 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

end Cert.KernelIdeal.Own

end
-- ==== Proof.KernelIdeal.Program.lean ====
/-
  The whole program's run: the arguments as launched, the result at its last contents, the counters at zero.
-/
module

public import proofs.«01_k».proof.Proof.KernelIdeal.Records
public import Idealize.ShloMosaic.Lib.Pipeline.Kit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

-- `θ_run_regions_kit_dev_sems`'s implicit arguments are found by unifying its conclusion with this one, which takes unfolding
-- plain definitions in a metavariable's type
set_option backward.isDefEq.respectTransparency.types false in
/-- Given the three regions' records, every weakly fair execution of the program from memory `m` with zero counters ends with each
    argument as launched, the result at the last contents `V5`, and every counter at zero. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v5) = V5 m outs c (Proc.devRef .tc main_v5))
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, (hpost0 c).trans (hpre1 c), (hpost1 c).trans (hpre2 c), hpost2 c, sep_mono .rfl (hE3 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v5) = V5 m outs c (Proc.devRef .tc main_v5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        (h (Proc.devRef .tc main_arg6) (Finset.mem_filter.mpr ⟨StableHlo.devRef_mem_tcRefs main_arg6, by decide⟩)).trans (V5_main_arg6 m outs c),
        (h (Proc.devRef .tc main_arg7) (Finset.mem_filter.mpr ⟨StableHlo.devRef_mem_tcRefs main_arg7, by decide⟩)).trans (V5_main_arg7 m outs c),
        h (Proc.devRef .tc main_v5) (Finset.mem_filter.mpr ⟨StableHlo.devRef_mem_tcRefs main_v5, by decide⟩)⟩
    · iexact HSI

/-! ## The program's run -/

section

variable (m : (ℓ : Loc nD τ sig) → Buf (Elt F) ℓ)

local notation "𝕄" => MT nD τ sig Unit (Elt F) ℕ (UR sig nD τ) ℕ

/-- No core owes anything. -/
abbrev noDue : Dev nD → CellTallies nD τ sig Unit := fun _ => 0
/-- What the weight builder leaves. -/
abbrev built (c : Dev nD) : Buf (Elt F) ((c : Thread nD τ).loc main_v2) :=
  (K0.dat (U := UR sig nD τ) (Lvl := ℕ) Variants.none (Ve0 m) noDue c).arrAt 5 cfg0.N
/-- The contents known after the weight builder. -/
def outsA : Outs (F := F) := fun _ => Function.update (fun r c => m ((c : Thread nD τ).loc r)) main_v2 (built m)
/-- What the low-rank factor's call leaves. -/
abbrev factor (c : Dev nD) : Buf (Elt F) ((c : Thread nD τ).loc main_v3) :=
  (K1.dat (U := UR sig nD τ) (Lvl := ℕ) Variants.none (Ve1 m (outsA m)) noDue c).arrAt 2 cfg1.N
/-- The contents known after the low-rank factor's call. -/
def outsB : Outs (F := F) := fun j => Function.update (outsA m j) main_v3 (factor m)
/-- What the output product's call leaves. -/
abbrev product (c : Dev nD) : Buf (Elt F) ((c : Thread nD τ).loc main_v4) :=
  (K2.dat (U := UR sig nD τ) (Lvl := ℕ) Variants.none (Ve2 m (outsB m)) noDue c).arrAt 4 cfg2.N
/-- The contents known after all three calls. -/
def outsC : Outs (F := F) := fun j => Function.update (outsB m j) main_v4 (product m)

theorem outsA_v2 (j : ℕ) : outsA m j main_v2 = built m := Function.update_self ..
theorem outsB_v2 (j : ℕ) : outsB m j main_v2 = built m := (Function.update_of_ne (by decide) ..).trans (outsA_v2 m j)
theorem outsC_v2 (j : ℕ) : outsC m j main_v2 = built m := (Function.update_of_ne (by decide) ..).trans (outsB_v2 m j)
theorem outsB_v3 (j : ℕ) : outsB m j main_v3 = factor m := Function.update_self ..
theorem outsC_v3 (j : ℕ) : outsC m j main_v3 = factor m := (Function.update_of_ne (by decide) ..).trans (outsB_v3 m j)
theorem outsC_v4 (j : ℕ) : outsC m j main_v4 = product m := Function.update_self ..

theorem V2_outs (c : Dev nD) : V2 m (outsC m) c = V2 m (outsA m) c := by unfold V2; rw [outsC_v2, outsA_v2]
theorem V2_outsB (c : Dev nD) : V2 m (outsC m) c = V2 m (outsB m) c := by unfold V2; rw [outsC_v2, outsB_v2]
theorem V3_outs (c : Dev nD) : V3 m (outsC m) c = V3 m (outsB m) c := by unfold V3; rw [outsC_v3, outsB_v3, V2_outsB]

theorem Ve1_outs : Ve1 m (outsC m) = Ve1 m (outsA m) := by funext c b; unfold Ve1; rw [V2_outs]
theorem Ve2_outs : Ve2 m (outsC m) = Ve2 m (outsB m) := by funext c b; unfold Ve2; rw [V3_outs]

/-- The rest of every thread state: the random-number register and an empty due. -/
abbrev rest (c : Dev nD) : sProp 𝕄 := iprop((∃ r, prngReg c r) ∗ (∃ W, owes (c : Thread nD τ) (0 : CellTallies nD τ sig Unit) W) ∗ emp)

/-- The one wait index, at every cell of a TensorCore. -/
def lvls : GSem nD τ sig → Finset Unit := fun g => if g.1.2 = .tc then {()} else ∅

theorem cut (p : Fin 3) : Pipeline.LevelCut (pcfgs (F := F)) adm () lvls (fun _ _ => (0 : ℕ)) p noDue (fun _ => 0) where
  hι c w s := by unfold lvls; rw [if_pos rfl]; exact Finset.mem_singleton_self _
  hιb c w s := Nat.le_refl _
  hD c g i h := absurd h (by simp [noDue])

set_option backward.isDefEq.respectTransparency.types false in
/-- Every weakly fair execution of the program from memory `m` with zero counters ends with each argument as launched, the result at the
    last contents, and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v5) = V5 m (outsC m) c (Proc.devRef .tc main_v5))
      ∧ r.2.sem = fun _ => 0) :=
  run_cond m emb₁ () Variants.none lvls (fun _ _ => (0 : ℕ)) (fun g h => if_neg h) ρ (outsC m)
    (pdatsD m (outsC m) Variants.none noDue noDue noDue) noDue (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ => rest)
    (by
      refine Pipeline.initEach lvls (fun _ _ => (0 : ℕ)) fun c => ?_
      iintro ⟨⟨-, HO, -, Hp, -⟩, -⟩
      imodintro
      isplitl [Hp]; · iexists _; iexact Hp
      isplitl [HO]; · iexists _; iexact HO
      iempintro)
    (fun c => by iintro ⟨-, HO, -⟩; iexact HO)
    (R0D m (outsC m) Variants.none lvls _ () noDue noDue noDue _ (cut 0) (fun _ => iprop(emp)) (fun c => by rw [outsC_v2]; rfl))
      (hpre0D m (outsC m) Variants.none lvls _ () noDue noDue noDue _ (cut 0) (fun _ => rest) (fun _ => iprop(emp)) (fun _ => .rfl) _)
      (hpost0D m (outsC m) Variants.none lvls _ () noDue noDue noDue _ (cut 0) (fun _ => rest) (fun _ => iprop(emp)) (fun _ => .rfl) _)
    (R1D m (outsC m) Variants.none lvls _ () noDue noDue noDue _ (cut 1) (fun _ => iprop(emp)) (fun c => by rw [outsC_v3]; unfold pdatsD; dsimp only; rw [Ve1_outs]))
      (hpre1D m (outsC m) Variants.none lvls _ () noDue noDue noDue _ (cut 1) (fun _ => rest) (fun _ => iprop(emp)) (fun _ => .rfl) _)
      (hpost1D m (outsC m) Variants.none lvls _ () noDue noDue noDue _ (cut 1) (fun _ => rest) (fun _ => iprop(emp)) (fun _ => .rfl) _)
    (R2D m (outsC m) Variants.none lvls _ () noDue noDue noDue _ (cut 2) (fun _ => iprop(emp)) (fun c => by rw [outsC_v4]; unfold pdatsD; dsimp only; rw [Ve2_outs]))
      (hpre2D m (outsC m) Variants.none lvls _ () noDue noDue noDue _ (cut 2) (fun _ => rest) (fun _ => iprop(emp)) (fun _ => .rfl) _)
      (hpost2D m (outsC m) Variants.none lvls _ () noDue noDue noDue _ (cut 2) (fun _ => rest) (fun _ => iprop(emp)) (fun _ => .rfl) _)

end

end Cert.KernelIdeal.Own

end
-- ==== Proof.Tame.lean ====
/-
  What the precondition says of one element: finite activations and scales, row indices that are not negative.
-/
module

public import proofs.«01_k».proof.Proof.Gen.Pre_tame
public import Idealize.ShloMosaic.Lib.Pointwise
public import Idealize.ShloMosaic.Lib.WordCmp
public import Idealize.ShloMosaic.PureOps.Ideal

@[expose] public section

noncomputable section

namespace Cert.Tame

open Cert.Pre_tame Cert.Pre_tame.Gen
open Idealize.ShloMosaic Idealize.ShloMosaic.TcCoe Idealize.ShloMosaic.WordCmp

variable (x : FVec Ideal S8x2048x4096 .bf16) (P : IVec S2048x14336 8) (A : FVec Ideal S32x14336 .f32) (Z : IVec S32x14336 8)
  (R : IVec S128x14336 32) (S : FVec Ideal S128x14336 .bf16) (la : FVec Ideal S4096x64 .bf16) (lb : FVec Ideal S64x14336 .bf16)

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A number whose absolute value is under infinity is real. -/
theorem real_of_lt (a : EReal) (h : BitVec.ofBool (decide ((FloatOps.absf (F := Ideal) (φ := .f32) a : EReal) < ⊤)) = 1#1) : ∃ r : ℝ, a = (r : EReal) := by
  have h := (ofBool_decide_eq_one_iff _).1 h
  induction a with
  | coe r => exact ⟨r, rfl⟩
  | top => exact absurd h (by show ¬ (max (⊤ : EReal) (-⊤) < ⊤); simp)
  | bot => exact absurd h (by show ¬ (max (⊥ : EReal) (-⊥) < ⊤); simp)

/-- Every activation is real. -/
theorem x_real (h : (fn (F := Ideal) x P A Z R S la lb).1 = fun _ => 1#1) (i : S8x2048x4096.Idx) : ∃ r : ℝ, x i = (r : EReal) := by
  refine real_of_lt _ (Eq.trans ?_ (congrFun h i))
  unfold fn
  pointwise
  rw [inf_bf16]
  rfl

/-- Every scale is real. -/
theorem scale_real (h : (fn (F := Ideal) x P A Z R S la lb).2.1 = fun _ => 1#1) (i : S32x14336.Idx) : ∃ r : ℝ, A i = (r : EReal) := by
  refine real_of_lt _ (Eq.trans ?_ (congrFun h i))
  unfold fn
  pointwise
  rw [inf_f32]

/-- No row index is negative. -/
theorem rows_nonneg (h : (fn (F := Ideal) x P A Z R S la lb).2.2 = fun _ => 1#1) (i : S128x14336.Idx) : 0 ≤ (R i).toInt := by
  have e : IntOp.cmpi .sge (R i) 0#32 = 1#1 := by
    refine Eq.trans ?_ (congrFun h i)
    unfold fn
    pointwise
  rw [cmpi_sge_eq] at e
  have h := (ofBool_decide_eq_one_iff _).1 e
  rwa [BitVec.toInt_zero] at h

end Cert.Tame

end
-- ==== Proof.KernelIdeal.Group.lean ====
/-
  The weight builder's 32 groups of 128 rows, each stored by the same arithmetic: the group's piece as a function of the
  group's number, and the pieces the body leaves as the list of them.
-/
module

public import proofs.«01_k».proof.Proof.KernelIdeal.Run
public import Idealize.ShloMosaic.Lib.Tactic

@[expose] public section

set_option maxRecDepth 32768

noncomputable section

namespace Cert.KernelIdeal.Build

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]

/-- The group's rows lie in the strip of the weights. -/
theorem rowsIn (g : Fin 32) (a : Fin 2) : (![128 * g.val, 0] : Fin 2 → ℕ) a + S128x128.size a ≤ S4096x128.size a := by
  revert g a; decide +kernel

/-- The group's packed rows lie in the strip of packed words. -/
theorem packedIn (g : Fin 32) (a : Fin 2) : (![64 * g.val, 0] : Fin 2 → ℕ) a + S64x128.size a ≤ S2048x128.size a := by
  revert g a; decide +kernel

/-- The group's row of scales, or of zero points, is one of the 32. -/
theorem groupSlices (g : Fin 32) : S32x128.Slices ![g.val, 0] S1x128 := by
  revert g; decide +kernel

/-- The number of a group's first row. -/
def base (g : Fin 32) : BitVec 32 := BitVec.ofNat 32 (128 * g.val)

/-- The first row of the block of indices holding one at or past the group's first row. -/
def lo (rows : Vec F S128x128 .i32) (g : Fin 32) : BitVec 32 := firstRow (cmpi .sge rows (broadcast S128x128 (base g)))

/-- The last row of the block of indices holding one before the next group's first row. -/
def hi (rows : Vec F S128x128 .i32) (g : Fin 32) : BitVec 32 :=
  lastRow (cmpi .slt rows (broadcast S128x128 (BitVec.ofNat 32 (128 * g.val + 128))))

/-- The packed rows' codes, two a word, each 128 more than its nibble. -/
def codes (packed : Vec F S64x128 .i8) : FVec F S128x128 .bf16 :=
  bitcastToFloat .bf16 (bitcast S128x128 16
    (ori (ori (andi (extui 32 packed natLt_8_32) (broadcast S64x128 15#32))
        (shli (andi (extui 32 packed natLt_8_32) (broadcast S64x128 240#32)) (broadcast S64x128 12#32)))
      (broadcast S64x128 1124090624#32)) bitcasts_S64x128_w32_S128x128_w16)

/-- The group's weights before the sparse values: the codes less the zero points, times the scales. -/
def dense (packed : Vec F S64x128 .i8) (scales : Vec F S32x128 .f32) (zeros : Vec F S32x128 .i8) (g : Fin 32) : FVec F S128x128 .bf16 :=
  mulf (subf (codes packed) (broadcastTo S128x128 (addf (extractStridedSlice S1x128 ![g.val, 0]
      (truncf .bf16 (sitofp .f32 (extui 32 zeros natLt_8_32)) bitsLt_bf16_f32) (groupSlices g))
        (broadcast S1x128 (Scalar.ofBits .bf16 0x4300#16))) broadcasts_S1x128_S128x128))
    (broadcastTo S128x128 (extractStridedSlice S1x128 ![g.val, 0] (truncf .bf16 scales bitsLt_bf16_f32) (groupSlices g)) broadcasts_S1x128_S128x128)

/-- The group's two bounds do not wrap. -/
theorem chk (rows : Vec F S128x128 .i32) (g : Fin 32) : k0_chk1 (lo rows g) (hi rows g) :=
  loopOK _ _ (firstRow_range _) (lastRow_range _)

/-- The group's sparse values: the two loops' rows placed over zero. -/
def sparse (rows : Vec F S128x128 .i32) (g : Fin 32) (arg4 : Memref sig .tc .vmem S128x128 .i32) (harg4 : arg4.IsWhole)
    (arg5 : Memref sig .tc .vmem S128x128 .f32) (harg5 : arg5.IsWhole) (x3 : Vec F S128x128 .i32) (x4 : Vec F S128x128 .f32) :
    FVec F S128x128 .f32 :=
  swept (k0_t2_loop (lo rows g) (hi rows g)).lb (k0_t2_loop (lo rows g) (hi rows g)).ub (k0_t2_loop (lo rows g) (hi rows g)).st
    (swept (k0_t1_loop (lo rows g) (hi rows g)).lb (k0_t1_loop (lo rows g) (hi rows g)).ub (k0_t1_loop (lo rows g) (hi rows g)).st
      (broadcast S128x128 (Scalar.ofBits .f32 0x00000000#32)) (base g) rank arg4 arg5
      (k0_off1 (lo rows g) (hi rows g)) (k0_off1_inb (lo rows g) (hi rows g) (chk rows g)) (harg4.unread x3) (harg5.unread x4))
    (base g) rank arg4 arg5
    (k0_off2 (lo rows g) (hi rows g)) (k0_off2_inb (lo rows g) (hi rows g) (chk rows g)) (harg4.unread x3) (harg5.unread x4)

/-- What the group stores. -/
def groupPay (g : Fin 32) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole)
    (x0 : Vec F S2048x128 .i8) (x1 : Vec F S32x128 .f32) (x2 : Vec F S32x128 .i8) (x3 : Vec F S128x128 .i32) (x4 : Vec F S128x128 .f32) : FVec F S128x128 .bf16 :=
  truncf .bf16 (addf (extf .f32 (dense
      (arg1.view.readAt (Elt F) (Rect.unit (s := S2048x128) ![64 * g.val, 0] S64x128.size (packedIn g)).toLoadRect (harg1.unread x0))
      (arg2.view.readAt (Elt F) (Rect.unit (s := S32x128) ![0, 0] S32x128.size inb_S32x128_S32x128_0_0).toLoadRect (harg2.unread x1))
      (arg3.view.readAt (Elt F) (Rect.unit (s := S32x128) ![0, 0] S32x128.size inb_S32x128_S32x128_0_0).toLoadRect (harg3.unread x2)) g) bitsLt_bf16_f32)
    (sparse (arg4.view.readAt (Elt F) (Rect.unit (s := S128x128) ![0, 0] S128x128.size inb_S128x128_S128x128_0_0).toLoadRect (harg4.unread x3)) g
      arg4 harg4 arg5 harg5 x3 x4)) bitsLt_bf16_f32

/-- The groups' numbers, last first: the order the body's stores are listed in. -/
def groups : List (Fin 32) := [31, 30, 29, 28, 27, 26, 25, 24, 23, 22, 21, 20, 19, 18, 17, 16, 15, 14, 13, 12, 11, 10, 9, 8, 7, 6, 5, 4, 3, 2, 1, 0]

set_option maxHeartbeats 4000000 in
/-- The pieces the body leaves are the groups'. -/
theorem bodyRun_pieces (𝒱₀ : Variants) (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec F S2048x128 .i8) (x1 : Vec F S32x128 .f32) (x2 : Vec F S32x128 .i8) (x3 : Vec F S128x128 .i32) (x4 : Vec F S128x128 .f32) :
    (bodyRun (F := F) (Ix := Ix) (U := U) (Lvl := Lvl) 𝒱₀ c i arg1 harg1 arg2 harg2 arg3 harg3 arg4 harg4 arg5 harg5 arg6 harg6 x0 x1 x2 x3 x4).1
      = groups.map fun g => (⟨Rect.unit (s := S4096x128) ![128 * g.val, 0] S128x128.size (rowsIn g),
          groupPay g arg1 harg1 arg2 harg2 arg3 harg3 arg4 harg4 arg5 harg5 x0 x1 x2 x3 x4⟩ : View.Piece (Elt F) S4096x128 .bf16) := by
  sl_kernel_rfl

end Cert.KernelIdeal.Build

end
-- ==== Proof.KernelIdeal.Sweep.lean ====
/-
  The two loops of one group, element by element: after them an element holds the value of the last row whose index names it,
  and zero where no index does.
-/
module

public import proofs.«01_k».proof.Proof.KernelIdeal.Group
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Build

open Cert.KernelIdeal Cert.KernelIdeal.Gen
open Idealize.ShloMosaic Idealize.ShloMosaic.TcCoe Idealize.ShloMosaic.WordCmp Idealize.SL.Sem

/-- Of the first `n` rows, the value of the last whose index is `w`; zero if none is. -/
def overlay (rows : Fin 128 → BitVec 32) (w : BitVec 32) (vals : Fin 128 → EReal) (n : ℕ) : EReal :=
  iterate (fun j acc => if rows j = w then vals j else acc) 0 n

theorem overlay_zero (rows : Fin 128 → BitVec 32) (w : BitVec 32) (vals : Fin 128 → EReal) : overlay rows w vals 0 = 0 := rfl

theorem overlay_succ (rows : Fin 128 → BitVec 32) (w : BitVec 32) (vals : Fin 128 → EReal) (j : Fin 128) :
    overlay rows w vals (j.val + 1) = if rows j = w then vals j else overlay rows w vals j.val := by
  unfold overlay
  rw [iterate_succ]

/-- Rows whose index is another change nothing. -/
theorem overlay_skip (rows : Fin 128 → BitVec 32) (w : BitVec 32) (vals : Fin 128 → EReal) (a b : ℕ) (hab : a ≤ b) (hb : b ≤ 128)
    (h : ∀ j : Fin 128, a ≤ j.val → j.val < b → rows j ≠ w) : overlay rows w vals b = overlay rows w vals a := by
  induction b, hab using Nat.le_induction with
  | base => rfl
  | succ b hab ih =>
    rw [show b + 1 = (⟨b, by omega⟩ : Fin 128).val + 1 from rfl, overlay_succ, if_neg (h _ hab (Nat.lt_succ_self b))]
    exact ih (by omega) fun j h1 h2 => h j h1 (by omega)

/-- One row placed, at an element: its value where its index is the element's row, else what stood there. -/
theorem place_at (b : BitVec 32) (acc : FVec Ideal S128x128 .f32) (rows : Vec Ideal S1x128 .i32) (vals : Vec Ideal S1x128 .f32) (y : S128x128.Idx) :
    place b rank acc rows vals y = if rows (ix2 0 (y 1)) = b + BitVec.ofNat 32 (y 0).val then vals (ix2 0 (y 1)) else acc y := by
  unfold place
  pointwise
  have e : (BitVec.ofNat 32 (y 0).val = IntOp.subi (rows (ix2 0 (y 1))) b) ↔ rows (ix2 0 (y 1)) = b + BitVec.ofNat 32 (y 0).val := by
    show (BitVec.ofNat 32 (y 0).val = rows (ix2 0 (y 1)) - b) ↔ _
    constructor <;> intro h
    · rw [h, BitVec.add_comm, BitVec.sub_add_cancel]
    · rw [h, BitVec.add_comm, BitVec.add_sub_cancel]
  rw [cmpi_eq_eq]
  by_cases h : rows (ix2 0 (y 1)) = b + BitVec.ofNat 32 (y 0).val
  · rw [if_pos h, decide_eq_true (e.mpr h)]; rfl
  · rw [if_neg h, decide_eq_false fun h' => h (e.mp h')]; rfl

variable (arg4 : Memref sig .tc .vmem S128x128 .i32) (harg4 : arg4.IsWhole) (arg5 : Memref sig .tc .vmem S128x128 .f32) (harg5 : arg5.IsWhole)
  (x3 : Vec Ideal S128x128 .i32) (x4 : Vec Ideal S128x128 .f32)

/-- A row of a whole buffer, loaded. -/
theorem row_at {e : EltTy} (arg : Memref sig .tc .vmem S128x128 e) (harg : arg.IsWhole) (x : Vec Ideal S128x128 e) (off : Fin 2 → ℕ)
    (hoff : ∀ a, off a + S1x128.size a ≤ S128x128.size a) (j : Fin 128) (l : Fin 128) (h : off = ![j.val, 0]) :
    arg.view.readAt (Elt Ideal) (Rect.unit (s := S128x128) off S1x128.size hoff).toLoadRect (harg.unread x) (ix2 0 l) = x (ix2 j l) := by
  subst h
  rw [View.readAt_eq_ld, harg.read_unread, View.ld_apply]
  refine congrArg x (funext fun a => ?_)
  fin_cases a
  · exact Fin.ext (by show j.val + 1 * 0 = j.val; omega)
  · exact Fin.ext (by show 0 + 1 * l.val = l.val; omega)

/-- After `k` trips of a loop that steps by one from a row at or past the first, an element holds what the rows up to there give it. -/
theorem trips_at (lb ub st : BitVec 32) (ok : Scf.OK lb ub st) (hst : st.toInt = 1) (hlb : 0 ≤ lb.toInt) (hub : ub.toInt ≤ 128)
    (init : FVec Ideal S128x128 .f32) (b : BitVec 32) (off : Fin (Scf.trips lb ub st) → Fin 2 → ℕ)
    (hoff : ∀ k a, off k a + S1x128.size a ≤ S128x128.size a) (hv : ∀ k, off k = ![(Scf.iv lb st k).toNat, 0]) (y : S128x128.Idx)
    (hi : init y = overlay (fun j => x3 (ix2 j (y 1))) (b + BitVec.ofNat 32 (y 0).val) (fun j => x4 (ix2 j (y 1))) lb.toInt.toNat) :
    ∀ k, k ≤ Scf.trips lb ub st → iterate (trip b rank arg4 arg5 off hoff (harg4.unread x3) (harg5.unread x4)) init k y
      = overlay (fun j => x3 (ix2 j (y 1))) (b + BitVec.ofNat 32 (y 0).val) (fun j => x4 (ix2 j (y 1))) (lb.toInt.toNat + k)
  | 0, _ => hi
  | k + 1, hk => by
    have h1 := Scf.toInt_iv ok (Nat.le_of_lt hk)
    have h2 := Scf.iv_lt_ub ok (show k < Scf.trips lb ub st from hk)
    rw [hst, Int.mul_one] at h1
    have h3 : (Scf.iv lb st k).toNat = lb.toInt.toNat + k := by
      have h4 := BitVec.toInt_eq_toNat_cond (Scf.iv lb st k)
      have h5 := (Scf.iv lb st k).isLt
      split at h4 <;> omega
    have hj : lb.toInt.toNat + k < 128 := by omega
    rw [show k + 1 = (⟨k, hk⟩ : Fin (Scf.trips lb ub st)).val + 1 from rfl, iterate_succ, trip, place_at]
    rw [row_at arg4 harg4 x3 _ _ ⟨_, hj⟩ (y 1) (by rw [hv]; exact congrArg (fun n => ![n, 0]) h3),
      row_at arg5 harg5 x4 _ _ ⟨_, hj⟩ (y 1) (by rw [hv]; exact congrArg (fun n => ![n, 0]) h3)]
    rw [trips_at lb ub st ok hst hlb hub init b off hoff hv y hi k (Nat.le_of_lt hk)]
    exact (overlay_succ (fun j => x3 (ix2 j (y 1))) (b + BitVec.ofNat 32 (y 0).val) (fun j => x4 (ix2 j (y 1))) ⟨_, hj⟩).symm

/-- A loop that steps by one makes as many trips as its bounds are apart. -/
theorem trips_one (lb ub st : BitVec 32) (hst : st.toInt = 1) : (Scf.trips lb ub st : ℤ) = max 0 (ub.toInt - lb.toInt) := by
  unfold Scf.trips
  rw [hst]; omega

/-- The second loop makes no trip. -/
theorem no_second (l h : BitVec 32) (t : Fin (k0_t2_loop l h).trips) : False := Scf.rem_no_trip _ _ t

/-- The first loop's trips: the rows from the first bound to the last. -/
theorem first_trips (l h : BitVec 32) (r1 : 0 ≤ l.toInt ∧ l.toInt ≤ 128) (r2 : -1 ≤ h.toInt ∧ h.toInt ≤ 127) :
    ((k0_t1_loop l h).trips : ℤ) = max 0 (h.toInt + 1 - l.toInt) := by
  have e := trips_one (k0_t1_loop l h).lb (k0_t1_loop l h).ub (k0_t1_loop l h).st (by decide : (1#32 : BitVec 32).toInt = 1)
  rw [bounds l h r1 r2] at e
  exact e

/-- The second loop makes none. -/
theorem second_trips (l h : BitVec 32) : Scf.trips (k0_t2_loop l h).lb (k0_t2_loop l h).ub (k0_t2_loop l h).st = 0 :=
  Nat.eq_zero_of_not_pos fun p => no_second l h ⟨0, p⟩

/-- A loop of no trips leaves its block. -/
theorem iterate_none {α : Type} {n : ℕ} (h : n = 0) (f : Fin n → α → α) (init : α) : iterate f init n = init := by
  subst h; rfl

/-- Both loops at an element, between bounds that every row naming the element lies between. -/
theorem loops_at (l h : BitVec 32) (r1 : 0 ≤ l.toInt ∧ l.toInt ≤ 128) (r2 : -1 ≤ h.toInt ∧ h.toInt ≤ 127) (ok : k0_chk1 l h) (b : BitVec 32) (y : S128x128.Idx)
    (met : ∀ j : Fin 128, x3 (ix2 j (y 1)) = b + BitVec.ofNat 32 (y 0).val → l.toInt ≤ j.val ∧ (j.val : ℤ) ≤ h.toInt) :
    swept (k0_t2_loop l h).lb (k0_t2_loop l h).ub (k0_t2_loop l h).st
      (swept (k0_t1_loop l h).lb (k0_t1_loop l h).ub (k0_t1_loop l h).st
        (broadcast S128x128 (Scalar.ofBits .f32 0x00000000#32)) b rank arg4 arg5
        (k0_off1 l h) (k0_off1_inb l h ok) (harg4.unread x3) (harg5.unread x4))
      b rank arg4 arg5 (k0_off2 l h) (k0_off2_inb l h ok) (harg4.unread x3) (harg5.unread x4) y
    = overlay (fun j => x3 (ix2 j (y 1))) (b + BitVec.ofNat 32 (y 0).val) (fun j => x4 (ix2 j (y 1))) 128 := by
  have hub := bounds l h r1 r2
  have hn := first_trips l h r1 r2
  have hst : (k0_t1_loop l h).st.toInt = 1 := (by decide : (1#32 : BitVec 32).toInt = 1)
  rw [swept_eq, swept_eq, iterate_none (second_trips l h)]
  refine (trips_at arg4 harg4 arg5 harg5 x3 x4 _ _ _ ok.1 hst r1.1 (by rw [hub]; omega) _ b (k0_off1 l h) _ (fun _ => rfl) y ?_ _ (le_refl _)).trans ?_
  rotate_left
  · refine (overlay_skip _ _ _ _ 128 ?_ (le_refl _) fun j h1 h2 hj => ?_).symm
    · show l.toInt.toNat + (k0_t1_loop l h).trips ≤ 128
      omega
    · have h3 := met j hj
      have h1 : l.toInt.toNat + (k0_t1_loop l h).trips ≤ j.val := h1
      omega
  · refine Eq.trans ?_ (overlay_skip _ _ _ 0 _ (Nat.zero_le _) ?_ fun j h1 h2 hj => ?_).symm
    · rw [overlay_zero]
      exact Ideal.ofBits_zero_f32
    · show l.toInt.toNat ≤ 128
      omega
    · have h3 := met j hj
      have h2 : j.val < l.toInt.toNat := h2
      omega

/-- A group's sparse values at an element: of all 128 rows, the last whose index names it. -/
theorem sparse_at (g : Fin 32) (y : S128x128.Idx) : sparse x3 g arg4 harg4 arg5 harg5 x3 x4 y
    = overlay (fun j => x3 (ix2 j (y 1))) (base g + BitVec.ofNat 32 (y 0).val) (fun j => x4 (ix2 j (y 1))) 128 := by
  have hg : g.val < 32 := g.isLt
  have hy : (y 0).val < 128 := (y 0).isLt
  have hw : (base g + BitVec.ofNat 32 (y 0).val).toInt = 128 * g.val + (y 0).val := by
    show (BitVec.ofNat 32 (128 * g.val) + BitVec.ofNat 32 (y 0).val).toInt = _
    rw [← BitVec.ofNat_add, BitVec.toInt_ofNat', Int.bmod_def]; push_cast; split <;> omega
  have hb : (base g).toInt = 128 * g.val := (toInt_ofNat_of_lt (by omega)).trans (by push_cast; rfl)
  refine loops_at arg4 harg4 arg5 harg5 x3 x4 _ _ (firstRow_range _) (lastRow_range _) (chk x3 g) (base g) y fun j hj => ⟨?_, ?_⟩
  · refine firstRow_le _ (ix2 j (y 1)) ?_
    show IntOp.cmpi .sge (x3 (ix2 j (y 1))) (base g) = 1#1
    rw [cmpi_sge_eq, ofBool_decide_eq_one_iff, hj, hw, hb]; omega
  · refine le_lastRow _ (ix2 j (y 1)) ?_
    show IntOp.cmpi .slt (x3 (ix2 j (y 1))) (BitVec.ofNat 32 (128 * g.val + 128)) = 1#1
    rw [cmpi_slt_eq, ofBool_decide_eq_one_iff, hj, hw, toInt_ofNat_of_lt (by omega)]; push_cast; omega

end Cert.KernelIdeal.Build

end
-- ==== Proof.KernelIdeal.Dense.lean ====
/-
  One group's weights over the reals, element by element.
-/
module

public import proofs.«01_k».proof.Proof.KernelIdeal.Sweep
public import Idealize.ShloMosaic.Lib.BitcastPair

@[expose] public section

set_option maxRecDepth 16384

noncomputable section

namespace Cert.KernelIdeal.Build

open Cert.KernelIdeal Cert.KernelIdeal.Gen
open Idealize.ShloMosaic Idealize.ShloMosaic.TcCoe Idealize.ShloMosaic.WordCmp Idealize.SL.Sem

/-- The code of row `q` in a packed byte: the low four bits at even rows, the high four at odd rows. -/
def nibble (p : BitVec 8) (q : ℕ) : ℕ := if q % 2 = 0 then p.toNat % 16 else p.toNat / 16

theorem nibble_lt (p : BitVec 8) (q : ℕ) : nibble p q < 16 := by
  have := p.isLt; unfold nibble; split <;> omega

/-- The word that carries a byte's two codes, one in each half. -/
def word (p : BitVec 8) : BitVec 32 :=
  IntOp.ori (IntOp.ori (IntOp.andi (p.setWidth 32) 15#32) (IntOp.shli .vector (IntOp.andi (p.setWidth 32) 240#32) 12#32)) 1124090624#32

/-- Either half of the word is the pattern of 128 with the code in its last bits. -/
theorem word_half (p : BitVec 8) (q : ℕ) : (word p).extractLsb' (16 * (q % 2)) 16 = BitVec.ofNat 16 (0x4300 + nibble p q) := by
  have h : ∀ (p : Fin 256) (b : Fin 2), (word (BitVec.ofFin p)).extractLsb' (16 * b.val) 16
      = BitVec.ofNat 16 (0x4300 + (if b.val = 0 then p.val % 16 else p.val / 16)) := by decide +kernel
  exact h p.toFin ⟨q % 2, Nat.mod_lt _ (by decide)⟩

/-- That pattern's value. -/
theorem pattern (n : ℕ) (hn : n < 16) : Ideal.ofBits .bf16 (BitVec.ofNat 16 (0x4300 + n)) = (((128 + n : ℕ) : ℝ) : EReal) := by
  interval_cases n <;> (simp [Ideal.ofBits, Ideal.ieee, -EReal.coe_mul] <;> norm_num)

/-- The codes at an element. -/
theorem codes_at (packed : Vec Ideal S64x128 .i8) (y : S128x128.Idx) (r : Fin 64) (hr : r.val = (y 0).val / 2) :
    codes packed y = (((128 + nibble (packed (ix2 r (y 1))) (y 0).val : ℕ) : ℝ) : EReal) := by
  rw [← pattern _ (nibble_lt _ _), ← word_half]
  unfold codes bitcastToFloat
  rw [bitcast_32_16]
  have e : ∀ (p : ℕ) hp, p = (y 0).val / 2 → Shape.Bitcasts.srcIdx bitcasts_S64x128_w32_S128x128_w16 y p hp = ix2 r (y 1) := by
    intro p hp h
    funext a
    fin_cases a
    · exact Fin.ext ((Shape.Bitcasts.srcIdx_row _ _ _ _ 0 rfl).trans (h.trans hr.symm))
    · exact Fin.ext ((Shape.Bitcasts.srcIdx_other _ _ _ _ 1 (by decide)).trans rfl)
  rw [e (S128x128.row y / 2) _ rfl]
  rfl

/-- A group's weights before the sparse values, at an element. -/
theorem dense_at (packed : Vec Ideal S64x128 .i8) (scales : Vec Ideal S32x128 .f32) (zeros : Vec Ideal S32x128 .i8) (g : Fin 32) (y : S128x128.Idx)
    (r : Fin 64) (hr : r.val = (y 0).val / 2) : dense packed scales zeros g y
      = (((nibble (packed (ix2 r (y 1))) (y 0).val : ℝ) - ((zeros (ix2 g (y 1))).toNat : ℝ) : ℝ) : EReal) * scales (ix2 g (y 1)) := by
  unfold dense
  pointwise
  rw [codes_at packed y r hr]
  have h1 : (FloatOps.sitofp (F := Ideal) FTy.f32 (BitVec.setWidth 32 (zeros (ix2 g (y 1)))) : EReal) = (((zeros (ix2 g (y 1))).toNat : ℝ) : EReal) := by
    show (((BitVec.setWidth 32 (zeros (ix2 g (y 1)))).toInt : ℝ) : EReal) = _
    rw [toInt_eq_toNat_of_lt_half (by rw [BitVec.toNat_setWidth]; have := (zeros (ix2 g (y 1))).isLt; omega), BitVec.toNat_setWidth,
      Nat.mod_eq_of_lt (by have := (zeros (ix2 g (y 1))).isLt; omega)]
    push_cast; rfl
  have h2 : Ideal.ofBits .bf16 0x4300#16 = ((128 : ℝ) : EReal) := (pattern 0 (by decide)).trans (by norm_num)
  rw [h1, h2]
  refine congrArg (· * scales (ix2 g (y 1))) ?_
  rw [← EReal.coe_add, ← EReal.coe_sub]
  refine congrArg _ ?_
  push_cast
  ring

end Cert.KernelIdeal.Build

end
-- ==== Proof.KernelIdeal.Value0.lean ====
/-
  Call 0 over the reals: the array it leaves is the weights, index by index: the code less its group's zero point, times the
  group's scale, plus the sparse value of the last row that names the place.
-/
module

public import proofs.«01_k».proof.Proof.KernelIdeal.K0
public import proofs.«01_k».proof.Proof.KernelIdeal.Dense

@[expose] public section

set_option maxRecDepth 16384

noncomputable section

namespace Cert.KernelIdeal.Own.K0

open Cert.KernelIdeal Cert.KernelIdeal.Gen Cert.KernelIdeal.Build
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

theorem hz : (![0, 0] : Fin 2 → Nat) = fun _ => 0 := funext fun a => by fin_cases a <;> rfl

/-- The packed row of a weight's row. -/
def half (q : Fin 4096) : Fin 2048 := ⟨q.val / 2, by omega⟩

/-- The group of a weight's row. -/
def group (q : Fin 4096) : Fin 32 := ⟨q.val / 128, by omega⟩

/-- The weights on `n` columns, from packed codes, scales, zero points, row indices and sparse values of those columns. -/
def weights {n : ℕ} (P : IVec ⟨2, ![2048, n]⟩ 8) (A : FVec Ideal ⟨2, ![32, n]⟩ .f32) (Z : IVec ⟨2, ![32, n]⟩ 8)
    (R : IVec ⟨2, ![128, n]⟩ 32) (S : FVec Ideal ⟨2, ![128, n]⟩ .f32) : FVec Ideal ⟨2, ![4096, n]⟩ .bf16 := fun i =>
  (((nibble (P (ix2 (half (i 0)) (i 1))) (i 0).val : ℝ) - ((Z (ix2 (group (i 0)) (i 1))).toNat : ℝ) : ℝ) : EReal) * A (ix2 (group (i 0)) (i 1))
    + overlay (fun j => R (ix2 j (i 1))) (BitVec.ofNat 32 (i 0).val) (fun j => S (ix2 j (i 1))) 128

/-- What a group stores is the weights' rows of the group. -/
theorem groupPay_at (g : Fin 32) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole)
    (x0 : Vec Ideal S2048x128 .i8) (x1 : Vec Ideal S32x128 .f32) (x2 : Vec Ideal S32x128 .i8) (x3 : Vec Ideal S128x128 .i32) (x4 : Vec Ideal S128x128 .f32)
    (x : S128x128.Idx) (q : Fin 4096) (hq : q.val = 128 * g.val + (x 0).val) :
    groupPay g arg1 harg1 arg2 harg2 arg3 harg3 arg4 harg4 arg5 harg5 x0 x1 x2 x3 x4 x = weights x0 x1 x2 x3 x4 (ix2 q (x 1)) := by
  have hx : (x 0).val < 128 := (x 0).isLt
  have hg := g.isLt
  unfold groupPay
  simp only [View.readAt_eq_ld, harg1.read_unread, harg2.read_unread, harg3.read_unread, harg4.read_unread,
    View.ld_unit_zero (S := S32x128) hz, View.ld_unit_zero (S := S128x128) hz]
  show dense _ x1 x2 g x + sparse x3 g arg4 harg4 arg5 harg5 x3 x4 x = _
  rw [dense_at _ x1 x2 g x ⟨(x 0).val / 2, by omega⟩ rfl, sparse_at]
  have e1 : group q = g := Fin.ext (by show q.val / 128 = g.val; omega)
  have e2 : View.ld (Val := Elt Ideal) (e' := .i8) x0 (Rect.unit (s := S2048x128) ![64 * g.val, 0] S64x128.size (packedIn g)) (ix2 ⟨(x 0).val / 2, by omega⟩ (x 1)) = x0 (ix2 (half q) (x 1)) := by
    rw [View.ld_apply]
    refine congrArg x0 (funext fun a => ?_)
    fin_cases a
    · exact Fin.ext (by show 64 * g.val + 1 * ((x 0).val / 2) = q.val / 2; omega)
    · exact Fin.ext (by show 0 + 1 * (x 1).val = (x 1).val; omega)
  have e3 : base g + BitVec.ofNat 32 (x 0).val = BitVec.ofNat 32 q.val := by
    rw [hq, BitVec.ofNat_add]; rfl
  have e4 : ∀ p, nibble p (x 0).val = nibble p q.val := fun p => by
    unfold nibble; rw [show (x 0).val % 2 = q.val % 2 by omega]
  rw [e2, e3, e4]
  unfold weights
  rw [show ((ix2 q (x 1) : S4096x128.Idx) 0) = q from rfl, e1]
  rfl

/-- What the body leaves is the weights of its columns. -/
theorem out_eq (c : Dev nD) (i : grid0.Coords) (arg1 : Memref sig .tc .vmem S2048x128 .i8) (harg1 : arg1.IsWhole) (arg2 : Memref sig .tc .vmem S32x128 .f32) (harg2 : arg2.IsWhole) (arg3 : Memref sig .tc .vmem S32x128 .i8) (harg3 : arg3.IsWhole) (arg4 : Memref sig .tc .vmem S128x128 .i32) (harg4 : arg4.IsWhole) (arg5 : Memref sig .tc .vmem S128x128 .f32) (harg5 : arg5.IsWhole) (arg6 : Memref sig .tc .vmem S4096x128 .bf16) (harg6 : arg6.IsWhole)
    (x0 : Vec Ideal S2048x128 .i8) (x1 : Vec Ideal S32x128 .f32) (x2 : Vec Ideal S32x128 .i8) (x3 : Vec Ideal S128x128 .i32) (x4 : Vec Ideal S128x128 .f32) :
    out0_A_5 (Ix := Ix) (U := U) (Lvl := Lvl) 𝒱₀ c i arg1 harg1 arg2 harg2 arg3 harg3 arg4 harg4 arg5 harg5 arg6 harg6 x0 x1 x2 x3 x4
      = weights x0 x1 x2 x3 x4 := by
  unfold out0_A_5
  rw [View.read_writes_eq_canon _ _ _ (cover0_A_5 (Ix := Ix) (U := U) (Lvl := Lvl) 𝒱₀ c i arg1 harg1 arg2 harg2 arg3 harg3 arg4 harg4 arg5 harg5 arg6 harg6 x0 x1 x2 x3 x4)]
  funext y
  refine View.canon_apply_of_pieces (weights x0 x1 x2 x3 x4) _ ?_ y
    (cover0_A_5 (Ix := Ix) (U := U) (Lvl := Lvl) 𝒱₀ c i arg1 harg1 arg2 harg2 arg3 harg3 arg4 harg4 arg5 harg5 arg6 harg6 x0 x1 x2 x3 x4 y)
  rw [bodyRun_pieces]
  intro p hp x
  obtain ⟨g, -, rfl⟩ := List.mem_map.mp hp
  have hx : (x 0).val < 128 := (x 0).isLt
  have hg := g.isLt
  refine (groupPay_at g arg1 harg1 arg2 harg2 arg3 harg3 arg4 harg4 arg5 harg5 x0 x1 x2 x3 x4 x ⟨128 * g.val + (x 0).val, by omega⟩ rfl).trans ?_
  refine congrArg (weights x0 x1 x2 x3 x4) (funext fun a => ?_)
  fin_cases a
  · exact Fin.ext (by show 128 * g.val + (x 0).val = 128 * g.val + 1 * (x 0).val; omega)
  · exact Fin.ext (by show (x 1).val = 0 + 1 * (x 1).val; omega)

/-- Where each window's block sits, point by point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The array call 0 leaves. -/
theorem final (c : Dev nD) : (dat (Ix := Ix) (U := U) (Lvl := Lvl) 𝒱₀ V D c).arrAt 5 cfg0.N
    = weights (V c main_arg1) (V c main_arg2) (V c main_arg3) (V c main_arg4) (V c main_v1) := by
  refine (dat (Ix := Ix) (U := U) (Lvl := Lvl) 𝒱₀ V D c).arrAt_eq_of_covers 5 _ (by decide +kernel) fun t _ y => ?_
  blk_simp
  rw [after0_5]
  unfold outsAt0
  rw [out_eq]
  unfold weights half group
  blk_point [iblk, idx t]

end Cert.KernelIdeal.Own.K0

end
-- ==== Proof.KernelIdeal.Value1.lean ====
/-
  Call 1 over the reals: the array it leaves is the product of the activations with the first low-rank factor, index by index.
-/
module

public import proofs.«01_k».proof.Proof.KernelIdeal.K1
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Own.K1

open Cert.KernelIdeal Cert.KernelIdeal.Gen
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

theorem hz : (![0, 0] : Fin 2 → Nat) = fun _ => 0 := funext fun a => by fin_cases a <;> rfl

/-- The array call 1 leaves, from the activations and the first low-rank factor. -/
def lowered (X : FVec Ideal S16384x4096 .bf16) (A : FVec Ideal S4096x64 .bf16) : FVec Ideal S16384x64 .bf16 := fun i =>
  ∑ k : Fin 4096, X (ix2 (i 0) k) * A (ix2 k (i 1))

/-- Where each window's block sits, point by point. -/
theorem idx : ∀ t : Fin cfg1.N, win1_0.index t = ![t.val, 0] ∧ win1_1.index t = ![0, 0] ∧ win1_2.index t = ![t.val, 0] :=
  (by decide +kernel : ∀ t : Fin grid1.N, _)

/-- What the body leaves is its one payload of the blocks it loads. -/
theorem out_eq (c : Dev nD) (i : grid1.Coords) (arg1 : Memref sig .tc .vmem S1024x4096 .bf16) (harg1 : arg1.IsWhole) (arg2 : Memref sig .tc .vmem S4096x64 .bf16) (harg2 : arg2.IsWhole) (arg3 : Memref sig .tc .vmem S1024x64 .bf16) (harg3 : arg3.IsWhole)
    (x0 : Vec Ideal S1024x4096 .bf16) (x1 : Vec Ideal S4096x64 .bf16) :
    out1_A_2 (Ix := Ix) (U := U) (Lvl := Lvl) 𝒱₀ c i arg1 harg1 arg2 harg2 arg3 harg3 x0 x1 = k1_pay1 x0 x1 := by
  unfold out1_A_2
  rw [View.read_writes_eq_canon _ _ _ (cover1_A_2 (Ix := Ix) (U := U) (Lvl := Lvl) 𝒱₀ c i arg1 harg1 arg2 harg2 arg3 harg3 x0 x1)]
  unfold kernelRun1_A
  dsimp only
  rw [View.canon_unit_zero hz]
  simp only [View.readAt_eq_ld, harg1.read_unread, harg2.read_unread, View.ld_unit_zero (S := S1024x4096) hz, View.ld_unit_zero (S := S4096x64) hz]

/-- The payload at an index. -/
theorem pay_at (x0 : FVec Ideal S1024x4096 .bf16) (x1 : FVec Ideal S4096x64 .bf16) (j : S1024x64.Idx) :
    k1_pay1 (F := Ideal) x0 x1 j = ∑ k : Fin 4096, x0 (ix2 (j 0) k) * x1 (ix2 k (j 1)) := by
  pointwise [k1_pay1]

/-- The array call 1 leaves. -/
theorem final (c : Dev nD) : (dat (Ix := Ix) (U := U) (Lvl := Lvl) 𝒱₀ V D c).arrAt 2 cfg1.N = lowered (V c main_v0) (V c main_arg6) := by
  refine (dat (Ix := Ix) (U := U) (Lvl := Lvl) 𝒱₀ V D c).arrAt_eq_of_covers 2 _ (by decide +kernel) fun t _ y => ?_
  blk_simp
  rw [after1_2]
  unfold outsAt1
  rw [out_eq, pay_at]
  unfold lowered
  blk_point [iblk, idx t]

end Cert.KernelIdeal.Own.K1

end
-- ==== Proof.KernelIdeal.Value2.lean ====
/-
  Call 2 over the reals: the array it leaves is the product of the activations with the weights, plus a quarter of the product of
  the low-rank factors, index by index.
-/
module

public import proofs.«01_k».proof.Proof.KernelIdeal.K2
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Own.K2

open Cert.KernelIdeal Cert.KernelIdeal.Gen
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

theorem hz : (![0, 0] : Fin 2 → Nat) = fun _ => 0 := funext fun a => by fin_cases a <;> rfl

/-- The array call 2 leaves, from the activations, the weights and the two low-rank factors. -/
def joined (X : FVec Ideal S16384x4096 .bf16) (W : FVec Ideal S4096x14336 .bf16) (T : FVec Ideal S16384x64 .bf16)
    (B : FVec Ideal S64x14336 .bf16) : FVec Ideal S16384x14336 .bf16 := fun i =>
  (∑ k : Fin 4096, X (ix2 (i 0) k) * W (ix2 k (i 1)))
    + Ideal.ofBits .f32 0x3E800000#32 * ∑ r : Fin 64, T (ix2 (i 0) r) * B (ix2 r (i 1))

/-- Where each window's block sits, point by point. -/
theorem idx : ∀ t : Fin cfg2.N, win2_0.index t = ![t.val % 16, 0] ∧ win2_1.index t = ![0, t.val / 16] ∧ win2_2.index t = ![t.val % 16, 0]
    ∧ win2_3.index t = ![0, t.val / 16] ∧ win2_4.index t = ![t.val % 16, t.val / 16] :=
  (by decide +kernel : ∀ t : Fin grid2.N, _)

/-- What the body leaves is its one payload of the blocks it loads. -/
theorem out_eq (c : Dev nD) (i : grid2.Coords) (arg2 : Memref sig .tc .vmem S1024x4096 .bf16) (harg2 : arg2.IsWhole) (arg3 : Memref sig .tc .vmem S4096x1024 .bf16) (harg3 : arg3.IsWhole) (arg4 : Memref sig .tc .vmem S1024x64 .bf16) (harg4 : arg4.IsWhole) (arg5 : Memref sig .tc .vmem S64x1024 .bf16) (harg5 : arg5.IsWhole) (arg6 : Memref sig .tc .vmem S1024x1024 .bf16) (harg6 : arg6.IsWhole)
    (x0 : Vec Ideal S1024x4096 .bf16) (x1 : Vec Ideal S4096x1024 .bf16) (x2 : Vec Ideal S1024x64 .bf16) (x3 : Vec Ideal S64x1024 .bf16) :
    out2_A_4 (Ix := Ix) (U := U) (Lvl := Lvl) 𝒱₀ c i arg2 harg2 arg3 harg3 arg4 harg4 arg5 harg5 arg6 harg6 x0 x1 x2 x3 = k2_pay1 x0 x1 x2 x3 := by
  unfold out2_A_4
  rw [View.read_writes_eq_canon _ _ _ (cover2_A_4 (Ix := Ix) (U := U) (Lvl := Lvl) 𝒱₀ c i arg2 harg2 arg3 harg3 arg4 harg4 arg5 harg5 arg6 harg6 x0 x1 x2 x3)]
  unfold kernelRun2_A
  dsimp only
  rw [View.canon_unit_zero hz]
  simp only [View.readAt_eq_ld, harg2.read_unread, harg3.read_unread, harg4.read_unread, harg5.read_unread,
    View.ld_unit_zero (S := S1024x4096) hz, View.ld_unit_zero (S := S4096x1024) hz, View.ld_unit_zero (S := S1024x64) hz,
    View.ld_unit_zero (S := S64x1024) hz]

/-- The payload at an index. -/
theorem pay_at (x0 : FVec Ideal S1024x4096 .bf16) (x1 : FVec Ideal S4096x1024 .bf16) (x2 : FVec Ideal S1024x64 .bf16) (x3 : FVec Ideal S64x1024 .bf16)
    (j : S1024x1024.Idx) : k2_pay1 (F := Ideal) x0 x1 x2 x3 j
      = (∑ k : Fin 4096, x0 (ix2 (j 0) k) * x1 (ix2 k (j 1)))
        + Ideal.ofBits .f32 0x3E800000#32 * ∑ r : Fin 64, x2 (ix2 (j 0) r) * x3 (ix2 r (j 1)) := by
  pointwise [k2_pay1]

/-- The array call 2 leaves. -/
theorem final (c : Dev nD) : (dat (Ix := Ix) (U := U) (Lvl := Lvl) 𝒱₀ V D c).arrAt 4 cfg2.N
    = joined (V c main_v0) (V c main_v2) (V c main_v3) (V c main_arg7) := by
  refine (dat (Ix := Ix) (U := U) (Lvl := Lvl) 𝒱₀ V D c).arrAt_eq_of_covers 4 _ (by decide +kernel) fun t _ y => ?_
  blk_simp
  rw [after2_4]
  unfold outsAt2
  rw [out_eq, pay_at]
  unfold joined
  blk_point [iblk, idx t]

end Cert.KernelIdeal.Own.K2

end
-- ==== Proof.KernelIdeal.Value.lean ====
/-
  The whole program's result over the reals: the three calls' arrays composed, from the arguments alone.
-/
module

public import proofs.«01_k».proof.Proof.KernelIdeal.Program
public import proofs.«01_k».proof.Proof.KernelIdeal.Value0
public import proofs.«01_k».proof.Proof.KernelIdeal.Value1
public import proofs.«01_k».proof.Proof.KernelIdeal.Value2

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.SL Idealize.SL.RA

/-- The activations as one matrix. -/
def flat (x : FVec Ideal S8x2048x4096 .bf16) : FVec Ideal S16384x4096 .bf16 := shapeCast S16384x4096 x shapeCasts_S8x2048x4096_S16384x4096

/-- The sparse values in the wider format. -/
def wide (S : FVec Ideal S128x14336 .bf16) : FVec Ideal S128x14336 .f32 := extf .f32 S bitsLt_bf16_f32

/-- The program's result, from its arguments. -/
def result (x : FVec Ideal S8x2048x4096 .bf16) (P : IVec S2048x14336 8) (A : FVec Ideal S32x14336 .f32) (Z : IVec S32x14336 8)
    (R : IVec S128x14336 32) (S : FVec Ideal S128x14336 .bf16) (la : FVec Ideal S4096x64 .bf16) (lb : FVec Ideal S64x14336 .bf16) :
    FVec Ideal S8x2048x14336 .bf16 :=
  shapeCast S8x2048x14336 (K2.joined (flat x) (K0.weights P A Z R (wide S)) (K1.lowered (flat x) la) lb)
    shapeCasts_S16384x14336_S8x2048x14336

variable (m : (ℓ : Loc nD τ sig) → Buf (Elt Ideal) ℓ) (c : Dev nD)

/-! ## What the calls find in their arrays -/

theorem V1_v0 : V1 m c (Proc.devRef .tc main_v0) = flat (m ((c.tc : Thread nD τ).loc main_arg0)) := by
  after_results_simp <;> rfl

theorem V1_v1 : V1 m c (Proc.devRef .tc main_v1) = wide (m ((c.tc : Thread nD τ).loc main_arg5)) := by
  after_results_simp <;> rfl

/-- The weight builder leaves the weights. -/
theorem built_eq : built m c = K0.weights (m ((c.tc : Thread nD τ).loc main_arg1)) (m ((c.tc : Thread nD τ).loc main_arg2))
    (m ((c.tc : Thread nD τ).loc main_arg3)) (m ((c.tc : Thread nD τ).loc main_arg4)) (wide (m ((c.tc : Thread nD τ).loc main_arg5))) := by
  refine (K0.final Variants.none (Ve0 m) noDue c).trans ?_
  have e1 : Ve0 m c main_arg1 = m ((c.tc : Thread nD τ).loc main_arg1) := (V1_of m c main_arg1 (by decide)).trans rfl
  have e2 : Ve0 m c main_arg2 = m ((c.tc : Thread nD τ).loc main_arg2) := (V1_of m c main_arg2 (by decide)).trans rfl
  have e3 : Ve0 m c main_arg3 = m ((c.tc : Thread nD τ).loc main_arg3) := (V1_of m c main_arg3 (by decide)).trans rfl
  have e4 : Ve0 m c main_arg4 = m ((c.tc : Thread nD τ).loc main_arg4) := (V1_of m c main_arg4 (by decide)).trans rfl
  have e5 : Ve0 m c main_v1 = wide (m ((c.tc : Thread nD τ).loc main_arg5)) := V1_v1 m c
  rw [e1, e2, e3, e4, e5]

/-- The low-rank factor's call leaves the product with the first factor. -/
theorem factor_eq : factor m c = K1.lowered (flat (m ((c.tc : Thread nD τ).loc main_arg0))) (m ((c.tc : Thread nD τ).loc main_arg6)) := by
  refine (K1.final Variants.none (Ve1 m (outsA m)) noDue c).trans ?_
  have e0 : Ve1 m (outsA m) c main_v0 = flat (m ((c.tc : Thread nD τ).loc main_arg0)) := (V2_of m (outsA m) c main_v0 (by decide)).trans (V1_v0 m c)
  have e6 : Ve1 m (outsA m) c main_arg6 = m ((c.tc : Thread nD τ).loc main_arg6) :=
    (V2_of m (outsA m) c main_arg6 (by decide)).trans <| (V1_of m c main_arg6 (by decide)).trans rfl
  rw [e0, e6]

/-- The output product's call leaves the sum of the two products. -/
theorem product_eq : product m c = K2.joined (flat (m ((c.tc : Thread nD τ).loc main_arg0))) (built m c) (factor m c) (m ((c.tc : Thread nD τ).loc main_arg7)) := by
  refine (K2.final Variants.none (Ve2 m (outsB m)) noDue c).trans ?_
  have e0 : Ve2 m (outsB m) c main_v0 = flat (m ((c.tc : Thread nD τ).loc main_arg0)) :=
    (V3_of m (outsB m) c main_v0 (by decide)).trans <| (V2_of m (outsB m) c main_v0 (by decide)).trans (V1_v0 m c)
  have e2 : Ve2 m (outsB m) c main_v2 = built m c := (V3_of m (outsB m) c main_v2 (by decide)).trans <|
    (Function.update_self ..).trans (congrFun (outsB_v2 m 2) c)
  have e3 : Ve2 m (outsB m) c main_v3 = factor m c := (Function.update_self ..).trans (congrFun (outsB_v3 m 3) c)
  have e7 : Ve2 m (outsB m) c main_arg7 = m ((c.tc : Thread nD τ).loc main_arg7) :=
    (V3_of m (outsB m) c main_arg7 (by decide)).trans <| (V2_of m (outsB m) c main_arg7 (by decide)).trans <| (V1_of m c main_arg7 (by decide)).trans rfl
  rw [e0, e2, e3, e7]

/-- The program's result at its last contents. -/
theorem V5_v5 : V5 m (outsC m) c (Proc.devRef .tc main_v5) = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  have e4 : V4 m (outsC m) c (Proc.devRef .tc main_v4) = product m c := (Function.update_self ..).trans (congrFun (outsC_v4 m 4) c)
  have e5 : V5 m (outsC m) c (Proc.devRef .tc main_v5)
      = shapeCast S8x2048x14336 (V4 m (outsC m) c (Proc.devRef .tc main_v4)) shapeCasts_S16384x14336_S8x2048x14336 := by
    after_results_simp <;> rfl
  rw [e5, e4, product_eq, built_eq, factor_eq]
  rfl

/-- A row of the one matrix is a row of one batch. -/
theorem flat_at (x : FVec Ideal S8x2048x4096 .bf16) (a : Fin 8) (b : Fin 2048) (h : a.val * 2048 + b.val < 16384) (k : Fin 4096) :
    flat x (ix2 ⟨a.val * 2048 + b.val, h⟩ k) = x (ix3 a b k) := by
  unfold flat
  pointwise

/-- The result at an index. -/
theorem result_at (x : FVec Ideal S8x2048x4096 .bf16) (P : IVec S2048x14336 8) (A : FVec Ideal S32x14336 .f32) (Z : IVec S32x14336 8)
    (R : IVec S128x14336 32) (S : FVec Ideal S128x14336 .bf16) (la : FVec Ideal S4096x64 .bf16) (lb : FVec Ideal S64x14336 .bf16) (y : S8x2048x14336.Idx) :
    result x P A Z R S la lb y = (∑ k : Fin 4096, x (ix3 (y 0) (y 1) k) * K0.weights P A Z R S (ix2 k (y 2)))
      + Ideal.ofBits .f32 0x3E800000#32 * ∑ r : Fin 64, (∑ k : Fin 4096, x (ix3 (y 0) (y 1) k) * la (ix2 k r)) * lb (ix2 r (y 2)) := by
  unfold result
  pointwise
  unfold K2.joined K1.lowered
  refine congrArg₂ (· + ·) (Finset.sum_congr rfl fun k _ => ?_) (congrArg _ (Finset.sum_congr rfl fun r _ => ?_))
  · exact congrArg (· * _) (flat_at x (y 0) (y 1) _ k)
  · exact congrArg (· * _) (Finset.sum_congr rfl fun k _ => congrArg (· * _) (flat_at x (y 0) (y 1) _ k))

end Cert.KernelIdeal.Own

end
-- ==== Proof.ReferenceIdeal.Dense.lean ====
/-
  The reference's weights before the sparse values, element by element.
-/
module

public import proofs.«01_k».proof.Proof.Gen.ReferenceIdeal.Run
public import proofs.«01_k».proof.Proof.KernelIdeal.Value0
public import Idealize.ShloMosaic.Lib.Pointwise
public import Idealize.ShloMosaic.Lib.WordCmp
public import Idealize.ShloMosaic.PureOps.Ideal

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.WordCmp Idealize.SL.Sem

/-- The codes, one a row: the low four bits of each byte at even rows, the high four at odd rows. -/
def codes (P : IVec S2048x14336 8) : IVec S4096x14336 32 :=
  shapeCast _ (concatenate S2048x2x14336 1 [⟨S2048x1x14336, (broadcastInDim S2048x1x14336 ![0, 2] bcast_S2048x14336_S2048x1x14336_0_2 (andi (extui 32 P natLt_8_32) (broadcastInDim S2048x14336 ![] bcast_S_S2048x14336 (constantI S_ 32 15#32))))⟩, ⟨S2048x1x14336, (broadcastInDim S2048x1x14336 ![0, 2] bcast_S2048x14336_S2048x1x14336_0_2 (Host.shrsi (extui 32 P natLt_8_32) (broadcastInDim S2048x14336 ![] bcast_S_S2048x14336 (constantI S_ 32 4#32))))⟩] concatenates_S2048x1x14336_S2048x1x14336_S2048x2x14336_d1) shapeCasts_S2048x2x14336_S4096x14336

/-- The weights before the sparse values. -/
def dense (P : IVec S2048x14336 8) (A : FVec Ideal S32x14336 .f32) (Z : IVec S32x14336 8) : FVec Ideal S4096x14336 .bf16 :=
  shapeCast _ (mulf (subf (shapeCast _ (truncf .bf16 (sitofp .f32 (codes P)) bitsLt_bf16_f32) shapeCasts_S4096x14336_S32x128x14336) (broadcastInDim S32x128x14336 ![0, 1, 2] bcast_S32x1x14336_S32x128x14336_0_1_2 (broadcastInDim S32x1x14336 ![0, 2] bcast_S32x14336_S32x1x14336_0_2 (truncf .bf16 (sitofp .f32 (extui 32 Z natLt_8_32)) bitsLt_bf16_f32)))) (broadcastInDim S32x128x14336 ![0, 1, 2] bcast_S32x1x14336_S32x128x14336_0_1_2 (broadcastInDim S32x1x14336 ![0, 2] bcast_S32x14336_S32x1x14336_0_2 (truncf .bf16 A bitsLt_bf16_f32)))) shapeCasts_S32x128x14336_S4096x14336

open Cert.KernelIdeal.Build (nibble nibble_lt overlay)
open Cert.KernelIdeal.Own.K0 (half group)

/-- A code is the byte's half at its row. -/
theorem codes_at (P : IVec S2048x14336 8) (y : S4096x14336.Idx) : (codes P y).toInt = (nibble (P (ix2 (half (y 0)) (y 1))) (y 0).val : ℤ) := by
  have h : ∀ (p : Fin 256) (b : Fin 2), (if b.val < 1 then IntOp.andi (BitVec.setWidth 32 (BitVec.ofFin p : BitVec 8)) 15#32
      else IntOp.shrsi ArithUnit.host (BitVec.setWidth 32 (BitVec.ofFin p : BitVec 8)) 4#32).toInt
      = ((if b.val = 0 then p.val % 16 else p.val / 16 : ℕ) : ℤ) := by decide +kernel
  refine Eq.trans ?_ (h (P (ix2 (half (y 0)) (y 1))).toFin ⟨(y 0).val % 2, Nat.mod_lt _ (by decide)⟩)
  unfold codes
  pointwise
  rfl

/-- A weight before the sparse values: the code less its group's zero, times its group's scale. -/
theorem dense_at (P : IVec S2048x14336 8) (A : FVec Ideal S32x14336 .f32) (Z : IVec S32x14336 8) (y : S4096x14336.Idx) :
    dense P A Z y = (((nibble (P (ix2 (half (y 0)) (y 1))) (y 0).val : ℝ) - ((Z (ix2 (group (y 0)) (y 1))).toNat : ℝ) : ℝ) : EReal) * A (ix2 (group (y 0)) (y 1)) := by
  unfold dense
  pointwise
  have h1 : (FloatOps.sitofp (F := Ideal) FTy.f32 (codes P y) : EReal) = ((nibble (P (ix2 (half (y 0)) (y 1))) (y 0).val : ℝ) : EReal) := by
    show (((codes P y).toInt : ℝ) : EReal) = _
    rw [codes_at]
    push_cast; rfl
  have h2 : ∀ z : BitVec 8, (FloatOps.sitofp (F := Ideal) FTy.f32 (BitVec.setWidth 32 z) : EReal) = ((z.toNat : ℝ) : EReal) := by
    intro z
    show (((BitVec.setWidth 32 z).toInt : ℝ) : EReal) = _
    rw [toInt_eq_toNat_of_lt_half (by rw [BitVec.toNat_setWidth]; have := z.isLt; omega), BitVec.toNat_setWidth,
      Nat.mod_eq_of_lt (by have := z.isLt; omega)]
    push_cast; rfl
  rw [h1, h2, EReal.coe_sub]
  rfl

end Cert.ReferenceIdeal.Own

end
-- ==== Proof.ReferenceIdeal.Sparse.lean ====
/-
  The reference's sparse matrix, element by element: an element holds the value of the last row whose index names it, and zero
  where no index does.
-/
module

public import proofs.«01_k».proof.Proof.ReferenceIdeal.Dense
public import Idealize.ShloMosaic.Lib.Routing.OpsPair

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.WordCmp Idealize.SL.Sem
open Cert.KernelIdeal.Build (iterate iterate_succ overlay overlay_zero overlay_succ)

/-! ## A fold over positions in order -/

/-- A left fold over all positions is the same steps counted off one by one. -/
theorem foldl_finRange {α : Type} {n : ℕ} (f : Fin n → α → α) (z : α) :
    (List.finRange n).foldl (fun a k => f k a) z = iterate f z n := by
  have h : ∀ m, m ≤ n → ((List.finRange n).take m).foldl (fun a k => f k a) z = iterate f z m := by
    intro m
    induction m with
    | zero => intro _; rfl
    | succ m ih =>
      intro hm
      have hl : m < (List.finRange n).length := by rw [List.length_finRange]; exact hm
      rw [← List.take_concat_get' _ _ hl, List.foldl_append, ih (by omega)]
      rw [show m + 1 = (⟨m, hm⟩ : Fin n).val + 1 from rfl, iterate_succ]
      simp
  rw [← h n le_rfl, List.take_of_length_le (by rw [List.length_finRange])]

/-- Steps that change nothing may be passed over. -/
theorem iterate_skip {α : Type} {n : ℕ} (f : Fin n → α → α) (z : α) (a b : ℕ) (hab : a ≤ b) (hb : b ≤ n)
    (h : ∀ k : Fin n, a ≤ k.val → k.val < b → ∀ v, f k v = v) : iterate f z b = iterate f z a := by
  induction b, hab using Nat.le_induction with
  | base => rfl
  | succ b hab ih =>
    rw [show b + 1 = (⟨b, by omega⟩ : Fin n).val + 1 from rfl, iterate_succ, h _ hab (Nat.lt_succ_self b)]
    exact ih (by omega) fun k h1 h2 => h k h1 (by omega)

/-- Positions of a table taken row by row, where only those of column `l` count: the same steps taken down that column. -/
theorem iterate_column {α : Type} {A B : ℕ} {N : ℕ} (hN : N = A * B) (l : ℕ) (hl : l < B) (f : Fin N → α → α) (g : Fin A → α → α) (z : α)
    (hf : ∀ k : Fin N, k.val % B ≠ l → ∀ v, f k v = v)
    (hg : ∀ (j : Fin A) (k : Fin N), k.val = j.val * B + l → ∀ v, f k v = g j v) : iterate f z N = iterate g z A := by
  have hB : 0 < B := by omega
  have h : ∀ j, j ≤ A → iterate f z (j * B) = iterate g z j := by
    intro j
    induction j with
    | zero => intro _; rw [Nat.zero_mul]; rfl
    | succ j ih =>
      intro hj
      have hjB : (j + 1) * B ≤ N := by rw [hN]; exact Nat.mul_le_mul_right B hj
      have hexp : (j + 1) * B = j * B + B := Nat.succ_mul j B
      have hk : j * B + l < N := by omega
      have hmod : ∀ r, r < B → (j * B + r) % B = r := fun r hr => by
        rw [Nat.add_comm, Nat.add_mul_mod_self_right, Nat.mod_eq_of_lt hr]
      rw [iterate_skip f z (j * B + l + 1) ((j + 1) * B) (by omega) hjB fun k h1 h2 => hf k (by
        have hm := hmod (k.val - j * B) (by omega)
        rw [show j * B + (k.val - j * B) = k.val by omega] at hm
        omega)]
      rw [show j * B + l + 1 = (⟨j * B + l, hk⟩ : Fin N).val + 1 from rfl, iterate_succ, hg ⟨j, hj⟩ _ rfl]
      rw [iterate_skip f z (j * B) (j * B + l) (by omega) (by omega) fun k h1 h2 => hf k (by
        have hm := hmod (k.val - j * B) (by omega)
        rw [show j * B + (k.val - j * B) = k.val by omega] at hm
        omega)]
      rw [ih (by omega), show j + 1 = (⟨j, hj⟩ : Fin A).val + 1 from rfl, iterate_succ]
  subst hN
  exact h A le_rfl

/-! ## The index pairs -/

/-- The scatter's index pairs: an entry's row index, and its own column. -/
def pairs (R : IVec S128x14336 32) : IVec S128x14336x2 32 :=
  concatenate S128x14336x2 2 [⟨S128x14336x1, (broadcastInDim S128x14336x1 ![0, 1] bcast_S128x14336_S128x14336x1_0_1 (select (cmpi .slt R (broadcastInDim S128x14336 ![] bcast_S_S128x14336 (constantI S_ 32 0#32))) (addi R (broadcastInDim S128x14336 ![] bcast_S_S128x14336 (constantI S_ 32 4096#32))) R))⟩, ⟨S128x14336x1, (broadcastInDim S128x14336x1 ![0, 1] bcast_S128x14336_S128x14336x1_0_1 (broadcastInDim S128x14336 ![0, 1] bcast_S1x14336_S128x14336_0_1 (select (cmpi .slt (broadcastInDim S1x14336 ![1] bcast_S14336_S1x14336_1 (iotaInDim S14336 32 0)) (broadcastInDim S1x14336 ![] bcast_S_S1x14336 (constantI S_ 32 0#32))) (addi (broadcastInDim S1x14336 ![1] bcast_S14336_S1x14336_1 (iotaInDim S14336 32 0)) (broadcastInDim S1x14336 ![] bcast_S_S1x14336 (constantI S_ 32 14336#32))) (broadcastInDim S1x14336 ![1] bcast_S14336_S1x14336_1 (iotaInDim S14336 32 0)))))⟩] concatenates_S128x14336x1_S128x14336x1_S128x14336x2_d2

/-- The sparse matrix. -/
def sparse (R : IVec S128x14336 32) (S : FVec Ideal S128x14336 .bf16) : FVec Ideal S4096x14336 .bf16 :=
  Host.scatter scatter_S4096x14336_S128x14336x2_S128x14336_n_01_01_2 (fun _ b => b) (broadcastInDim S4096x14336 ![] bcast_S_S4096x14336 (constant S_ .bf16 0x0000#16)) (pairs R) S

/-- A row index that is not negative stands as given. -/
theorem pairs_row (R : IVec S128x14336 32) (hR : ∀ i, 0 ≤ (R i).toInt) (j : Fin 128) (l : Fin 14336) : pairs R (ix3 j l 0) = R (ix2 j l) := by
  unfold pairs
  pointwise
  refine Routing.wrap_of_lt _ _ ?_
  have h := hR (ix2 j l)
  rw [BitVec.toInt_eq_toNat_cond] at h
  have := (R (ix2 j l)).isLt
  split at h <;> omega

/-- The column beside it is the entry's own. -/
theorem pairs_column (R : IVec S128x14336 32) (j : Fin 128) (l : Fin 14336) : pairs R (ix3 j l 1) = BitVec.ofNat 32 l.val := by
  unfold pairs
  pointwise
  refine Routing.wrap_of_lt _ _ ?_
  rw [BitVec.toNat_ofNat, Nat.mod_eq_of_lt (by have := l.isLt; omega)]
  have := l.isLt
  omega

/-- An element of the sparse matrix is the value of the last row whose index is the element's row. -/
theorem sparse_at (R : IVec S128x14336 32) (S : FVec Ideal S128x14336 .bf16) (hR : ∀ i, 0 ≤ (R i).toInt) (q : Fin 4096) (l : Fin 14336) :
    sparse R S (ix2 q l) = overlay (fun j => R (ix2 j l)) (BitVec.ofNat 32 q.val) (fun j => S (ix2 j l)) 128 := by
  unfold sparse
  rw [Routing.scatter_at, foldl_finRange (fun n a => if scatter_S4096x14336_S128x14336x2_S128x14336_n_01_01_2.resultIdx? (S128x14336.rowMajor.symm n) (pairs R) = some (ix2 q l) then S (S128x14336.rowMajor.symm n) else a)]
  have hcol : (BitVec.ofNat 32 l.val).toInt = (l.val : ℤ) := toInt_ofNat_of_lt (by have := l.isLt; omega)
  have lands : ∀ (a : Fin 128) (b : Fin 14336), scatter_S4096x14336_S128x14336x2_S128x14336_n_01_01_2.resultIdx? (ix2 a b) (pairs R) = some (ix2 q l)
      ↔ R (ix2 a b) = BitVec.ofNat 32 q.val ∧ b = l := by
    intro a b
    have hb : (BitVec.ofNat 32 b.val).toInt = (b.val : ℤ) := toInt_ofNat_of_lt (by have := b.isLt; omega)
    have hq : (BitVec.ofNat 32 q.val).toInt = (q.val : ℤ) := toInt_ofNat_of_lt (by have := q.isLt; omega)
    refine (Routing.scatter_lands2 (R := 4096) (C := 14336) (A := 128) (B := 14336) scatter_S4096x14336_S128x14336x2_S128x14336_n_01_01_2 rfl rfl rfl (pairs R) a b q l).trans ?_
    show (pairs R (ix3 a b 0)).toInt = (q.val : ℤ) ∧ (pairs R (ix3 a b 1)).toInt = (l.val : ℤ) ↔ _
    rw [pairs_row R hR, pairs_column, hb, ← hq, BitVec.toInt_inj]
    exact and_congr Iff.rfl ⟨fun h => Fin.ext (by exact_mod_cast h), fun h => by rw [h]⟩
  have hz : (broadcastInDim S4096x14336 ![] bcast_S_S4096x14336 (constant S_ .bf16 0x0000#16) : FVec Ideal S4096x14336 .bf16) (ix2 q l) = (0 : EReal) := by
    pointwise
  rw [hz]
  have hnum : S128x14336.numel = 128 * 14336 := by decide
  have hsymm : ∀ k : Fin S128x14336.numel, ∃ (ha : k.val / 14336 < 128) (hb : k.val % 14336 < 14336),
      S128x14336.rowMajor.symm k = ix2 (⟨k.val / 14336, ha⟩ : Fin 128) (⟨k.val % 14336, hb⟩ : Fin 14336) := fun k =>
    ⟨by have h : k.val < 128 * 14336 := lt_of_lt_of_eq k.isLt hnum; omega, by omega, Routing.symm22 k _ _⟩
  refine iterate_column hnum l.val l.isLt _ (fun j acc => if R (ix2 j l) = BitVec.ofNat 32 q.val then S (ix2 j l) else acc) 0 ?_ ?_
  · intro k hk v
    obtain ⟨ha, hb, e⟩ := hsymm k
    show (if _ then _ else _) = _
    rw [e, if_neg fun h => hk (congrArg Fin.val ((lands _ _).1 h).2)]
  · intro j k hk v
    obtain ⟨ha, hb, e⟩ := hsymm k
    have e1 : (⟨k.val / 14336, ha⟩ : Fin 128) = j := Fin.ext (by show k.val / 14336 = j.val; have := l.isLt; omega)
    have e2 : (⟨k.val % 14336, hb⟩ : Fin 14336) = l := Fin.ext (by show k.val % 14336 = l.val; have := l.isLt; omega)
    show (if _ then _ else _) = (if _ then _ else _)
    rw [e, e1, e2]
    by_cases h : R (ix2 j l) = BitVec.ofNat 32 q.val
    · rw [if_pos h, if_pos ((lands _ _).2 ⟨h, rfl⟩)]
    · rw [if_neg h, if_neg fun h' => h ((lands _ _).1 h').1]

end Cert.ReferenceIdeal.Own

end
-- ==== Proof.ReferenceIdeal.Result.lean ====
/-
  The reference's result over the reals, element by element.
-/
module

public import proofs.«01_k».proof.Proof.ReferenceIdeal.Sparse

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

/-- The reference's result, from its arguments. -/
def result (x : FVec Ideal S8x2048x4096 .bf16) (P : IVec S2048x14336 8) (A : FVec Ideal S32x14336 .f32) (Z : IVec S32x14336 8)
    (R : IVec S128x14336 32) (S : FVec Ideal S128x14336 .bf16) (la : FVec Ideal S4096x64 .bf16) (lb : FVec Ideal S64x14336 .bf16) :
    FVec Ideal S8x2048x14336 .bf16 :=
  truncf .bf16 (addf (addf (Host.dotGeneral dot_S8x2048x4096_S4096x14336_S8x2048x14336_2_0_01_1_n_n none x (dense P A Z)) (Host.dotGeneral dot_S8x2048x4096_S4096x14336_S8x2048x14336_2_0_01_1_n_n none x (sparse R S))) (mulf (broadcastInDim S8x2048x14336 ![] bcast_S_S8x2048x14336 (constant S_ .f32 0x3E800000#32)) (Host.dotGeneral dot_S8x2048x64_S64x14336_S8x2048x14336_2_0_01_1_n_n none (truncf .bf16 (Host.dotGeneral dot_S8x2048x4096_S4096x64_S8x2048x64_2_0_01_1_n_n none x la) bitsLt_bf16_f32) lb))) bitsLt_bf16_f32

/-- The result at an index. -/
theorem result_at (x : FVec Ideal S8x2048x4096 .bf16) (P : IVec S2048x14336 8) (A : FVec Ideal S32x14336 .f32) (Z : IVec S32x14336 8)
    (R : IVec S128x14336 32) (S : FVec Ideal S128x14336 .bf16) (la : FVec Ideal S4096x64 .bf16) (lb : FVec Ideal S64x14336 .bf16) (y : S8x2048x14336.Idx) :
    result x P A Z R S la lb y
      = ((∑ k : Fin 4096, x (ix3 (y 0) (y 1) k) * dense P A Z (ix2 k (y 2))) + (∑ k : Fin 4096, x (ix3 (y 0) (y 1) k) * sparse R S (ix2 k (y 2))))
      + Ideal.ofBits .f32 0x3E800000#32 * ∑ r : Fin 64, (∑ k : Fin 4096, x (ix3 (y 0) (y 1) k) * la (ix2 k r)) * lb (ix2 r (y 2)) := by
  unfold result
  pointwise

end Cert.ReferenceIdeal.Own

end
-- ==== Proof.Join.lean ====
/-
  The two results are one: where the activations and the scales are finite and no row index is negative, the product distributes
  over the weights' two parts.
-/
module

public import proofs.«01_k».proof.Proof.KernelIdeal.Value
public import proofs.«01_k».proof.Proof.ReferenceIdeal.Result

@[expose] public section

set_option maxRecDepth 16384

noncomputable section

namespace Cert.Join

open Idealize.ShloMosaic Idealize.ShloMosaic.TcCoe Idealize.SL.Sem
open Cert.ReferenceIdeal (S8x2048x4096 S2048x14336 S32x14336 S128x14336 S4096x64 S64x14336 S8x2048x14336)

/-- A finite factor distributes over a sum whose first term is finite. -/
theorem distrib (x r : ℝ) (s : EReal) : (x : EReal) * ((r : EReal) + s) = x * r + x * s := by
  induction s with
  | coe s => norm_cast; ring
  | top =>
    rw [EReal.coe_add_top, ← EReal.coe_mul]
    rcases lt_trichotomy x 0 with h | h | h
    · rw [EReal.coe_mul_top_of_neg h, EReal.add_bot]
    · subst h; simp
    · rw [EReal.coe_mul_top_of_pos h, EReal.coe_add_top]
  | bot =>
    rw [EReal.add_bot, ← EReal.coe_mul]
    rcases lt_trichotomy x 0 with h | h | h
    · rw [EReal.coe_mul_bot_of_neg h, EReal.coe_add_top]
    · subst h; simp
    · rw [EReal.coe_mul_bot_of_pos h, EReal.add_bot]

/-- The two programs' results agree. -/
theorem results (x : FVec Ideal S8x2048x4096 .bf16) (P : IVec S2048x14336 8) (A : FVec Ideal S32x14336 .f32) (Z : IVec S32x14336 8)
    (R : IVec S128x14336 32) (S : FVec Ideal S128x14336 .bf16) (la : FVec Ideal S4096x64 .bf16) (lb : FVec Ideal S64x14336 .bf16)
    (hx : ∀ i, ∃ r : ℝ, x i = (r : EReal)) (hA : ∀ i, ∃ r : ℝ, A i = (r : EReal)) (hR : ∀ i, 0 ≤ (R i).toInt) :
    Cert.ReferenceIdeal.Own.result x P A Z R S la lb = Cert.KernelIdeal.Own.result x P A Z R S la lb := by
  funext y
  rw [Cert.ReferenceIdeal.Own.result_at]
  refine Eq.trans ?_ (Cert.KernelIdeal.Own.result_at x P A Z R S la lb y).symm
  refine congrArg (· + _) ?_
  rw [← Finset.sum_add_distrib]
  refine Finset.sum_congr rfl fun k _ => ?_
  obtain ⟨u, hu⟩ := hx (ix3 (y 0) (y 1) k)
  obtain ⟨a, ha⟩ := hA (ix2 (Cert.KernelIdeal.Own.K0.group k) (y 2))
  have hw : Cert.KernelIdeal.Own.K0.weights P A Z R S (ix2 k (y 2))
      = Cert.ReferenceIdeal.Own.dense P A Z (ix2 k (y 2)) + Cert.ReferenceIdeal.Own.sparse R S (ix2 k (y 2)) := by
    rw [Cert.ReferenceIdeal.Own.dense_at, Cert.ReferenceIdeal.Own.sparse_at R S hR k (y 2)]
    rfl
  have hd : ∃ d : ℝ, Cert.ReferenceIdeal.Own.dense P A Z (ix2 k (y 2)) = (d : EReal) := by
    rw [Cert.ReferenceIdeal.Own.dense_at]
    exact ⟨_, (congrArg (_ * ·) ha).trans (EReal.coe_mul _ _).symm⟩
  obtain ⟨d, hd⟩ := hd
  rw [hw, hd, hu]
  exact (distrib u d _).symm

end Cert.Join

end
-- ==== Proof.lean ====
/-
  The claims: the frames of the program, of its reading over the reals and of the reference; that the reading is the program's own text;
  and that over the reals the program and the reference agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tame
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Kernel.Program
public import proofs.«01_k».proof.Proof.KernelIdeal.Program
public import proofs.«01_k».proof.Proof.Tame
public import proofs.«01_k».proof.Proof.Join
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1,
    (h.1 c).2.2.2.2.2.1, (h.1 c).2.2.2.2.2.2.1, (h.1 c).2.2.2.2.2.2.2.1⟩, h.2⟩) (Cert.Kernel.Own.run (F := Bits) m ρ)

theorem frame_pi : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1,
    (h.1 c).2.2.2.2.2.1, (h.1 c).2.2.2.2.2.2.1, (h.1 c).2.2.2.2.2.2.2.1⟩, h.2⟩) (Cert.KernelIdeal.Own.run (F := Ideal) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the program and the reference end with one result, where the activations and the scales are finite and no row index is negative. -/
theorem algebraic : Cert.algebraic_KernelIdeal_ReferenceIdeal_pre_tame := fun m ρ m' ρ' hpre hargs => by
  refine ⟨fun c => Cert.KernelIdeal.Own.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)),
    (θ_run Cert.KernelIdeal.defs _ _).mono (fun r h c => ?_) (Cert.KernelIdeal.Own.run (F := Ideal) m ρ),
    (θ_run Cert.ReferenceIdeal.defs _ _).mono (fun r h c => ⟨?_, (h c).2⟩) (Cert.ReferenceIdeal.Value.run (F := Ideal) m' ρ')⟩
  · obtain ⟨a0, a1, a2, a3, a4, a5, a6, a7, e⟩ := h.1 c
    exact ⟨e.trans (Cert.KernelIdeal.Own.V5_v5 m c), a0, a1, a2, a3, a4, a5, a6, a7⟩
  · obtain ⟨a0, a1, a2, a3, a4, a5, a6, a7⟩ := hargs c
    obtain ⟨hx, hA, hR⟩ := hpre c
    refine (h c).1.trans ?_
    rw [a0, a1, a2, a3, a4, a5, a6, a7]
    exact Cert.Join.results _ _ _ _ _ _ _ _ (Cert.Tame.x_real _ _ _ _ _ _ _ _ hx) (Cert.Tame.scale_real _ _ _ _ _ _ _ _ hA)
      (Cert.Tame.rows_nonneg _ _ _ _ _ _ _ _ hR)

theorem claim : Cert.Claim :=
  ⟨Cert.Kernel.Gen.facts, Cert.KernelIdeal.Gen.facts, Cert.ReferenceIdeal.Gen.facts, Cert.Pre_tame.Gen.facts, frame_p, frame_pi,
    (fun m g _ => frame_pi m g trivial), frame_ri, (fun m g _ => frame_ri m g trivial), trivial, algebraic⟩

end Cert.Proof

end
